-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)) (v4 : (c : Dev Cert.Kernel5Ideal.nD) → Buf (Elt Ideal) ((c.tc : Thread Cert.Kernel5Ideal.nD Cert.Kernel5Ideal.τ).loc Cert.Kernel5Ideal.main_v14_4)) (v5 : (c : Dev Cert.Kernel5Ideal.nD) → Buf (Elt Ideal) ((c.tc : Thread Cert.Kernel5Ideal.nD Cert.Kernel5Ideal.τ).loc Cert.Kernel5Ideal.main_v14_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_v14_4) = v4 c
          ∧ r.2.mem ((c.tc : Thread Cert.Kernel5Ideal.nD Cert.Kernel5Ideal.τ).loc Cert.Kernel5Ideal.main_v14_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_v33) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x2840 : Shape := ⟨2, ![16384, 2840]⟩
abbrev S32x16 : Shape := ⟨2, ![32, 16]⟩
abbrev S64 : Shape := ⟨1, ![64]⟩
abbrev S128 : Shape := ⟨1, ![128]⟩
abbrev S16384x1536 : Shape := ⟨2, ![16384, 1536]⟩
abbrev S32x4 : Shape := ⟨2, ![32, 4]⟩
abbrev S_ : Shape := ⟨0, ![]⟩

class Facts : Prop where
  slices_S16384x2840_S16384x1536_0_1304 : S16384x2840.Slices ![0, 1304] S16384x1536
  slices_S32x16_S32x4_0_8 : S32x16.Slices ![0, 8] S32x4
  bcast_S_S16384x1536 : S_.BroadcastsInDim S16384x1536 (![] : Fin 0 → Fin S16384x1536.rank)
  bcast_S_S32x4 : S_.BroadcastsInDim S32x4 (![] : Fin 0 → Fin S32x4.rank)
  bcast_S_S64 : S_.BroadcastsInDim S64 (![] : Fin 0 → Fin S64.rank)

variable [Facts]

def fn_part1 {F : FTy → Type} [FloatOps F] (main_v4 : IVec S16384x1536 1) (main_v7 : IVec S32x4 1) (main_v10 : IVec S64 1) (main_v13 : IVec S64 1) (main_v16 : IVec S64 1) (main_v17 : FVec F S64 .f32) (main_cst_4 : FVec F S_ .f32) : IVec S16384x1536 1 × IVec S32x4 1 × IVec S64 1 × IVec S64 1 × IVec S64 1 × IVec S64 1 :=
  let main_v18 : FVec F S64 .f32 := broadcastInDim S64 ![] bcast_S_S64 main_cst_4
  let main_v19 : IVec S64 1 := cmpf .olt main_v17 main_v18
  (main_v4, main_v7, main_v10, main_v13, main_v16, main_v19)

def fn {F : FTy → Type} [FloatOps F] (main_arg0 : FVec F S16384x2840 .f32) (main_arg1 : FVec F S32x16 .f32) (main_arg2 : FVec F S64 .f32) (main_arg3 : FVec F S64 .f32) (main_arg4 : FVec F S64 .f32) (main_arg5 : FVec F S64 .f32) (main_arg6 : FVec F S128 .f32) : IVec S16384x1536 1 × IVec S32x4 1 × IVec S64 1 × IVec S64 1 × IVec S64 1 × IVec S64 1 :=
  let main_v0 : FVec F S16384x1536 .f32 := (extractStridedSlice S16384x1536 ![0, 1304] · slices_S16384x2840_S16384x1536_0_1304) main_arg0
  let main_v1 : FVec F S32x4 .f32 := (extractStridedSlice S32x4 ![0, 8] · slices_S32x16_S32x4_0_8) main_arg1
  let main_v2 : FVec F S16384x1536 .f32 := Host.absf main_v0
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  let main_v5 : FVec F S32x4 .f32 := Host.absf main_v1
  let main_cst_0 : FVec F S_ .f32 := constant S_ .f32 0x7F800000#32
  let main_v6 : FVec F S32x4 .f32 := broadcastInDim S32x4 ![] bcast_S_S32x4 main_cst_0
  let main_v7 : IVec S32x4 1 := cmpf .olt main_v5 main_v6
  let main_v8 : FVec F S64 .f32 := Host.absf main_arg2
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  let main_v11 : FVec F S64 .f32 := Host.absf main_arg3
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : FVec F S64 .f32 := Host.absf main_arg4
  let main_cst_3 : FVec F S_ .f32 := constant S_ .f32 0x7F800000#32
  let main_v15 : FVec F S64 .f32 := broadcastInDim S64 ![] bcast_S_S64 main_cst_3
  let main_v16 : IVec S64 1 := cmpf .olt main_v14 main_v15
  let main_v17 : FVec F S64 .f32 := Host.absf main_arg5
  let main_cst_4 : FVec F S_ .f32 := constant S_ .f32 0x7F800000#32
  fn_part1 (F := F) main_v4 main_v7 main_v10 main_v13 main_v16 main_v17 main_cst_4
-- ==== Kernel.lean ====
abbrev S16384x2840 : Shape := ⟨2, ![16384, 2840]⟩
abbrev S32x16 : Shape := ⟨2, ![32, 16]⟩
abbrev S64 : Shape := ⟨1, ![64]⟩
abbrev S128 : Shape := ⟨1, ![128]⟩
abbrev S16384x512 : Shape := ⟨2, ![16384, 512]⟩
abbrev S16384x1536 : Shape := ⟨2, ![16384, 1536]⟩
abbrev S16384x2560 : Shape := ⟨2, ![16384, 2560]⟩
abbrev S512x768 : Shape := ⟨2, ![512, 768]⟩
abbrev S_ : Shape := ⟨0, ![]⟩
abbrev S16x32 : Shape := ⟨2, ![16, 32]⟩
abbrev S512x768x1 : Shape := ⟨3, ![512, 768, 1]⟩
abbrev S16x512x768 : Shape := ⟨3, ![16, 512, 768]⟩
abbrev S16x1 : Shape := ⟨2, ![16, 1]⟩
abbrev S16 : Shape := ⟨1, ![16]⟩
abbrev S16x1x1 : Shape := ⟨3, ![16, 1, 1]⟩
abbrev S1x512x768 : Shape := ⟨3, ![1, 512, 768]⟩
abbrev S1x64 : Shape := ⟨2, ![1, 64]⟩
abbrev S4x64 : Shape := ⟨2, ![4, 64]⟩
abbrev S1x128 : Shape := ⟨2, ![1, 128]⟩
abbrev S512x128 : Shape := ⟨2, ![512, 128]⟩
abbrev S8192x128 : Shape := ⟨2, ![8192, 128]⟩
abbrev S8704x128 : Shape := ⟨2, ![8704, 128]⟩
abbrev S8704x256 : Shape := ⟨2, ![8704, 256]⟩
abbrev S1024x512 : Shape := ⟨2, ![1024, 512]⟩
abbrev S1024x256 : Shape := ⟨2, ![1024, 256]⟩
abbrev S512x256 : Shape := ⟨2, ![512, 256]⟩
abbrev S256x128 : Shape := ⟨2, ![256, 128]⟩
abbrev S1024x128 : Shape := ⟨2, ![1024, 128]⟩
abbrev S1024x1 : Shape := ⟨2, ![1024, 1]⟩
abbrev S1024 : Shape := ⟨1, ![1024]⟩
abbrev S1x512x256 : Shape := ⟨3, ![1, 512, 256]⟩
abbrev S1x512x512 : Shape := ⟨3, ![1, 512, 512]⟩
abbrev S512x512 : Shape := ⟨2, ![512, 512]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 83
  | .vmem => 17
  | .smem => 0
  | _ => 0

abbrev bufTy : (tb : Table) → Fin (tcTables nBuf tb) → BufTy
  | .hbm, ⟨0, _⟩ => ⟨S16384x2840, .f32⟩
  | .hbm, ⟨1, _⟩ => ⟨S32x16, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S16384x512, .f32⟩
  | .hbm, ⟨8, _⟩ => ⟨S16384x512, .f32⟩
  | .hbm, ⟨9, _⟩ => ⟨S16384x1536, .f32⟩
  | .hbm, ⟨10, _⟩ => ⟨S16384x2560, .f32⟩
  | .hbm, ⟨11, _⟩ => ⟨S16384x2560, .bf16⟩
  | .hbm, ⟨12, _⟩ => ⟨S512x768, .i32⟩
  | .hbm, ⟨13, _⟩ => ⟨S_, .i32⟩
  | .hbm, ⟨14, _⟩ => ⟨S512x768, .i32⟩
  | .hbm, ⟨15, _⟩ => ⟨S512x768, .i32⟩
  | .hbm, ⟨16, _⟩ => ⟨S512x768, .i32⟩
  | .hbm, ⟨17, _⟩ => ⟨S512x768, .i32⟩
  | .hbm, ⟨18, _⟩ => ⟨S16x32, .f32⟩
  | .hbm, ⟨19, _⟩ => ⟨S_, .i32⟩
  | .hbm, ⟨20, _⟩ => ⟨S512x768, .i32⟩
  | .hbm, ⟨21, _⟩ => ⟨S512x768, .i32⟩
  | .hbm, ⟨22, _⟩ => ⟨S_, .i32⟩
  | .hbm, ⟨23, _⟩ => ⟨S512x768, .i32⟩
  | .hbm, ⟨24, _⟩ => ⟨S512x768, .i32⟩
  | .hbm, ⟨25, _⟩ => ⟨S512x768, .f32⟩
  | .hbm, ⟨26, _⟩ => ⟨S_, .f32⟩
  | .hbm, ⟨27, _⟩ => ⟨S512x768, .f32⟩
  | .hbm, ⟨28, _⟩ => ⟨S512x768, .f32⟩
  | .hbm, ⟨29, _⟩ => ⟨S512x768, .f32⟩
  | .hbm, ⟨30, _⟩ => ⟨S_, .f32⟩
  | .hbm, ⟨31, _⟩ => ⟨S512x768, .f32⟩
  | .hbm, ⟨32, _⟩ => ⟨S512x768, .f32⟩
  | .hbm, ⟨33, _⟩ => ⟨S_, .f32⟩
  | .hbm, ⟨34, _⟩ => ⟨S512x768, .f32⟩
  | .hbm, ⟨35, _⟩ => ⟨S512x768, .f32⟩
  | .hbm, ⟨36, _⟩ => ⟨S512x768, .i32⟩
  | .hbm, ⟨37, _⟩ => ⟨S_, .i32⟩
  | .hbm, ⟨38, _⟩ => ⟨S512x768, .i32⟩
  | .hbm, ⟨39, _⟩ => ⟨S512x768, .i32⟩
  | .hbm, ⟨40, _⟩ => ⟨S_, .i32⟩
  | .hbm, ⟨41, _⟩ => ⟨S512x768, .i32⟩
  | .hbm, ⟨42, _⟩ => ⟨S512x768, .i32⟩
  | .hbm, ⟨43, _⟩ => ⟨S_, .i32⟩
  | .hbm, ⟨44, _⟩ => ⟨S512x768, .i32⟩
  | .hbm, ⟨45, _⟩ => ⟨S512x768, .i1⟩
  | .hbm, ⟨46, _⟩ => ⟨S512x768, .i32⟩
  | .hbm, ⟨47, _⟩ => ⟨S_, .i32⟩
  | .hbm, ⟨48, _⟩ => ⟨S512x768, .i32⟩
  | .hbm, ⟨49, _⟩ => ⟨S512x768, .i1⟩
  | .hbm, ⟨50, _⟩ => ⟨S_, .i32⟩
  | .hbm, ⟨51, _⟩ => ⟨S512x768, .i32⟩
  | .hbm, ⟨52, _⟩ => ⟨S512x768, .i32⟩
  | .hbm, ⟨53, _⟩ => ⟨S512x768, .i32⟩
  | .hbm, ⟨54, _⟩ => ⟨S512x768x1, .i32⟩
  | .hbm, ⟨55, _⟩ => ⟨S16x512x768, .f32⟩
  | .hbm, ⟨56, _⟩ => ⟨S16x1, .f32⟩
  | .hbm, ⟨57, _⟩ => ⟨S16, .f32⟩
  | .hbm, ⟨58, _⟩ => ⟨S16x1x1, .f32⟩
  | .hbm, ⟨59, _⟩ => ⟨S16x512x768, .f32⟩
  | .hbm, ⟨60, _⟩ => ⟨S16x512x768, .f32⟩
  | .hbm, ⟨61, _⟩ => ⟨S_, .i32⟩
  | .hbm, ⟨62, _⟩ => ⟨S512x768, .i32⟩
  | .hbm, ⟨63, _⟩ => ⟨S512x768, .i1⟩
  | .hbm, ⟨64, _⟩ => ⟨S1x512x768, .i1⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S16x512x768, .f32⟩
  | .hbm, ⟨70, _⟩ => ⟨S16x512x768, .f32⟩
  | .hbm, ⟨71, _⟩ => ⟨S_, .f32⟩
  | .hbm, ⟨72, _⟩ => ⟨S_, .f32⟩
  | .hbm, ⟨73, _⟩ => ⟨S16x512x768, .i1⟩
  | .hbm, ⟨74, _⟩ => ⟨S16x512x768, .f32⟩
  | .hbm, ⟨75, _⟩ => ⟨S16x512x768, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S4x64, .f32⟩
  | .hbm, ⟨81, _⟩ => ⟨S1x128, .f32⟩
  | .hbm, ⟨82, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S4x64, .f32⟩
  | .local _ .vmem, ⟨7, _⟩ => ⟨S1x128, .f32⟩
  | .local _ .vmem, ⟨8, _⟩ => ⟨S1x512x768, .f32⟩
  | .local _ .vmem, ⟨9, _⟩ => ⟨S1x512x768, .f32⟩
  | .local _ .vmem, ⟨10, _⟩ => ⟨S512x128, .bf16⟩
  | .local _ .vmem, ⟨11, _⟩ => ⟨S512x128, .bf16⟩
  | .local _ .vmem, ⟨12, _⟩ => ⟨S8704x128, .bf16⟩
  | .local _ .vmem, ⟨13, _⟩ => ⟨S8704x256, .bf16⟩
  | .local _ .vmem, ⟨14, _⟩ => ⟨S1024x512, .f32⟩
  | .local _ .vmem, ⟨15, _⟩ => ⟨S1024x512, .bf16⟩
  | .local _ .vmem, ⟨16, _⟩ => ⟨S1024x256, .f32⟩
  | _, _ => ⟨S16384x2840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 4, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_119 : BitVec 32 := 0#32
  let c32_i32 : BitVec 32 := 32#32
  let v269 : BitVec 32 := Scalar.addi c0_i32_119 c32_i32
  let c1_i32_120 : BitVec 32 := 1#32
  ⟨c0_i32_119, v269, c1_i32_120⟩
def k0_mult1 (k0_t1 : Fin k0_t1_loop.trips) : BitVec 32 :=
  let c0_i32_119 : BitVec 32 := 0#32
  let c1_i32_120 : BitVec 32 := 1#32
  let arg15 : BitVec 32 := Scf.iv c0_i32_119 c1_i32_120 k0_t1
  let c256_i32 : BitVec 32 := 256#32
  let v270 : BitVec 32 := Scalar.muli arg15 c256_i32
  v270
def k0_off1 (k0_t1 : Fin k0_t1_loop.trips) : Fin 2 → Nat :=
  let c0_i32_119 : BitVec 32 := 0#32
  let c1_i32_120 : BitVec 32 := 1#32
  let arg15 : BitVec 32 := Scf.iv c0_i32_119 c1_i32_120 k0_t1
  let c256_i32 : BitVec 32 := 256#32
  let v270 : BitVec 32 := Scalar.muli arg15 c256_i32
  let v271 : BitVec 32 := v270
  let v272 : Index := Scalar.indexCast v271
  let c0_122 : Index := 0#32
  ![v272.toNat, 0]
def k0_off2 (k0_t1 : Fin k0_t1_loop.trips) : Fin 2 → Nat :=
  let c512_i32_123 : BitVec 32 := 512#32
  let c0_i32_119 : BitVec 32 := 0#32
  let c1_i32_120 : BitVec 32 := 1#32
  let arg15 : BitVec 32 := Scf.iv c0_i32_119 c1_i32_120 k0_t1
  let c256_i32 : BitVec 32 := 256#32
  let v270 : BitVec 32 := Scalar.muli arg15 c256_i32
  let v271 : BitVec 32 := v270
  let v275 : BitVec 32 := Scalar.addi c512_i32_123 v271
  let v276 : Index := Scalar.indexCast v275
  let c0_124 : Index := 0#32
  ![v276.toNat, 0]
def k0_off3 (k0_t1 : Fin k0_t1_loop.trips) : Fin 2 → Nat :=
  let c512_i32_126 : BitVec 32 := 512#32
  let c0_i32_119 : BitVec 32 := 0#32
  let c1_i32_120 : BitVec 32 := 1#32
  let arg15 : BitVec 32 := Scf.iv c0_i32_119 c1_i32_120 k0_t1
  let c256_i32 : BitVec 32 := 256#32
  let v270 : BitVec 32 := Scalar.muli arg15 c256_i32
  let v271 : BitVec 32 := v270
  let v283 : BitVec 32 := Scalar.addi c512_i32_126 v271
  let v284 : Index := Scalar.indexCast v283
  let c0_127 : Index := 0#32
  ![v284.toNat, 0]
def k0_off4 (k0_t1 : Fin k0_t1_loop.trips) : Fin 2 → Nat :=
  let c512_i32_128 : BitVec 32 := 512#32
  let c0_i32_119 : BitVec 32 := 0#32
  let c1_i32_120 : BitVec 32 := 1#32
  let arg15 : BitVec 32 := Scf.iv c0_i32_119 c1_i32_120 k0_t1
  let c256_i32 : BitVec 32 := 256#32
  let v270 : BitVec 32 := Scalar.muli arg15 c256_i32
  let v271 : BitVec 32 := v270
  let v288 : BitVec 32 := Scalar.addi c512_i32_128 v271
  let v289 : Index := Scalar.indexCast v288
  let c128 : Index := 128#32
  ![v289.toNat, 128]
def k0_mult2 (i : grid0.Coords) : BitVec 32 :=
  let arg2 : BitVec 32 := BitVec.ofNat 32 (i 2).val
  let c512_i32 : BitVec 32 := 512#32
  let v22 : BitVec 32 := Scalar.muli arg2 c512_i32
  v22
def k0_mult3 (i : grid0.Coords) : BitVec 32 :=
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_16 : BitVec 32 := 0#32
  let v44 : BitVec 1 := Scalar.cmpi .sgt v43 c0_i32_16
  let c512_i32_17 : BitVec 32 := 512#32
  let c512_i32 : BitVec 32 := 512#32
  let v22 : BitVec 32 := Scalar.muli arg2 c512_i32
  let v23 : BitVec 32 := v22
  let v45 : BitVec 32 := Scalar.select v44 c512_i32_17 v23
  v45
def k0_off5 (i : grid0.Coords) : Fin 2 → Nat :=
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_16 : BitVec 32 := 0#32
  let v44 : BitVec 1 := Scalar.cmpi .sgt v43 c0_i32_16
  let c512_i32_17 : BitVec 32 := 512#32
  let c512_i32 : BitVec 32 := 512#32
  let v22 : BitVec 32 := Scalar.muli arg2 c512_i32
  let v23 : BitVec 32 := v22
  let v45 : BitVec 32 := Scalar.select v44 c512_i32_17 v23
  let v46 : BitVec 32 := v45
  let v47 : Index := Scalar.indexCast v46
  let c0_18 : Index := 0#32
  ![v47.toNat, 0]
@[reducible] def k0_t2_loop (i : grid0.Coords) : Scf.Loop 32 :=
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_40 : BitVec 32 := 1#32
  ⟨c0_i32_38, v89, c1_i32_40⟩
def k0_mult4 (i : grid0.Coords) (k0_t2 : Fin (k0_t2_loop i).trips) : BitVec 32 :=
  let c512_i32_111 : BitVec 32 := 512#32
  let c0_i32_38 : BitVec 32 := 0#32
  let c1_i32_40 : BitVec 32 := 1#32
  let arg15 : BitVec 32 := Scf.iv c0_i32_38 c1_i32_40 k0_t2
  let c2048_i32_110 : BitVec 32 := 2048#32
  let v254 : BitVec 32 := Scalar.muli arg15 c2048_i32_110
  let v255 : BitVec 32 := Scalar.addi c512_i32_111 v254
  v255
def k0_off6 (i : grid0.Coords) (k0_t2 : Fin (k0_t2_loop i).trips) : Fin 2 → Nat :=
  let c512_i32_111 : BitVec 32 := 512#32
  let c0_i32_38 : BitVec 32 := 0#32
  let c1_i32_40 : BitVec 32 := 1#32
  let arg15 : BitVec 32 := Scf.iv c0_i32_38 c1_i32_40 k0_t2
  let c2048_i32_110 : BitVec 32 := 2048#32
  let v254 : BitVec 32 := Scalar.muli arg15 c2048_i32_110
  let v255 : BitVec 32 := Scalar.addi c512_i32_111 v254
  let v256 : BitVec 32 := v255
  let c512_i32_116 : BitVec 32 := 512#32
  let v259 : BitVec 32 := Scalar.subi v256 c512_i32_116
  let v260 : Index := Scalar.indexCast v259
  let c0_117 : Index := 0#32
  ![v260.toNat, 0]
def k0_mult5 (i : grid0.Coords) (k0_t2 : Fin (k0_t2_loop i).trips) : BitVec 32 :=
  let c512_i32_111 : BitVec 32 := 512#32
  let c0_i32_38 : BitVec 32 := 0#32
  let c1_i32_40 : BitVec 32 := 1#32
  let arg15 : BitVec 32 := Scf.iv c0_i32_38 c1_i32_40 k0_t2
  let c2048_i32_110 : BitVec 32 := 2048#32
  let v254 : BitVec 32 := Scalar.muli arg15 c2048_i32_110
  let v255 : BitVec 32 := Scalar.addi c512_i32_111 v254
  let v256 : BitVec 32 := v255
  let c512_i32_122 : BitVec 32 := 512#32
  let v274 : BitVec 32 := Scalar.addi v256 c512_i32_122
  v274
def k0_off7 (i : grid0.Coords) (k0_t2 : Fin (k0_t2_loop i).trips) (c512_i32_122 : BitVec 32) : Fin 2 → Nat :=
  let c512_i32_111 : BitVec 32 := 512#32
  let c0_i32_38 : BitVec 32 := 0#32
  let c1_i32_40 : BitVec 32 := 1#32
  let arg15 : BitVec 32 := Scf.iv c0_i32_38 c1_i32_40 k0_t2
  let c2048_i32_110 : BitVec 32 := 2048#32
  let v254 : BitVec 32 := Scalar.muli arg15 c2048_i32_110
  let v255 : BitVec 32 := Scalar.addi c512_i32_111 v254
  let v256 : BitVec 32 := v255
  let v274 : BitVec 32 := Scalar.addi v256 c512_i32_122
  let v275 : BitVec 32 := v274
  let v276 : Index := Scalar.indexCast v275
  let c0_123 : Index := 0#32
  ![v276.toNat, 0]
def k0_off8 (i : grid0.Coords) (k0_t2 : Fin (k0_t2_loop i).trips) (c0_i32_125 : BitVec 32) : Fin 2 → Nat :=
  let c512_i32_111 : BitVec 32 := 512#32
  let c0_i32_38 : BitVec 32 := 0#32
  let c1_i32_40 : BitVec 32 := 1#32
  let arg15 : BitVec 32 := Scf.iv c0_i32_38 c1_i32_40 k0_t2
  let c2048_i32_110 : BitVec 32 := 2048#32
  let v254 : BitVec 32 := Scalar.muli arg15 c2048_i32_110
  let v255 : BitVec 32 := Scalar.addi c512_i32_111 v254
  let v256 : BitVec 32 := v255
  let v281 : BitVec 32 := Scalar.addi v256 c0_i32_125
  let v282 : Index := Scalar.indexCast v281
  let c0_126 : Index := 0#32
  ![v282.toNat, 0]
def k0_mult6 (i : grid0.Coords) (k0_t2 : Fin (k0_t2_loop i).trips) : BitVec 32 :=
  let c512_i32_111 : BitVec 32 := 512#32
  let c0_i32_38 : BitVec 32 := 0#32
  let c1_i32_40 : BitVec 32 := 1#32
  let arg15 : BitVec 32 := Scf.iv c0_i32_38 c1_i32_40 k0_t2
  let c2048_i32_110 : BitVec 32 := 2048#32
  let v254 : BitVec 32 := Scalar.muli arg15 c2048_i32_110
  let v255 : BitVec 32 := Scalar.addi c512_i32_111 v254
  let v256 : BitVec 32 := v255
  let c1024_i32_129 : BitVec 32 := 1024#32
  let v295 : BitVec 32 := Scalar.addi v256 c1024_i32_129
  v295
def k0_mult7 (i : grid0.Coords) (k0_t2 : Fin (k0_t2_loop i).trips) : BitVec 32 :=
  let c512_i32_111 : BitVec 32 := 512#32
  let c0_i32_38 : BitVec 32 := 0#32
  let c1_i32_40 : BitVec 32 := 1#32
  let arg15 : BitVec 32 := Scf.iv c0_i32_38 c1_i32_40 k0_t2
  let c2048_i32_110 : BitVec 32 := 2048#32
  let v254 : BitVec 32 := Scalar.muli arg15 c2048_i32_110
  let v255 : BitVec 32 := Scalar.addi c512_i32_111 v254
  let v256 : BitVec 32 := v255
  let c1536_i32 : BitVec 32 := 1536#32
  let v316 : BitVec 32 := Scalar.addi v256 c1536_i32
  v316
def k0_mult8 (i : grid0.Coords) (k0_t2 : Fin (k0_t2_loop i).trips) : BitVec 32 :=
  let c0_i32_38 : BitVec 32 := 0#32
  let c1_i32_40 : BitVec 32 := 1#32
  let arg15 : BitVec 32 := Scf.iv c0_i32_38 c1_i32_40 k0_t2
  let c1_i32_142 : BitVec 32 := 1#32
  let v337 : BitVec 32 := Scalar.addi arg15 c1_i32_142
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v338 : BitVec 1 := Scalar.cmpi .slt v337 v78
  let c512_i32_111 : BitVec 32 := 512#32
  let c2048_i32_110 : BitVec 32 := 2048#32
  let v254 : BitVec 32 := Scalar.muli arg15 c2048_i32_110
  let v255 : BitVec 32 := Scalar.addi c512_i32_111 v254
  let v256 : BitVec 32 := v255
  let c2048_i32_143 : BitVec 32 := 2048#32
  let v339 : BitVec 32 := Scalar.addi v256 c2048_i32_143
  let c4_i32_35 : BitVec 32 := 4#32
  let v79 : BitVec 32 := Scalar.muli v78 c4_i32_35
  let v80 : BitVec 32 := Scalar.subi v43 v79
  let c0_i32_37 : BitVec 32 := 0#32
  let v83 : BitVec 1 := Scalar.cmpi .sgt v80 c0_i32_37
  let c512_i32_36 : BitVec 32 := 512#32
  let c2048_i32 : BitVec 32 := 2048#32
  let v81 : BitVec 32 := Scalar.muli v78 c2048_i32
  let v82 : BitVec 32 := Scalar.addi c512_i32_36 v81
  let c512_i32 : BitVec 32 := 512#32
  let v22 : BitVec 32 := Scalar.muli arg2 c512_i32
  let v23 : BitVec 32 := v22
  let v84 : BitVec 32 := Scalar.select v83 v82 v23
  let v340 : BitVec 32 := Scalar.select v338 v339 v84
  v340
def k0_off9 (i : grid0.Coords) (k0_t2 : Fin (k0_t2_loop i).trips) : Fin 2 → Nat :=
  let c0_i32_38 : BitVec 32 := 0#32
  let c1_i32_40 : BitVec 32 := 1#32
  let arg15 : BitVec 32 := Scf.iv c0_i32_38 c1_i32_40 k0_t2
  let c1_i32_142 : BitVec 32 := 1#32
  let v337 : BitVec 32 := Scalar.addi arg15 c1_i32_142
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v338 : BitVec 1 := Scalar.cmpi .slt v337 v78
  let c512_i32_111 : BitVec 32 := 512#32
  let c2048_i32_110 : BitVec 32 := 2048#32
  let v254 : BitVec 32 := Scalar.muli arg15 c2048_i32_110
  let v255 : BitVec 32 := Scalar.addi c512_i32_111 v254
  let v256 : BitVec 32 := v255
  let c2048_i32_143 : BitVec 32 := 2048#32
  let v339 : BitVec 32 := Scalar.addi v256 c2048_i32_143
  let c4_i32_35 : BitVec 32 := 4#32
  let v79 : BitVec 32 := Scalar.muli v78 c4_i32_35
  let v80 : BitVec 32 := Scalar.subi v43 v79
  let c0_i32_37 : BitVec 32 := 0#32
  let v83 : BitVec 1 := Scalar.cmpi .sgt v80 c0_i32_37
  let c512_i32_36 : BitVec 32 := 512#32
  let c2048_i32 : BitVec 32 := 2048#32
  let v81 : BitVec 32 := Scalar.muli v78 c2048_i32
  let v82 : BitVec 32 := Scalar.addi c512_i32_36 v81
  let c512_i32 : BitVec 32 := 512#32
  let v22 : BitVec 32 := Scalar.muli arg2 c512_i32
  let v23 : BitVec 32 := v22
  let v84 : BitVec 32 := Scalar.select v83 v82 v23
  let v340 : BitVec 32 := Scalar.select v338 v339 v84
  let v341 : BitVec 32 := v340
  let v342 : Index := Scalar.indexCast v341
  let c0_144 : Index := 0#32
  ![v342.toNat, 0]
@[reducible] def k0_t3_loop (i : grid0.Coords) : Scf.Loop 32 :=
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let v86 : BitVec 32 := Scalar.addi c0_i32_38 v85
  let c1_i32_41 : BitVec 32 := 1#32
  ⟨v89, v86, c1_i32_41⟩
def k0_mult9 (i : grid0.Coords) (k0_t3 : Fin (k0_t3_loop i).trips) : BitVec 32 :=
  let c512_i32_111 : BitVec 32 := 512#32
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c2048_i32_110 : BitVec 32 := 2048#32
  let v254 : BitVec 32 := Scalar.muli arg15 c2048_i32_110
  let v255 : BitVec 32 := Scalar.addi c512_i32_111 v254
  v255
def k0_off10 (i : grid0.Coords) (k0_t3 : Fin (k0_t3_loop i).trips) : Fin 2 → Nat :=
  let c512_i32_111 : BitVec 32 := 512#32
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c2048_i32_110 : BitVec 32 := 2048#32
  let v254 : BitVec 32 := Scalar.muli arg15 c2048_i32_110
  let v255 : BitVec 32 := Scalar.addi c512_i32_111 v254
  let v256 : BitVec 32 := v255
  let c512_i32_116 : BitVec 32 := 512#32
  let v259 : BitVec 32 := Scalar.subi v256 c512_i32_116
  let v260 : Index := Scalar.indexCast v259
  let c0_117 : Index := 0#32
  ![v260.toNat, 0]
def k0_mult10 (i : grid0.Coords) (k0_t3 : Fin (k0_t3_loop i).trips) : BitVec 32 :=
  let c512_i32_111 : BitVec 32 := 512#32
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c2048_i32_110 : BitVec 32 := 2048#32
  let v254 : BitVec 32 := Scalar.muli arg15 c2048_i32_110
  let v255 : BitVec 32 := Scalar.addi c512_i32_111 v254
  let v256 : BitVec 32 := v255
  let c512_i32_122 : BitVec 32 := 512#32
  let v274 : BitVec 32 := Scalar.addi v256 c512_i32_122
  v274
def k0_off11 (i : grid0.Coords) (k0_t3 : Fin (k0_t3_loop i).trips) (c512_i32_122 : BitVec 32) : Fin 2 → Nat :=
  let c512_i32_111 : BitVec 32 := 512#32
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c2048_i32_110 : BitVec 32 := 2048#32
  let v254 : BitVec 32 := Scalar.muli arg15 c2048_i32_110
  let v255 : BitVec 32 := Scalar.addi c512_i32_111 v254
  let v256 : BitVec 32 := v255
  let v274 : BitVec 32 := Scalar.addi v256 c512_i32_122
  let v275 : BitVec 32 := v274
  let v276 : Index := Scalar.indexCast v275
  let c0_123 : Index := 0#32
  ![v276.toNat, 0]
def k0_off12 (i : grid0.Coords) (k0_t3 : Fin (k0_t3_loop i).trips) (c0_i32_125 : BitVec 32) : Fin 2 → Nat :=
  let c512_i32_111 : BitVec 32 := 512#32
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c2048_i32_110 : BitVec 32 := 2048#32
  let v254 : BitVec 32 := Scalar.muli arg15 c2048_i32_110
  let v255 : BitVec 32 := Scalar.addi c512_i32_111 v254
  let v256 : BitVec 32 := v255
  let v281 : BitVec 32 := Scalar.addi v256 c0_i32_125
  let v282 : Index := Scalar.indexCast v281
  let c0_126 : Index := 0#32
  ![v282.toNat, 0]
def k0_mult11 (i : grid0.Coords) (k0_t3 : Fin (k0_t3_loop i).trips) : BitVec 32 :=
  let c512_i32_111 : BitVec 32 := 512#32
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c2048_i32_110 : BitVec 32 := 2048#32
  let v254 : BitVec 32 := Scalar.muli arg15 c2048_i32_110
  let v255 : BitVec 32 := Scalar.addi c512_i32_111 v254
  let v256 : BitVec 32 := v255
  let c1024_i32_129 : BitVec 32 := 1024#32
  let v295 : BitVec 32 := Scalar.addi v256 c1024_i32_129
  v295
def k0_mult12 (i : grid0.Coords) (k0_t3 : Fin (k0_t3_loop i).trips) : BitVec 32 :=
  let c512_i32_111 : BitVec 32 := 512#32
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c2048_i32_110 : BitVec 32 := 2048#32
  let v254 : BitVec 32 := Scalar.muli arg15 c2048_i32_110
  let v255 : BitVec 32 := Scalar.addi c512_i32_111 v254
  let v256 : BitVec 32 := v255
  let c1536_i32 : BitVec 32 := 1536#32
  let v316 : BitVec 32 := Scalar.addi v256 c1536_i32
  v316
def k0_mult13 (i : grid0.Coords) (k0_t3 : Fin (k0_t3_loop i).trips) : BitVec 32 :=
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c1_i32_142 : BitVec 32 := 1#32
  let v337 : BitVec 32 := Scalar.addi arg15 c1_i32_142
  let v338 : BitVec 1 := Scalar.cmpi .slt v337 v78
  let c512_i32_111 : BitVec 32 := 512#32
  let c2048_i32_110 : BitVec 32 := 2048#32
  let v254 : BitVec 32 := Scalar.muli arg15 c2048_i32_110
  let v255 : BitVec 32 := Scalar.addi c512_i32_111 v254
  let v256 : BitVec 32 := v255
  let c2048_i32_143 : BitVec 32 := 2048#32
  let v339 : BitVec 32 := Scalar.addi v256 c2048_i32_143
  let c4_i32_35 : BitVec 32 := 4#32
  let v79 : BitVec 32 := Scalar.muli v78 c4_i32_35
  let v80 : BitVec 32 := Scalar.subi v43 v79
  let c0_i32_37 : BitVec 32 := 0#32
  let v83 : BitVec 1 := Scalar.cmpi .sgt v80 c0_i32_37
  let c512_i32_36 : BitVec 32 := 512#32
  let c2048_i32 : BitVec 32 := 2048#32
  let v81 : BitVec 32 := Scalar.muli v78 c2048_i32
  let v82 : BitVec 32 := Scalar.addi c512_i32_36 v81
  let c512_i32 : BitVec 32 := 512#32
  let v22 : BitVec 32 := Scalar.muli arg2 c512_i32
  let v23 : BitVec 32 := v22
  let v84 : BitVec 32 := Scalar.select v83 v82 v23
  let v340 : BitVec 32 := Scalar.select v338 v339 v84
  v340
def k0_off13 (i : grid0.Coords) (k0_t3 : Fin (k0_t3_loop i).trips) : Fin 2 → Nat :=
  let c0_i32_38 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let v85 : BitVec 32 := Scalar.subi v78 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg15 : BitVec 32 := Scf.iv v89 c1_i32_41 k0_t3
  let c1_i32_142 : BitVec 32 := 1#32
  let v337 : BitVec 32 := Scalar.addi arg15 c1_i32_142
  let v338 : BitVec 1 := Scalar.cmpi .slt v337 v78
  let c512_i32_111 : BitVec 32 := 512#32
  let c2048_i32_110 : BitVec 32 := 2048#32
  let v254 : BitVec 32 := Scalar.muli arg15 c2048_i32_110
  let v255 : BitVec 32 := Scalar.addi c512_i32_111 v254
  let v256 : BitVec 32 := v255
  let c2048_i32_143 : BitVec 32 := 2048#32
  let v339 : BitVec 32 := Scalar.addi v256 c2048_i32_143
  let c4_i32_35 : BitVec 32 := 4#32
  let v79 : BitVec 32 := Scalar.muli v78 c4_i32_35
  let v80 : BitVec 32 := Scalar.subi v43 v79
  let c0_i32_37 : BitVec 32 := 0#32
  let v83 : BitVec 1 := Scalar.cmpi .sgt v80 c0_i32_37
  let c512_i32_36 : BitVec 32 := 512#32
  let c2048_i32 : BitVec 32 := 2048#32
  let v81 : BitVec 32 := Scalar.muli v78 c2048_i32
  let v82 : BitVec 32 := Scalar.addi c512_i32_36 v81
  let c512_i32 : BitVec 32 := 512#32
  let v22 : BitVec 32 := Scalar.muli arg2 c512_i32
  let v23 : BitVec 32 := v22
  let v84 : BitVec 32 := Scalar.select v83 v82 v23
  let v340 : BitVec 32 := Scalar.select v338 v339 v84
  let v341 : BitVec 32 := v340
  let v342 : Index := Scalar.indexCast v341
  let c0_144 : Index := 0#32
  ![v342.toNat, 0]
@[reducible] def k0_t4_loop (i : grid0.Coords) : Scf.Loop 32 :=
  let c0_i32_51 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let c1_i32_53 : BitVec 32 := 1#32
  ⟨c0_i32_51, v119, c1_i32_53⟩
def k0_mult14 (i : grid0.Coords) (k0_t4 : Fin (k0_t4_loop i).trips) : BitVec 32 :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c1_i32_53 : BitVec 32 := 1#32
  let arg15 : BitVec 32 := Scf.iv c0_i32_51 c1_i32_53 k0_t4
  let c1024_i32_110 : BitVec 32 := 1024#32
  let v254 : BitVec 32 := Scalar.muli arg15 c1024_i32_110
  let v255 : BitVec 32 := Scalar.addi v82 v254
  v255
def k0_off14 (i : grid0.Coords) (k0_t4 : Fin (k0_t4_loop i).trips) : Fin 2 → Nat :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c1_i32_53 : BitVec 32 := 1#32
  let arg15 : BitVec 32 := Scf.iv c0_i32_51 c1_i32_53 k0_t4
  let c1024_i32_110 : BitVec 32 := 1024#32
  let v254 : BitVec 32 := Scalar.muli arg15 c1024_i32_110
  let v255 : BitVec 32 := Scalar.addi v82 v254
  let v256 : BitVec 32 := v255
  let c512_i32_115 : BitVec 32 := 512#32
  let v259 : BitVec 32 := Scalar.subi v256 c512_i32_115
  let v260 : Index := Scalar.indexCast v259
  let c0_116 : Index := 0#32
  ![v260.toNat, 0]
def k0_mult15 (i : grid0.Coords) (k0_t4 : Fin (k0_t4_loop i).trips) : BitVec 32 :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c1_i32_53 : BitVec 32 := 1#32
  let arg15 : BitVec 32 := Scf.iv c0_i32_51 c1_i32_53 k0_t4
  let c1024_i32_110 : BitVec 32 := 1024#32
  let v254 : BitVec 32 := Scalar.muli arg15 c1024_i32_110
  let v255 : BitVec 32 := Scalar.addi v82 v254
  let v256 : BitVec 32 := v255
  let c512_i32_121 : BitVec 32 := 512#32
  let v274 : BitVec 32 := Scalar.addi v256 c512_i32_121
  v274
def k0_off15 (i : grid0.Coords) (k0_t4 : Fin (k0_t4_loop i).trips) : Fin 2 → Nat :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c1_i32_53 : BitVec 32 := 1#32
  let arg15 : BitVec 32 := Scf.iv c0_i32_51 c1_i32_53 k0_t4
  let c1024_i32_110 : BitVec 32 := 1024#32
  let v254 : BitVec 32 := Scalar.muli arg15 c1024_i32_110
  let v255 : BitVec 32 := Scalar.addi v82 v254
  let v256 : BitVec 32 := v255
  let c512_i32_121 : BitVec 32 := 512#32
  let v274 : BitVec 32 := Scalar.addi v256 c512_i32_121
  let v275 : BitVec 32 := v274
  let v276 : Index := Scalar.indexCast v275
  let c0_122 : Index := 0#32
  ![v276.toNat, 0]
def k0_off16 (i : grid0.Coords) (k0_t4 : Fin (k0_t4_loop i).trips) : Fin 2 → Nat :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c1_i32_53 : BitVec 32 := 1#32
  let arg15 : BitVec 32 := Scf.iv c0_i32_51 c1_i32_53 k0_t4
  let c1024_i32_110 : BitVec 32 := 1024#32
  let v254 : BitVec 32 := Scalar.muli arg15 c1024_i32_110
  let v255 : BitVec 32 := Scalar.addi v82 v254
  let v256 : BitVec 32 := v255
  let c0_i32_124 : BitVec 32 := 0#32
  let v281 : BitVec 32 := Scalar.addi v256 c0_i32_124
  let v282 : Index := Scalar.indexCast v281
  let c0_125 : Index := 0#32
  ![v282.toNat, 0]
def k0_mult16 (i : grid0.Coords) (k0_t4 : Fin (k0_t4_loop i).trips) : BitVec 32 :=
  let c0_i32_51 : BitVec 32 := 0#32
  let c1_i32_53 : BitVec 32 := 1#32
  let arg15 : BitVec 32 := Scf.iv c0_i32_51 c1_i32_53 k0_t4
  let c1_i32_128 : BitVec 32 := 1#32
  let v295 : BitVec 32 := Scalar.addi arg15 c1_i32_128
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v296 : BitVec 1 := Scalar.cmpi .slt v295 v108
  let c512_i32_36 : BitVec 32 := 512#32
  let c2048_i32 : BitVec 32 := 2048#32
  let v81 : BitVec 32 := Scalar.muli v78 c2048_i32
  let v82 : BitVec 32 := Scalar.addi c512_i32_36 v81
  let c1024_i32_110 : BitVec 32 := 1024#32
  let v254 : BitVec 32 := Scalar.muli arg15 c1024_i32_110
  let v255 : BitVec 32 := Scalar.addi v82 v254
  let v256 : BitVec 32 := v255
  let c1024_i32_129 : BitVec 32 := 1024#32
  let v297 : BitVec 32 := Scalar.addi v256 c1024_i32_129
  let c2_i32_49 : BitVec 32 := 2#32
  let v109 : BitVec 32 := Scalar.muli v108 c2_i32_49
  let v110 : BitVec 32 := Scalar.subi v80 v109
  let c0_i32_50 : BitVec 32 := 0#32
  let v113 : BitVec 1 := Scalar.cmpi .sgt v110 c0_i32_50
  let c1024_i32 : BitVec 32 := 1024#32
  let v111 : BitVec 32 := Scalar.muli v108 c1024_i32
  let v112 : BitVec 32 := Scalar.addi v82 v111
  let c512_i32 : BitVec 32 := 512#32
  let v22 : BitVec 32 := Scalar.muli arg2 c512_i32
  let v23 : BitVec 32 := v22
  let v114 : BitVec 32 := Scalar.select v113 v112 v23
  let v298 : BitVec 32 := Scalar.select v296 v297 v114
  v298
def k0_off17 (i : grid0.Coords) (k0_t4 : Fin (k0_t4_loop i).trips) : Fin 2 → Nat :=
  let c0_i32_51 : BitVec 32 := 0#32
  let c1_i32_53 : BitVec 32 := 1#32
  let arg15 : BitVec 32 := Scf.iv c0_i32_51 c1_i32_53 k0_t4
  let c1_i32_128 : BitVec 32 := 1#32
  let v295 : BitVec 32 := Scalar.addi arg15 c1_i32_128
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v296 : BitVec 1 := Scalar.cmpi .slt v295 v108
  let c512_i32_36 : BitVec 32 := 512#32
  let c2048_i32 : BitVec 32 := 2048#32
  let v81 : BitVec 32 := Scalar.muli v78 c2048_i32
  let v82 : BitVec 32 := Scalar.addi c512_i32_36 v81
  let c1024_i32_110 : BitVec 32 := 1024#32
  let v254 : BitVec 32 := Scalar.muli arg15 c1024_i32_110
  let v255 : BitVec 32 := Scalar.addi v82 v254
  let v256 : BitVec 32 := v255
  let c1024_i32_129 : BitVec 32 := 1024#32
  let v297 : BitVec 32 := Scalar.addi v256 c1024_i32_129
  let c2_i32_49 : BitVec 32 := 2#32
  let v109 : BitVec 32 := Scalar.muli v108 c2_i32_49
  let v110 : BitVec 32 := Scalar.subi v80 v109
  let c0_i32_50 : BitVec 32 := 0#32
  let v113 : BitVec 1 := Scalar.cmpi .sgt v110 c0_i32_50
  let c1024_i32 : BitVec 32 := 1024#32
  let v111 : BitVec 32 := Scalar.muli v108 c1024_i32
  let v112 : BitVec 32 := Scalar.addi v82 v111
  let c512_i32 : BitVec 32 := 512#32
  let v22 : BitVec 32 := Scalar.muli arg2 c512_i32
  let v23 : BitVec 32 := v22
  let v114 : BitVec 32 := Scalar.select v113 v112 v23
  let v298 : BitVec 32 := Scalar.select v296 v297 v114
  let v299 : BitVec 32 := v298
  let v300 : Index := Scalar.indexCast v299
  let c0_130 : Index := 0#32
  ![v300.toNat, 0]
@[reducible] def k0_t5_loop (i : grid0.Coords) : Scf.Loop 32 :=
  let c0_i32_51 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let v116 : BitVec 32 := Scalar.addi c0_i32_51 v115
  let c1_i32_54 : BitVec 32 := 1#32
  ⟨v119, v116, c1_i32_54⟩
def k0_mult17 (i : grid0.Coords) (k0_t5 : Fin (k0_t5_loop i).trips) : BitVec 32 :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let c1_i32_54 : BitVec 32 := 1#32
  let arg15 : BitVec 32 := Scf.iv v119 c1_i32_54 k0_t5
  let c1024_i32_110 : BitVec 32 := 1024#32
  let v254 : BitVec 32 := Scalar.muli arg15 c1024_i32_110
  let v255 : BitVec 32 := Scalar.addi v82 v254
  v255
def k0_off18 (i : grid0.Coords) (k0_t5 : Fin (k0_t5_loop i).trips) : Fin 2 → Nat :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let c1_i32_54 : BitVec 32 := 1#32
  let arg15 : BitVec 32 := Scf.iv v119 c1_i32_54 k0_t5
  let c1024_i32_110 : BitVec 32 := 1024#32
  let v254 : BitVec 32 := Scalar.muli arg15 c1024_i32_110
  let v255 : BitVec 32 := Scalar.addi v82 v254
  let v256 : BitVec 32 := v255
  let c512_i32_115 : BitVec 32 := 512#32
  let v259 : BitVec 32 := Scalar.subi v256 c512_i32_115
  let v260 : Index := Scalar.indexCast v259
  let c0_116 : Index := 0#32
  ![v260.toNat, 0]
def k0_mult18 (i : grid0.Coords) (k0_t5 : Fin (k0_t5_loop i).trips) : BitVec 32 :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let c1_i32_54 : BitVec 32 := 1#32
  let arg15 : BitVec 32 := Scf.iv v119 c1_i32_54 k0_t5
  let c1024_i32_110 : BitVec 32 := 1024#32
  let v254 : BitVec 32 := Scalar.muli arg15 c1024_i32_110
  let v255 : BitVec 32 := Scalar.addi v82 v254
  let v256 : BitVec 32 := v255
  let c512_i32_121 : BitVec 32 := 512#32
  let v274 : BitVec 32 := Scalar.addi v256 c512_i32_121
  v274
def k0_off19 (i : grid0.Coords) (k0_t5 : Fin (k0_t5_loop i).trips) : Fin 2 → Nat :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let c1_i32_54 : BitVec 32 := 1#32
  let arg15 : BitVec 32 := Scf.iv v119 c1_i32_54 k0_t5
  let c1024_i32_110 : BitVec 32 := 1024#32
  let v254 : BitVec 32 := Scalar.muli arg15 c1024_i32_110
  let v255 : BitVec 32 := Scalar.addi v82 v254
  let v256 : BitVec 32 := v255
  let c512_i32_121 : BitVec 32 := 512#32
  let v274 : BitVec 32 := Scalar.addi v256 c512_i32_121
  let v275 : BitVec 32 := v274
  let v276 : Index := Scalar.indexCast v275
  let c0_122 : Index := 0#32
  ![v276.toNat, 0]
def k0_off20 (i : grid0.Coords) (k0_t5 : Fin (k0_t5_loop i).trips) : Fin 2 → Nat :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c0_i32_51 : BitVec 32 := 0#32
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let c1_i32_54 : BitVec 32 := 1#32
  let arg15 : BitVec 32 := Scf.iv v119 c1_i32_54 k0_t5
  let c1024_i32_110 : BitVec 32 := 1024#32
  let v254 : BitVec 32 := Scalar.muli arg15 c1024_i32_110
  let v255 : BitVec 32 := Scalar.addi v82 v254
  let v256 : BitVec 32 := v255
  let c0_i32_124 : BitVec 32 := 0#32
  let v281 : BitVec 32 := Scalar.addi v256 c0_i32_124
  let v282 : Index := Scalar.indexCast v281
  let c0_125 : Index := 0#32
  ![v282.toNat, 0]
def k0_mult19 (i : grid0.Coords) (k0_t5 : Fin (k0_t5_loop i).trips) : BitVec 32 :=
  let c0_i32_51 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let c1_i32_54 : BitVec 32 := 1#32
  let arg15 : BitVec 32 := Scf.iv v119 c1_i32_54 k0_t5
  let c1_i32_128 : BitVec 32 := 1#32
  let v295 : BitVec 32 := Scalar.addi arg15 c1_i32_128
  let v296 : BitVec 1 := Scalar.cmpi .slt v295 v108
  let c512_i32_36 : BitVec 32 := 512#32
  let c2048_i32 : BitVec 32 := 2048#32
  let v81 : BitVec 32 := Scalar.muli v78 c2048_i32
  let v82 : BitVec 32 := Scalar.addi c512_i32_36 v81
  let c1024_i32_110 : BitVec 32 := 1024#32
  let v254 : BitVec 32 := Scalar.muli arg15 c1024_i32_110
  let v255 : BitVec 32 := Scalar.addi v82 v254
  let v256 : BitVec 32 := v255
  let c1024_i32_129 : BitVec 32 := 1024#32
  let v297 : BitVec 32 := Scalar.addi v256 c1024_i32_129
  let c2_i32_49 : BitVec 32 := 2#32
  let v109 : BitVec 32 := Scalar.muli v108 c2_i32_49
  let v110 : BitVec 32 := Scalar.subi v80 v109
  let c0_i32_50 : BitVec 32 := 0#32
  let v113 : BitVec 1 := Scalar.cmpi .sgt v110 c0_i32_50
  let c1024_i32 : BitVec 32 := 1024#32
  let v111 : BitVec 32 := Scalar.muli v108 c1024_i32
  let v112 : BitVec 32 := Scalar.addi v82 v111
  let c512_i32 : BitVec 32 := 512#32
  let v22 : BitVec 32 := Scalar.muli arg2 c512_i32
  let v23 : BitVec 32 := v22
  let v114 : BitVec 32 := Scalar.select v113 v112 v23
  let v298 : BitVec 32 := Scalar.select v296 v297 v114
  v298
def k0_off21 (i : grid0.Coords) (k0_t5 : Fin (k0_t5_loop i).trips) : Fin 2 → Nat :=
  let c0_i32_51 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let v115 : BitVec 32 := Scalar.subi v108 c0_i32_51
  let c1_i32_52 : BitVec 32 := 1#32
  let v117 : BitVec 32 := Scalar.divsi v115 c1_i32_52
  let v118 : BitVec 32 := Scalar.muli v117 c1_i32_52
  let v119 : BitVec 32 := Scalar.addi c0_i32_51 v118
  let c1_i32_54 : BitVec 32 := 1#32
  let arg15 : BitVec 32 := Scf.iv v119 c1_i32_54 k0_t5
  let c1_i32_128 : BitVec 32 := 1#32
  let v295 : BitVec 32 := Scalar.addi arg15 c1_i32_128
  let v296 : BitVec 1 := Scalar.cmpi .slt v295 v108
  let c512_i32_36 : BitVec 32 := 512#32
  let c2048_i32 : BitVec 32 := 2048#32
  let v81 : BitVec 32 := Scalar.muli v78 c2048_i32
  let v82 : BitVec 32 := Scalar.addi c512_i32_36 v81
  let c1024_i32_110 : BitVec 32 := 1024#32
  let v254 : BitVec 32 := Scalar.muli arg15 c1024_i32_110
  let v255 : BitVec 32 := Scalar.addi v82 v254
  let v256 : BitVec 32 := v255
  let c1024_i32_129 : BitVec 32 := 1024#32
  let v297 : BitVec 32 := Scalar.addi v256 c1024_i32_129
  let c2_i32_49 : BitVec 32 := 2#32
  let v109 : BitVec 32 := Scalar.muli v108 c2_i32_49
  let v110 : BitVec 32 := Scalar.subi v80 v109
  let c0_i32_50 : BitVec 32 := 0#32
  let v113 : BitVec 1 := Scalar.cmpi .sgt v110 c0_i32_50
  let c1024_i32 : BitVec 32 := 1024#32
  let v111 : BitVec 32 := Scalar.muli v108 c1024_i32
  let v112 : BitVec 32 := Scalar.addi v82 v111
  let c512_i32 : BitVec 32 := 512#32
  let v22 : BitVec 32 := Scalar.muli arg2 c512_i32
  let v23 : BitVec 32 := v22
  let v114 : BitVec 32 := Scalar.select v113 v112 v23
  let v298 : BitVec 32 := Scalar.select v296 v297 v114
  let v299 : BitVec 32 := v298
  let v300 : Index := Scalar.indexCast v299
  let c0_130 : Index := 0#32
  ![v300.toNat, 0]
@[reducible] def k0_t6_loop (i : grid0.Coords) : Scf.Loop 32 :=
  let c0_i32_65 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c2_i32_49 : BitVec 32 := 2#32
  let v109 : BitVec 32 := Scalar.muli v108 c2_i32_49
  let v110 : BitVec 32 := Scalar.subi v80 v109
  let c0_i32_56 : BitVec 32 := 0#32
  let v123 : BitVec 1 := Scalar.cmpi .sgt v110 c0_i32_56
  let v124 : BitVec 32 := Scalar.extui v123
  let c0_i32_57 : BitVec 32 := 0#32
  let v125 : BitVec 1 := Scalar.cmpi .slt v110 c0_i32_57
  let v126 : BitVec 32 := Scalar.extui v125
  let v127 : BitVec 32 := Scalar.subi v124 v126
  let c1_i32_55 : BitVec 32 := 1#32
  let c0_i32_58 : BitVec 32 := 0#32
  let v128 : BitVec 1 := Scalar.cmpi .sgt c1_i32_55 c0_i32_58
  let v129 : BitVec 32 := Scalar.extui v128
  let c0_i32_59 : BitVec 32 := 0#32
  let v130 : BitVec 1 := Scalar.cmpi .slt c1_i32_55 c0_i32_59
  let v131 : BitVec 32 := Scalar.extui v130
  let v132 : BitVec 32 := Scalar.subi v129 v131
  let v133 : BitVec 1 := Scalar.cmpi .ne v127 v132
  let v134 : BitVec 32 := Scalar.remsi v110 c1_i32_55
  let c0_i32_60 : BitVec 32 := 0#32
  let v135 : BitVec 1 := Scalar.cmpi .ne v134 c0_i32_60
  let v136 : BitVec 1 := Scalar.andi v133 v135
  let v122 : BitVec 32 := Scalar.divsi v110 c1_i32_55
  let c1_i32_61 : BitVec 32 := 1#32
  let v137 : BitVec 32 := Scalar.subi v122 c1_i32_61
  let v138 : BitVec 32 := Scalar.select v136 v137 v122
  let v145 : BitVec 32 := Scalar.subi v138 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let c1_i32_67 : BitVec 32 := 1#32
  ⟨c0_i32_65, v149, c1_i32_67⟩
def k0_mult20 (i : grid0.Coords) (k0_t6 : Fin (k0_t6_loop i).trips) : BitVec 32 :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c1024_i32 : BitVec 32 := 1024#32
  let v111 : BitVec 32 := Scalar.muli v108 c1024_i32
  let v112 : BitVec 32 := Scalar.addi v82 v111
  let c0_i32_65 : BitVec 32 := 0#32
  let c1_i32_67 : BitVec 32 := 1#32
  let arg15 : BitVec 32 := Scf.iv c0_i32_65 c1_i32_67 k0_t6
  let c512_i32_110 : BitVec 32 := 512#32
  let v254 : BitVec 32 := Scalar.muli arg15 c512_i32_110
  let v255 : BitVec 32 := Scalar.addi v112 v254
  v255
def k0_off22 (i : grid0.Coords) (k0_t6 : Fin (k0_t6_loop i).trips) : Fin 2 → Nat :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c1024_i32 : BitVec 32 := 1024#32
  let v111 : BitVec 32 := Scalar.muli v108 c1024_i32
  let v112 : BitVec 32 := Scalar.addi v82 v111
  let c0_i32_65 : BitVec 32 := 0#32
  let c1_i32_67 : BitVec 32 := 1#32
  let arg15 : BitVec 32 := Scf.iv c0_i32_65 c1_i32_67 k0_t6
  let c512_i32_110 : BitVec 32 := 512#32
  let v254 : BitVec 32 := Scalar.muli arg15 c512_i32_110
  let v255 : BitVec 32 := Scalar.addi v112 v254
  let v256 : BitVec 32 := v255
  let c512_i32_115 : BitVec 32 := 512#32
  let v259 : BitVec 32 := Scalar.subi v256 c512_i32_115
  let v260 : Index := Scalar.indexCast v259
  let c0_116 : Index := 0#32
  ![v260.toNat, 0]
def k0_mult21 (i : grid0.Coords) (k0_t6 : Fin (k0_t6_loop i).trips) : BitVec 32 :=
  let c0_i32_65 : BitVec 32 := 0#32
  let c1_i32_67 : BitVec 32 := 1#32
  let arg15 : BitVec 32 := Scf.iv c0_i32_65 c1_i32_67 k0_t6
  let c1_i32_121 : BitVec 32 := 1#32
  let v274 : BitVec 32 := Scalar.addi arg15 c1_i32_121
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c2_i32_49 : BitVec 32 := 2#32
  let v109 : BitVec 32 := Scalar.muli v108 c2_i32_49
  let v110 : BitVec 32 := Scalar.subi v80 v109
  let c0_i32_56 : BitVec 32 := 0#32
  let v123 : BitVec 1 := Scalar.cmpi .sgt v110 c0_i32_56
  let v124 : BitVec 32 := Scalar.extui v123
  let c0_i32_57 : BitVec 32 := 0#32
  let v125 : BitVec 1 := Scalar.cmpi .slt v110 c0_i32_57
  let v126 : BitVec 32 := Scalar.extui v125
  let v127 : BitVec 32 := Scalar.subi v124 v126
  let c1_i32_55 : BitVec 32 := 1#32
  let c0_i32_58 : BitVec 32 := 0#32
  let v128 : BitVec 1 := Scalar.cmpi .sgt c1_i32_55 c0_i32_58
  let v129 : BitVec 32 := Scalar.extui v128
  let c0_i32_59 : BitVec 32 := 0#32
  let v130 : BitVec 1 := Scalar.cmpi .slt c1_i32_55 c0_i32_59
  let v131 : BitVec 32 := Scalar.extui v130
  let v132 : BitVec 32 := Scalar.subi v129 v131
  let v133 : BitVec 1 := Scalar.cmpi .ne v127 v132
  let v134 : BitVec 32 := Scalar.remsi v110 c1_i32_55
  let c0_i32_60 : BitVec 32 := 0#32
  let v135 : BitVec 1 := Scalar.cmpi .ne v134 c0_i32_60
  let v136 : BitVec 1 := Scalar.andi v133 v135
  let v122 : BitVec 32 := Scalar.divsi v110 c1_i32_55
  let c1_i32_61 : BitVec 32 := 1#32
  let v137 : BitVec 32 := Scalar.subi v122 c1_i32_61
  let v138 : BitVec 32 := Scalar.select v136 v137 v122
  let v275 : BitVec 1 := Scalar.cmpi .slt v274 v138
  let c512_i32_36 : BitVec 32 := 512#32
  let c2048_i32 : BitVec 32 := 2048#32
  let v81 : BitVec 32 := Scalar.muli v78 c2048_i32
  let v82 : BitVec 32 := Scalar.addi c512_i32_36 v81
  let c1024_i32 : BitVec 32 := 1024#32
  let v111 : BitVec 32 := Scalar.muli v108 c1024_i32
  let v112 : BitVec 32 := Scalar.addi v82 v111
  let c512_i32_110 : BitVec 32 := 512#32
  let v254 : BitVec 32 := Scalar.muli arg15 c512_i32_110
  let v255 : BitVec 32 := Scalar.addi v112 v254
  let v256 : BitVec 32 := v255
  let c512_i32_122 : BitVec 32 := 512#32
  let v276 : BitVec 32 := Scalar.addi v256 c512_i32_122
  let c1_i32_62 : BitVec 32 := 1#32
  let v139 : BitVec 32 := Scalar.muli v138 c1_i32_62
  let v140 : BitVec 32 := Scalar.subi v110 v139
  let c0_i32_64 : BitVec 32 := 0#32
  let v143 : BitVec 1 := Scalar.cmpi .sgt v140 c0_i32_64
  let c512_i32_63 : BitVec 32 := 512#32
  let v141 : BitVec 32 := Scalar.muli v138 c512_i32_63
  let v142 : BitVec 32 := Scalar.addi v112 v141
  let c512_i32 : BitVec 32 := 512#32
  let v22 : BitVec 32 := Scalar.muli arg2 c512_i32
  let v23 : BitVec 32 := v22
  let v144 : BitVec 32 := Scalar.select v143 v142 v23
  let v277 : BitVec 32 := Scalar.select v275 v276 v144
  v277
def k0_off23 (i : grid0.Coords) (k0_t6 : Fin (k0_t6_loop i).trips) : Fin 2 → Nat :=
  let c0_i32_65 : BitVec 32 := 0#32
  let c1_i32_67 : BitVec 32 := 1#32
  let arg15 : BitVec 32 := Scf.iv c0_i32_65 c1_i32_67 k0_t6
  let c1_i32_121 : BitVec 32 := 1#32
  let v274 : BitVec 32 := Scalar.addi arg15 c1_i32_121
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c2_i32_49 : BitVec 32 := 2#32
  let v109 : BitVec 32 := Scalar.muli v108 c2_i32_49
  let v110 : BitVec 32 := Scalar.subi v80 v109
  let c0_i32_56 : BitVec 32 := 0#32
  let v123 : BitVec 1 := Scalar.cmpi .sgt v110 c0_i32_56
  let v124 : BitVec 32 := Scalar.extui v123
  let c0_i32_57 : BitVec 32 := 0#32
  let v125 : BitVec 1 := Scalar.cmpi .slt v110 c0_i32_57
  let v126 : BitVec 32 := Scalar.extui v125
  let v127 : BitVec 32 := Scalar.subi v124 v126
  let c1_i32_55 : BitVec 32 := 1#32
  let c0_i32_58 : BitVec 32 := 0#32
  let v128 : BitVec 1 := Scalar.cmpi .sgt c1_i32_55 c0_i32_58
  let v129 : BitVec 32 := Scalar.extui v128
  let c0_i32_59 : BitVec 32 := 0#32
  let v130 : BitVec 1 := Scalar.cmpi .slt c1_i32_55 c0_i32_59
  let v131 : BitVec 32 := Scalar.extui v130
  let v132 : BitVec 32 := Scalar.subi v129 v131
  let v133 : BitVec 1 := Scalar.cmpi .ne v127 v132
  let v134 : BitVec 32 := Scalar.remsi v110 c1_i32_55
  let c0_i32_60 : BitVec 32 := 0#32
  let v135 : BitVec 1 := Scalar.cmpi .ne v134 c0_i32_60
  let v136 : BitVec 1 := Scalar.andi v133 v135
  let v122 : BitVec 32 := Scalar.divsi v110 c1_i32_55
  let c1_i32_61 : BitVec 32 := 1#32
  let v137 : BitVec 32 := Scalar.subi v122 c1_i32_61
  let v138 : BitVec 32 := Scalar.select v136 v137 v122
  let v275 : BitVec 1 := Scalar.cmpi .slt v274 v138
  let c512_i32_36 : BitVec 32 := 512#32
  let c2048_i32 : BitVec 32 := 2048#32
  let v81 : BitVec 32 := Scalar.muli v78 c2048_i32
  let v82 : BitVec 32 := Scalar.addi c512_i32_36 v81
  let c1024_i32 : BitVec 32 := 1024#32
  let v111 : BitVec 32 := Scalar.muli v108 c1024_i32
  let v112 : BitVec 32 := Scalar.addi v82 v111
  let c512_i32_110 : BitVec 32 := 512#32
  let v254 : BitVec 32 := Scalar.muli arg15 c512_i32_110
  let v255 : BitVec 32 := Scalar.addi v112 v254
  let v256 : BitVec 32 := v255
  let c512_i32_122 : BitVec 32 := 512#32
  let v276 : BitVec 32 := Scalar.addi v256 c512_i32_122
  let c1_i32_62 : BitVec 32 := 1#32
  let v139 : BitVec 32 := Scalar.muli v138 c1_i32_62
  let v140 : BitVec 32 := Scalar.subi v110 v139
  let c0_i32_64 : BitVec 32 := 0#32
  let v143 : BitVec 1 := Scalar.cmpi .sgt v140 c0_i32_64
  let c512_i32_63 : BitVec 32 := 512#32
  let v141 : BitVec 32 := Scalar.muli v138 c512_i32_63
  let v142 : BitVec 32 := Scalar.addi v112 v141
  let c512_i32 : BitVec 32 := 512#32
  let v22 : BitVec 32 := Scalar.muli arg2 c512_i32
  let v23 : BitVec 32 := v22
  let v144 : BitVec 32 := Scalar.select v143 v142 v23
  let v277 : BitVec 32 := Scalar.select v275 v276 v144
  let v278 : BitVec 32 := v277
  let v279 : Index := Scalar.indexCast v278
  let c0_123 : Index := 0#32
  ![v279.toNat, 0]
@[reducible] def k0_t7_loop (i : grid0.Coords) : Scf.Loop 32 :=
  let c0_i32_65 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c2_i32_49 : BitVec 32 := 2#32
  let v109 : BitVec 32 := Scalar.muli v108 c2_i32_49
  let v110 : BitVec 32 := Scalar.subi v80 v109
  let c0_i32_56 : BitVec 32 := 0#32
  let v123 : BitVec 1 := Scalar.cmpi .sgt v110 c0_i32_56
  let v124 : BitVec 32 := Scalar.extui v123
  let c0_i32_57 : BitVec 32 := 0#32
  let v125 : BitVec 1 := Scalar.cmpi .slt v110 c0_i32_57
  let v126 : BitVec 32 := Scalar.extui v125
  let v127 : BitVec 32 := Scalar.subi v124 v126
  let c1_i32_55 : BitVec 32 := 1#32
  let c0_i32_58 : BitVec 32 := 0#32
  let v128 : BitVec 1 := Scalar.cmpi .sgt c1_i32_55 c0_i32_58
  let v129 : BitVec 32 := Scalar.extui v128
  let c0_i32_59 : BitVec 32 := 0#32
  let v130 : BitVec 1 := Scalar.cmpi .slt c1_i32_55 c0_i32_59
  let v131 : BitVec 32 := Scalar.extui v130
  let v132 : BitVec 32 := Scalar.subi v129 v131
  let v133 : BitVec 1 := Scalar.cmpi .ne v127 v132
  let v134 : BitVec 32 := Scalar.remsi v110 c1_i32_55
  let c0_i32_60 : BitVec 32 := 0#32
  let v135 : BitVec 1 := Scalar.cmpi .ne v134 c0_i32_60
  let v136 : BitVec 1 := Scalar.andi v133 v135
  let v122 : BitVec 32 := Scalar.divsi v110 c1_i32_55
  let c1_i32_61 : BitVec 32 := 1#32
  let v137 : BitVec 32 := Scalar.subi v122 c1_i32_61
  let v138 : BitVec 32 := Scalar.select v136 v137 v122
  let v145 : BitVec 32 := Scalar.subi v138 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let v146 : BitVec 32 := Scalar.addi c0_i32_65 v145
  let c1_i32_68 : BitVec 32 := 1#32
  ⟨v149, v146, c1_i32_68⟩
def k0_mult22 (i : grid0.Coords) (k0_t7 : Fin (k0_t7_loop i).trips) : BitVec 32 :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c1024_i32 : BitVec 32 := 1024#32
  let v111 : BitVec 32 := Scalar.muli v108 c1024_i32
  let v112 : BitVec 32 := Scalar.addi v82 v111
  let c0_i32_65 : BitVec 32 := 0#32
  let c2_i32_49 : BitVec 32 := 2#32
  let v109 : BitVec 32 := Scalar.muli v108 c2_i32_49
  let v110 : BitVec 32 := Scalar.subi v80 v109
  let c0_i32_56 : BitVec 32 := 0#32
  let v123 : BitVec 1 := Scalar.cmpi .sgt v110 c0_i32_56
  let v124 : BitVec 32 := Scalar.extui v123
  let c0_i32_57 : BitVec 32 := 0#32
  let v125 : BitVec 1 := Scalar.cmpi .slt v110 c0_i32_57
  let v126 : BitVec 32 := Scalar.extui v125
  let v127 : BitVec 32 := Scalar.subi v124 v126
  let c1_i32_55 : BitVec 32 := 1#32
  let c0_i32_58 : BitVec 32 := 0#32
  let v128 : BitVec 1 := Scalar.cmpi .sgt c1_i32_55 c0_i32_58
  let v129 : BitVec 32 := Scalar.extui v128
  let c0_i32_59 : BitVec 32 := 0#32
  let v130 : BitVec 1 := Scalar.cmpi .slt c1_i32_55 c0_i32_59
  let v131 : BitVec 32 := Scalar.extui v130
  let v132 : BitVec 32 := Scalar.subi v129 v131
  let v133 : BitVec 1 := Scalar.cmpi .ne v127 v132
  let v134 : BitVec 32 := Scalar.remsi v110 c1_i32_55
  let c0_i32_60 : BitVec 32 := 0#32
  let v135 : BitVec 1 := Scalar.cmpi .ne v134 c0_i32_60
  let v136 : BitVec 1 := Scalar.andi v133 v135
  let v122 : BitVec 32 := Scalar.divsi v110 c1_i32_55
  let c1_i32_61 : BitVec 32 := 1#32
  let v137 : BitVec 32 := Scalar.subi v122 c1_i32_61
  let v138 : BitVec 32 := Scalar.select v136 v137 v122
  let v145 : BitVec 32 := Scalar.subi v138 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let c1_i32_68 : BitVec 32 := 1#32
  let arg15 : BitVec 32 := Scf.iv v149 c1_i32_68 k0_t7
  let c512_i32_110 : BitVec 32 := 512#32
  let v254 : BitVec 32 := Scalar.muli arg15 c512_i32_110
  let v255 : BitVec 32 := Scalar.addi v112 v254
  v255
def k0_off24 (i : grid0.Coords) (k0_t7 : Fin (k0_t7_loop i).trips) : Fin 2 → Nat :=
  let c512_i32_36 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c2048_i32 : BitVec 32 := 2048#32
  let v81 : BitVec 32 := Scalar.muli v78 c2048_i32
  let v82 : BitVec 32 := Scalar.addi c512_i32_36 v81
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c1024_i32 : BitVec 32 := 1024#32
  let v111 : BitVec 32 := Scalar.muli v108 c1024_i32
  let v112 : BitVec 32 := Scalar.addi v82 v111
  let c0_i32_65 : BitVec 32 := 0#32
  let c2_i32_49 : BitVec 32 := 2#32
  let v109 : BitVec 32 := Scalar.muli v108 c2_i32_49
  let v110 : BitVec 32 := Scalar.subi v80 v109
  let c0_i32_56 : BitVec 32 := 0#32
  let v123 : BitVec 1 := Scalar.cmpi .sgt v110 c0_i32_56
  let v124 : BitVec 32 := Scalar.extui v123
  let c0_i32_57 : BitVec 32 := 0#32
  let v125 : BitVec 1 := Scalar.cmpi .slt v110 c0_i32_57
  let v126 : BitVec 32 := Scalar.extui v125
  let v127 : BitVec 32 := Scalar.subi v124 v126
  let c1_i32_55 : BitVec 32 := 1#32
  let c0_i32_58 : BitVec 32 := 0#32
  let v128 : BitVec 1 := Scalar.cmpi .sgt c1_i32_55 c0_i32_58
  let v129 : BitVec 32 := Scalar.extui v128
  let c0_i32_59 : BitVec 32 := 0#32
  let v130 : BitVec 1 := Scalar.cmpi .slt c1_i32_55 c0_i32_59
  let v131 : BitVec 32 := Scalar.extui v130
  let v132 : BitVec 32 := Scalar.subi v129 v131
  let v133 : BitVec 1 := Scalar.cmpi .ne v127 v132
  let v134 : BitVec 32 := Scalar.remsi v110 c1_i32_55
  let c0_i32_60 : BitVec 32 := 0#32
  let v135 : BitVec 1 := Scalar.cmpi .ne v134 c0_i32_60
  let v136 : BitVec 1 := Scalar.andi v133 v135
  let v122 : BitVec 32 := Scalar.divsi v110 c1_i32_55
  let c1_i32_61 : BitVec 32 := 1#32
  let v137 : BitVec 32 := Scalar.subi v122 c1_i32_61
  let v138 : BitVec 32 := Scalar.select v136 v137 v122
  let v145 : BitVec 32 := Scalar.subi v138 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let c1_i32_68 : BitVec 32 := 1#32
  let arg15 : BitVec 32 := Scf.iv v149 c1_i32_68 k0_t7
  let c512_i32_110 : BitVec 32 := 512#32
  let v254 : BitVec 32 := Scalar.muli arg15 c512_i32_110
  let v255 : BitVec 32 := Scalar.addi v112 v254
  let v256 : BitVec 32 := v255
  let c512_i32_115 : BitVec 32 := 512#32
  let v259 : BitVec 32 := Scalar.subi v256 c512_i32_115
  let v260 : Index := Scalar.indexCast v259
  let c0_116 : Index := 0#32
  ![v260.toNat, 0]
def k0_mult23 (i : grid0.Coords) (k0_t7 : Fin (k0_t7_loop i).trips) : BitVec 32 :=
  let c0_i32_65 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c2_i32_49 : BitVec 32 := 2#32
  let v109 : BitVec 32 := Scalar.muli v108 c2_i32_49
  let v110 : BitVec 32 := Scalar.subi v80 v109
  let c0_i32_56 : BitVec 32 := 0#32
  let v123 : BitVec 1 := Scalar.cmpi .sgt v110 c0_i32_56
  let v124 : BitVec 32 := Scalar.extui v123
  let c0_i32_57 : BitVec 32 := 0#32
  let v125 : BitVec 1 := Scalar.cmpi .slt v110 c0_i32_57
  let v126 : BitVec 32 := Scalar.extui v125
  let v127 : BitVec 32 := Scalar.subi v124 v126
  let c1_i32_55 : BitVec 32 := 1#32
  let c0_i32_58 : BitVec 32 := 0#32
  let v128 : BitVec 1 := Scalar.cmpi .sgt c1_i32_55 c0_i32_58
  let v129 : BitVec 32 := Scalar.extui v128
  let c0_i32_59 : BitVec 32 := 0#32
  let v130 : BitVec 1 := Scalar.cmpi .slt c1_i32_55 c0_i32_59
  let v131 : BitVec 32 := Scalar.extui v130
  let v132 : BitVec 32 := Scalar.subi v129 v131
  let v133 : BitVec 1 := Scalar.cmpi .ne v127 v132
  let v134 : BitVec 32 := Scalar.remsi v110 c1_i32_55
  let c0_i32_60 : BitVec 32 := 0#32
  let v135 : BitVec 1 := Scalar.cmpi .ne v134 c0_i32_60
  let v136 : BitVec 1 := Scalar.andi v133 v135
  let v122 : BitVec 32 := Scalar.divsi v110 c1_i32_55
  let c1_i32_61 : BitVec 32 := 1#32
  let v137 : BitVec 32 := Scalar.subi v122 c1_i32_61
  let v138 : BitVec 32 := Scalar.select v136 v137 v122
  let v145 : BitVec 32 := Scalar.subi v138 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let c1_i32_68 : BitVec 32 := 1#32
  let arg15 : BitVec 32 := Scf.iv v149 c1_i32_68 k0_t7
  let c1_i32_121 : BitVec 32 := 1#32
  let v274 : BitVec 32 := Scalar.addi arg15 c1_i32_121
  let v275 : BitVec 1 := Scalar.cmpi .slt v274 v138
  let c512_i32_36 : BitVec 32 := 512#32
  let c2048_i32 : BitVec 32 := 2048#32
  let v81 : BitVec 32 := Scalar.muli v78 c2048_i32
  let v82 : BitVec 32 := Scalar.addi c512_i32_36 v81
  let c1024_i32 : BitVec 32 := 1024#32
  let v111 : BitVec 32 := Scalar.muli v108 c1024_i32
  let v112 : BitVec 32 := Scalar.addi v82 v111
  let c512_i32_110 : BitVec 32 := 512#32
  let v254 : BitVec 32 := Scalar.muli arg15 c512_i32_110
  let v255 : BitVec 32 := Scalar.addi v112 v254
  let v256 : BitVec 32 := v255
  let c512_i32_122 : BitVec 32 := 512#32
  let v276 : BitVec 32 := Scalar.addi v256 c512_i32_122
  let c1_i32_62 : BitVec 32 := 1#32
  let v139 : BitVec 32 := Scalar.muli v138 c1_i32_62
  let v140 : BitVec 32 := Scalar.subi v110 v139
  let c0_i32_64 : BitVec 32 := 0#32
  let v143 : BitVec 1 := Scalar.cmpi .sgt v140 c0_i32_64
  let c512_i32_63 : BitVec 32 := 512#32
  let v141 : BitVec 32 := Scalar.muli v138 c512_i32_63
  let v142 : BitVec 32 := Scalar.addi v112 v141
  let c512_i32 : BitVec 32 := 512#32
  let v22 : BitVec 32 := Scalar.muli arg2 c512_i32
  let v23 : BitVec 32 := v22
  let v144 : BitVec 32 := Scalar.select v143 v142 v23
  let v277 : BitVec 32 := Scalar.select v275 v276 v144
  v277
def k0_off25 (i : grid0.Coords) (k0_t7 : Fin (k0_t7_loop i).trips) : Fin 2 → Nat :=
  let c0_i32_65 : BitVec 32 := 0#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c0_i32_29 : BitVec 32 := 0#32
  let v63 : BitVec 1 := Scalar.cmpi .sgt v43 c0_i32_29
  let v64 : BitVec 32 := Scalar.extui v63
  let c0_i32_30 : BitVec 32 := 0#32
  let v65 : BitVec 1 := Scalar.cmpi .slt v43 c0_i32_30
  let v66 : BitVec 32 := Scalar.extui v65
  let v67 : BitVec 32 := Scalar.subi v64 v66
  let c4_i32 : BitVec 32 := 4#32
  let c0_i32_31 : BitVec 32 := 0#32
  let v68 : BitVec 1 := Scalar.cmpi .sgt c4_i32 c0_i32_31
  let v69 : BitVec 32 := Scalar.extui v68
  let c0_i32_32 : BitVec 32 := 0#32
  let v70 : BitVec 1 := Scalar.cmpi .slt c4_i32 c0_i32_32
  let v71 : BitVec 32 := Scalar.extui v70
  let v72 : BitVec 32 := Scalar.subi v69 v71
  let v73 : BitVec 1 := Scalar.cmpi .ne v67 v72
  let v74 : BitVec 32 := Scalar.remsi v43 c4_i32
  let c0_i32_33 : BitVec 32 := 0#32
  let v75 : BitVec 1 := Scalar.cmpi .ne v74 c0_i32_33
  let v76 : BitVec 1 := Scalar.andi v73 v75
  let v62 : BitVec 32 := Scalar.divsi v43 c4_i32
  let c1_i32_34 : BitVec 32 := 1#32
  let v77 : BitVec 32 := Scalar.subi v62 c1_i32_34
  let v78 : BitVec 32 := Scalar.select v76 v77 v62
  let c4_i32_35 : BitVec 32 := 4#32
  let v79 : BitVec 32 := Scalar.muli v78 c4_i32_35
  let v80 : BitVec 32 := Scalar.subi v43 v79
  let c0_i32_43 : BitVec 32 := 0#32
  let v93 : BitVec 1 := Scalar.cmpi .sgt v80 c0_i32_43
  let v94 : BitVec 32 := Scalar.extui v93
  let c0_i32_44 : BitVec 32 := 0#32
  let v95 : BitVec 1 := Scalar.cmpi .slt v80 c0_i32_44
  let v96 : BitVec 32 := Scalar.extui v95
  let v97 : BitVec 32 := Scalar.subi v94 v96
  let c2_i32_42 : BitVec 32 := 2#32
  let c0_i32_45 : BitVec 32 := 0#32
  let v98 : BitVec 1 := Scalar.cmpi .sgt c2_i32_42 c0_i32_45
  let v99 : BitVec 32 := Scalar.extui v98
  let c0_i32_46 : BitVec 32 := 0#32
  let v100 : BitVec 1 := Scalar.cmpi .slt c2_i32_42 c0_i32_46
  let v101 : BitVec 32 := Scalar.extui v100
  let v102 : BitVec 32 := Scalar.subi v99 v101
  let v103 : BitVec 1 := Scalar.cmpi .ne v97 v102
  let v104 : BitVec 32 := Scalar.remsi v80 c2_i32_42
  let c0_i32_47 : BitVec 32 := 0#32
  let v105 : BitVec 1 := Scalar.cmpi .ne v104 c0_i32_47
  let v106 : BitVec 1 := Scalar.andi v103 v105
  let v92 : BitVec 32 := Scalar.divsi v80 c2_i32_42
  let c1_i32_48 : BitVec 32 := 1#32
  let v107 : BitVec 32 := Scalar.subi v92 c1_i32_48
  let v108 : BitVec 32 := Scalar.select v106 v107 v92
  let c2_i32_49 : BitVec 32 := 2#32
  let v109 : BitVec 32 := Scalar.muli v108 c2_i32_49
  let v110 : BitVec 32 := Scalar.subi v80 v109
  let c0_i32_56 : BitVec 32 := 0#32
  let v123 : BitVec 1 := Scalar.cmpi .sgt v110 c0_i32_56
  let v124 : BitVec 32 := Scalar.extui v123
  let c0_i32_57 : BitVec 32 := 0#32
  let v125 : BitVec 1 := Scalar.cmpi .slt v110 c0_i32_57
  let v126 : BitVec 32 := Scalar.extui v125
  let v127 : BitVec 32 := Scalar.subi v124 v126
  let c1_i32_55 : BitVec 32 := 1#32
  let c0_i32_58 : BitVec 32 := 0#32
  let v128 : BitVec 1 := Scalar.cmpi .sgt c1_i32_55 c0_i32_58
  let v129 : BitVec 32 := Scalar.extui v128
  let c0_i32_59 : BitVec 32 := 0#32
  let v130 : BitVec 1 := Scalar.cmpi .slt c1_i32_55 c0_i32_59
  let v131 : BitVec 32 := Scalar.extui v130
  let v132 : BitVec 32 := Scalar.subi v129 v131
  let v133 : BitVec 1 := Scalar.cmpi .ne v127 v132
  let v134 : BitVec 32 := Scalar.remsi v110 c1_i32_55
  let c0_i32_60 : BitVec 32 := 0#32
  let v135 : BitVec 1 := Scalar.cmpi .ne v134 c0_i32_60
  let v136 : BitVec 1 := Scalar.andi v133 v135
  let v122 : BitVec 32 := Scalar.divsi v110 c1_i32_55
  let c1_i32_61 : BitVec 32 := 1#32
  let v137 : BitVec 32 := Scalar.subi v122 c1_i32_61
  let v138 : BitVec 32 := Scalar.select v136 v137 v122
  let v145 : BitVec 32 := Scalar.subi v138 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let c1_i32_68 : BitVec 32 := 1#32
  let arg15 : BitVec 32 := Scf.iv v149 c1_i32_68 k0_t7
  let c1_i32_121 : BitVec 32 := 1#32
  let v274 : BitVec 32 := Scalar.addi arg15 c1_i32_121
  let v275 : BitVec 1 := Scalar.cmpi .slt v274 v138
  let c512_i32_36 : BitVec 32 := 512#32
  let c2048_i32 : BitVec 32 := 2048#32
  let v81 : BitVec 32 := Scalar.muli v78 c2048_i32
  let v82 : BitVec 32 := Scalar.addi c512_i32_36 v81
  let c1024_i32 : BitVec 32 := 1024#32
  let v111 : BitVec 32 := Scalar.muli v108 c1024_i32
  let v112 : BitVec 32 := Scalar.addi v82 v111
  let c512_i32_110 : BitVec 32 := 512#32
  let v254 : BitVec 32 := Scalar.muli arg15 c512_i32_110
  let v255 : BitVec 32 := Scalar.addi v112 v254
  let v256 : BitVec 32 := v255
  let c512_i32_122 : BitVec 32 := 512#32
  let v276 : BitVec 32 := Scalar.addi v256 c512_i32_122
  let c1_i32_62 : BitVec 32 := 1#32
  let v139 : BitVec 32 := Scalar.muli v138 c1_i32_62
  let v140 : BitVec 32 := Scalar.subi v110 v139
  let c0_i32_64 : BitVec 32 := 0#32
  let v143 : BitVec 1 := Scalar.cmpi .sgt v140 c0_i32_64
  let c512_i32_63 : BitVec 32 := 512#32
  let v141 : BitVec 32 := Scalar.muli v138 c512_i32_63
  let v142 : BitVec 32 := Scalar.addi v112 v141
  let c512_i32 : BitVec 32 := 512#32
  let v22 : BitVec 32 := Scalar.muli arg2 c512_i32
  let v23 : BitVec 32 := v22
  let v144 : BitVec 32 := Scalar.select v143 v142 v23
  let v277 : BitVec 32 := Scalar.select v275 v276 v144
  let v278 : BitVec 32 := v277
  let v279 : Index := Scalar.indexCast v278
  let c0_123 : Index := 0#32
  ![v279.toNat, 0]
def k0_mult24 (i : grid0.Coords) : BitVec 32 :=
  let c512_i32_70 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c512_i32_69 : BitVec 32 := 512#32
  let v152 : BitVec 32 := Scalar.muli v43 c512_i32_69
  let v153 : BitVec 32 := Scalar.addi c512_i32_70 v152
  v153
def k0_off26 (i : grid0.Coords) : Fin 2 → Nat :=
  let c512_i32_70 : BitVec 32 := 512#32
  let c2_i32 : BitVec 32 := 2#32
  let arg2 : BitVec 32 := BitVec.ofNat 32 (i 2).val
  let v19 : BitVec 32 := Scalar.muli c2_i32 arg2
  let c1_i32 : BitVec 32 := 1#32
  let v20 : BitVec 32 := Scalar.subi v19 c1_i32
  let c0_i32_5 : BitVec 32 := 0#32
  let v21 : BitVec 32 := Scalar.maxsi v20 c0_i32_5
  let c0_i32_10 : BitVec 32 := 0#32
  let v28 : BitVec 1 := Scalar.cmpi .sgt v21 c0_i32_10
  let v29 : BitVec 32 := Scalar.extui v28
  let c0_i32_11 : BitVec 32 := 0#32
  let v30 : BitVec 1 := Scalar.cmpi .slt v21 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v21 c2_i32_9
  let c0_i32_14 : BitVec 32 := 0#32
  let v40 : BitVec 1 := Scalar.cmpi .ne v39 c0_i32_14
  let v41 : BitVec 1 := Scalar.andi v38 v40
  let v27 : BitVec 32 := Scalar.divsi v21 c2_i32_9
  let c1_i32_15 : BitVec 32 := 1#32
  let v42 : BitVec 32 := Scalar.subi v27 c1_i32_15
  let v43 : BitVec 32 := Scalar.select v41 v42 v27
  let c512_i32_69 : BitVec 32 := 512#32
  let v152 : BitVec 32 := Scalar.muli v43 c512_i32_69
  let v153 : BitVec 32 := Scalar.addi c512_i32_70 v152
  let v154 : BitVec 32 := v153
  let c512_i32_75 : BitVec 32 := 512#32
  let v157 : BitVec 32 := Scalar.subi v154 c512_i32_75
  let v158 : Index := Scalar.indexCast v157
  let c0_76 : Index := 0#32
  ![v158.toNat, 0]
def k0_off27 (i : grid0.Coords) : Fin 2 → Nat :=
  let arg2 : BitVec 32 := BitVec.ofNat 32 (i 2).val
  let c512_i32 : BitVec 32 := 512#32
  let v22 : BitVec 32 := Scalar.muli arg2 c512_i32
  let v23 : BitVec 32 := v22
  let v184 : Index := Scalar.indexCast v23
  let c0_88 : Index := 0#32
  ![v184.toNat, 0]
def k0_off28 (i : grid0.Coords) : Fin 2 → Nat :=
  let arg2 : BitVec 32 := BitVec.ofNat 32 (i 2).val
  let c512_i32 : BitVec 32 := 512#32
  let v22 : BitVec 32 := Scalar.muli arg2 c512_i32
  let v23 : BitVec 32 := v22
  let c512_i32_8 : BitVec 32 := 512#32
  let v26 : BitVec 32 := Scalar.addi v23 c512_i32_8
  let v188 : Index := Scalar.indexCast v26
  let c0_90 : Index := 0#32
  ![v188.toNat, 0]
def k0_off29 (i : grid0.Coords) : Fin 2 → Nat :=
  let arg2 : BitVec 32 := BitVec.ofNat 32 (i 2).val
  let c512_i32 : BitVec 32 := 512#32
  let v22 : BitVec 32 := Scalar.muli arg2 c512_i32
  let v23 : BitVec 32 := v22
  let c512_i32_8 : BitVec 32 := 512#32
  let v26 : BitVec 32 := Scalar.addi v23 c512_i32_8
  let v206 : Index := Scalar.indexCast v26
  let c0_95 : Index := 0#32
  ![v206.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "qscale" => some (((1 / 8) * (Real.log 2)⁻¹ : ℝ) : EReal)
  | _ => none
-- ==== ReferenceIdeal.lean ====
abbrev S16384x2840 : Shape := ⟨2, ![16384, 2840]⟩
abbrev S32x16 : Shape := ⟨2, ![32, 16]⟩
abbrev S64 : Shape := ⟨1, ![64]⟩
abbrev S128 : Shape := ⟨1, ![128]⟩
abbrev S2x8192x2840 : Shape := ⟨3, ![2, 8192, 2840]⟩
abbrev S2x8192x512 : Shape := ⟨3, ![2, 8192, 512]⟩
abbrev S2x8192x128 : Shape := ⟨3, ![2, 8192, 128]⟩
abbrev S2x8192x24 : Shape := ⟨3, ![2, 8192, 24]⟩
abbrev S_ : Shape := ⟨0, ![]⟩
abbrev S2x8192x4x2x64 : Shape := ⟨5, ![2, 8192, 4, 2, 64]⟩
abbrev S2x8192x4x128 : Shape := ⟨4, ![2, 8192, 4, 128]⟩
abbrev S32x4 : Shape := ⟨2, ![32, 4]⟩
abbrev S4x32 : Shape := ⟨2, ![4, 32]⟩
abbrev S2x2x4x8192x64 : Shape := ⟨5, ![2, 2, 4, 8192, 64]⟩
abbrev S2x4x8192x128 : Shape := ⟨4, ![2, 4, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x2x4x8192x8192 : Shape := ⟨5, ![2, 2, 4, 8192, 8192]⟩
abbrev S8192x8192x1 : Shape := ⟨3, ![8192, 8192, 1]⟩
abbrev S4x8192x8192 : Shape := ⟨3, ![4, 8192, 8192]⟩
abbrev S1x1x4x8192x8192 : Shape := ⟨5, ![1, 1, 4, 8192, 8192]⟩
abbrev S2x2x4x8192 : Shape := ⟨4, ![2, 2, 4, 8192]⟩
abbrev S2x2x4x8192x1 : Shape := ⟨5, ![2, 2, 4, 8192, 1]⟩
abbrev S2x1x4x8192x8192 : Shape := ⟨5, ![2, 1, 4, 8192, 8192]⟩
abbrev S2x4x8192x8192 : Shape := ⟨4, ![2, 4, 8192, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S16384x512 : Shape := ⟨2, ![16384, 512]⟩

abbrev nBuf : Space → Nat
  | .hbm => 147
  | .vmem => 0
  | .smem => 0
  | _ => 0

abbrev hbmTy0_0 (i : Nat) : BufTy := match i % 128 with
  | 0 => ⟨S16384x2840, .f32⟩
  | 1 => ⟨S32x16, .f32⟩
  | 2 => ⟨S64, .f32⟩
  | 3 => ⟨S64, .f32⟩
  | 4 => ⟨S64, .f32⟩
  | 5 => ⟨S64, .f32⟩
  | 6 => ⟨S128, .f32⟩
  | 7 => ⟨S2x8192x2840, .f32⟩
  | 8 => ⟨S2x8192x512, .f32⟩
  | 9 => ⟨S2x8192x128, .f32⟩
  | 10 => ⟨S2x8192x128, .f32⟩
  | 11 => ⟨S2x8192x128, .f32⟩
  | 12 => ⟨S2x8192x128, .f32⟩
  | 13 => ⟨S2x8192x128, .f32⟩
  | 14 => ⟨S2x8192x128, .f32⟩
  | 15 => ⟨S2x8192x24, .f32⟩
  | 16 => ⟨S2x8192x512, .f32⟩
  | 17 => ⟨S2x8192x512, .f32⟩
  | 18 => ⟨S2x8192x512, .f32⟩
  | 19 => ⟨S64, .f32⟩
  | 20 => ⟨S_, .f32⟩
  | 21 => ⟨S_, .f32⟩
  | 22 => ⟨S_, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S2x8192x4x2x64, .f32⟩
  | 31 => ⟨S2x8192x4x2x64, .f32⟩
  | 32 => ⟨S2x8192x4x128, .f32⟩
  | 33 => ⟨S32x4, .f32⟩
  | 34 => ⟨S4x32, .f32⟩
  | 35 => ⟨S2x2x4x8192x64, .f32⟩
  | 36 => ⟨S2x2x4x8192x64, .f32⟩
  | 37 => ⟨S2x4x8192x128, .f32⟩
  | 38 => ⟨S8192, .i32⟩
  | 39 => ⟨S8192, .i32⟩
  | 40 => ⟨S8192x1, .i32⟩
  | 41 => ⟨S1x8192, .i32⟩
  | 42 => ⟨S8192x8192, .i32⟩
  | 43 => ⟨S8192x8192, .i32⟩
  | 44 => ⟨S8192x8192, .i32⟩
  | 45 => ⟨S2x2x4x8192x8192, .f32⟩
  | 46 => ⟨S_, .f32⟩
  | 47 => ⟨S2x2x4x8192x8192, .f32⟩
  | 48 => ⟨S2x2x4x8192x8192, .f32⟩
  | 49 => ⟨S_, .i32⟩
  | 50 => ⟨S8192x8192, .i32⟩
  | 51 => ⟨S8192x8192, .i32⟩
  | 52 => ⟨S_, .i32⟩
  | 53 => ⟨S8192x8192, .i32⟩
  | 54 => ⟨S8192x8192, .i32⟩
  | 55 => ⟨S8192x8192, .f32⟩
  | 56 => ⟨S_, .f32⟩
  | 57 => ⟨S8192x8192, .f32⟩
  | 58 => ⟨S8192x8192, .f32⟩
  | 59 => ⟨S8192x8192, .f32⟩
  | 60 => ⟨S_, .f32⟩
  | 61 => ⟨S8192x8192, .f32⟩
  | 62 => ⟨S8192x8192, .f32⟩
  | 63 => ⟨S_, .f32⟩
  | 64 => ⟨S8192x8192, .f32⟩
  | 65 => ⟨S8192x8192, .f32⟩
  | 66 => ⟨S8192x8192, .i32⟩
  | 67 => ⟨S_, .i32⟩
  | 68 => ⟨S8192x8192, .i32⟩
  | 69 => ⟨S8192x8192, .i32⟩
  | 70 => ⟨S_, .i32⟩
  | 71 => ⟨S8192x8192, .i32⟩
  | 72 => ⟨S8192x8192, .i32⟩
  | 73 => ⟨S_, .i32⟩
  | 74 => ⟨S8192x8192, .i32⟩
  | 75 => ⟨S8192x8192, .i1⟩
  | 76 => ⟨S8192x8192, .i32⟩
  | 77 => ⟨S_, .i32⟩
  | 78 => ⟨S8192x8192, .i32⟩
  | 79 => ⟨S8192x8192, .i1⟩
  | 80 => ⟨S_, .i32⟩
  | 81 => ⟨S8192x8192, .i32⟩
  | 82 => ⟨S8192x8192, .i32⟩
  | 83 => ⟨S8192x8192, .i32⟩
  | 84 => ⟨S8192x8192x1, .i32⟩
  | 85 => ⟨S4x8192x8192, .f32⟩
  | 86 => ⟨S1x1x4x8192x8192, .f32⟩
  | 87 => ⟨S2x2x4x8192x8192, .f32⟩
  | 88 => ⟨S2x2x4x8192x8192, .f32⟩
  | 89 => ⟨S_, .i32⟩
  | 90 => ⟨S8192x8192, .i32⟩
  | 91 => ⟨S8192x8192, .i1⟩
  | 92 => ⟨S_, .f32⟩
  | 93 => ⟨S_, .f32⟩
  | 94 => ⟨S2x2x4x8192x8192, .i1⟩
  | 95 => ⟨S2x2x4x8192x8192, .f32⟩
  | 96 => ⟨S2x2x4x8192x8192, .f32⟩
  | 97 => ⟨S_, .f32⟩
  | 98 => ⟨S2x2x4x8192, .f32⟩
  | 99 => ⟨S2x2x4x8192x1, .f32⟩
  | 100 => ⟨S2x2x4x8192x8192, .f32⟩
  | 101 => ⟨S2x2x4x8192x8192, .f32⟩
  | 102 => ⟨S2x2x4x8192x8192, .f32⟩
  | 103 => ⟨S_, .f32⟩
  | 104 => ⟨S_, .f32⟩
  | 105 => ⟨S2x2x4x8192x8192, .i1⟩
  | 106 => ⟨S2x2x4x8192x8192, .f32⟩
  | 107 => ⟨S2x2x4x8192x8192, .f32⟩
  | 108 => ⟨S_, .f32⟩
  | 109 => ⟨S2x2x4x8192, .f32⟩
  | 110 => ⟨S2x2x4x8192x1, .f32⟩
  | 111 => ⟨S_, .f32⟩
  | 112 => ⟨S2x2x4x8192x1, .f32⟩
  | 113 => ⟨S2x2x4x8192x1, .f32⟩
  | 114 => ⟨S2x2x4x8192x8192, .f32⟩
  | 115 => ⟨S2x2x4x8192x8192, .f32⟩
  | 116 => ⟨S2x1x4x8192x8192, .f32⟩
  | 117 => ⟨S2x4x8192x8192, .f32⟩
  | 118 => ⟨S2x1x4x8192x8192, .f32⟩
  | 119 => ⟨S2x4x8192x8192, .f32⟩
  | 120 => ⟨S2x4x8192x8192, .f32⟩
  | 121 => ⟨S2x4x8192x8192, .f32⟩
  | 122 => ⟨S2x4x8192x8192, .f32⟩
  | 123 => ⟨S2x4x8192x128, .f32⟩
  | 124 => ⟨S2x8192x4x128, .f32⟩
  | 125 => ⟨S2x8192x4x128, .f32⟩
  | 126 => ⟨S_, .f32⟩
  | 127 => ⟨S2x8192x4, .f32⟩
  | _ => ⟨S16384x2840, .f32⟩

abbrev hbmTy0_1 (i : Nat) : BufTy := match i % 128 with
  | 0 => ⟨S2x8192x4x1, .f32⟩
  | 1 => ⟨S_, .f32⟩
  | 2 => ⟨S2x8192x4x1, .f32⟩
  | 3 => ⟨S2x8192x4x1, .f32⟩
  | 4 => ⟨S_, .f32⟩
  | 5 => ⟨S2x8192x4x1, .f32⟩
  | 6 => ⟨S2x8192x4x1, .f32⟩
  | 7 => ⟨S2x8192x4x1, .f32⟩
  | 8 => ⟨S2x8192x4x128, .f32⟩
  | 9 => ⟨S2x8192x4x128, .f32⟩
  | 10 => ⟨S1x1x1x128, .f32⟩
  | 11 => ⟨S2x8192x4x128, .f32⟩
  | 12 => ⟨S2x8192x4x128, .f32⟩
  | 13 => ⟨S_, .f32⟩
  | 14 => ⟨S2x8192x4x128, .f32⟩
  | 15 => ⟨S2x8192x4x128, .f32⟩
  | 16 => ⟨S2x8192x512, .f32⟩
  | 17 => ⟨S16384x512, .f32⟩
  | 18 => ⟨S16384x512, .bf16⟩
  | _ => ⟨S16384x2840, .f32⟩

abbrev hbmTy (i : Nat) : BufTy := match i / 128 with
  | 0 => hbmTy0_0 i
  | 1 => hbmTy0_1 i
  | _ => ⟨S16384x2840, .f32⟩

abbrev bufTy : (tb : Table) → Fin (tcTables nBuf tb) → BufTy
  | .hbm, ⟨i, _⟩ => hbmTy i
  | _, _ => ⟨S16384x2840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_c_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_7 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_10 : Ref sig .tc := ⟨.hbm, 77, rfl⟩
abbrev main_v58 : Ref sig .tc := ⟨.hbm, 78, rfl⟩
abbrev main_v59 : Ref sig .tc := ⟨.hbm, 79, rfl⟩
abbrev main_c_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_21 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]
-- ==== Kernel2.lean ====
abbrev S16384x1024 : Shape := ⟨2, ![16384, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x512 : Shape := ⟨2, ![1024, 512]⟩
abbrev S1024x1 : Shape := ⟨2, ![1024, 1]⟩

abbrev nBuf : Space → Nat
  | .hbm => 22
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1024, .f32⟩
  | .hbm, ⟨13, _⟩ => ⟨S1x1024x4096, .f32⟩
  | .hbm, ⟨14, _⟩ => ⟨S1024x4096, .f32⟩
  | .hbm, ⟨15, _⟩ => ⟨S1024x4096, .bf16⟩
  | .hbm, ⟨16, _⟩ => ⟨S1x4096x1024, .f32⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S1x1024, .f32⟩
  | .hbm, ⟨21, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x1024 : Shape := ⟨2, ![16384, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024x4096, .f32⟩
  | .hbm, ⟨30, _⟩ => ⟨S1024x4096, .f32⟩
  | .hbm, ⟨31, _⟩ => ⟨S1x4096x1024, .f32⟩
  | .hbm, ⟨32, _⟩ => ⟨S4096x1024, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x512 : Shape := ⟨2, ![1024, 512]⟩
abbrev S1024x1 : Shape := ⟨2, ![1024, 1]⟩

abbrev nBuf : Space → Nat
  | .hbm => 23
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S512x1024, .bf16⟩
  | .hbm, ⟨11, _⟩ => ⟨S512x1024, .bf16⟩
  | .hbm, ⟨12, _⟩ => ⟨S1x1024, .f32⟩
  | .hbm, ⟨13, _⟩ => ⟨S1024, .f32⟩
  | .hbm, ⟨14, _⟩ => ⟨S1x1024x4096, .f32⟩
  | .hbm, ⟨15, _⟩ => ⟨S1024x4096, .f32⟩
  | .hbm, ⟨16, _⟩ => ⟨S1024x4096, .bf16⟩
  | .hbm, ⟨17, _⟩ => ⟨S1x4096x1024, .f32⟩
  | .hbm, ⟨18, _⟩ => ⟨S4096x1024, .f32⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S16384x1024, .bf16⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024x4096, .f32⟩
  | .hbm, ⟨32, _⟩ => ⟨S1024x4096, .f32⟩
  | .hbm, ⟨33, _⟩ => ⟨S1x4096x1024, .f32⟩
  | .hbm, ⟨34, _⟩ => ⟨S4096x1024, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel4.lean ====
abbrev S16384x1024 : Shape := ⟨2, ![16384, 1024]⟩
abbrev S2x1024 : Shape := ⟨2, ![2, 1024]⟩
abbrev S1x1024x3072 : Shape := ⟨3, ![1, 1024, 3072]⟩
abbrev S1024x3072 : Shape := ⟨2, ![1024, 3072]⟩
abbrev S1x1024 : Shape := ⟨2, ![1, 1024]⟩
abbrev S1024 : Shape := ⟨1, ![1024]⟩
abbrev S16384x3072 : Shape := ⟨2, ![16384, 3072]⟩
abbrev S1024x1024 : Shape := ⟨2, ![1024, 1024]⟩
abbrev S1024x1536 : Shape := ⟨2, ![1024, 1536]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1024x3072, .f32⟩
  | .hbm, ⟨4, _⟩ => ⟨S1x1024, .f32⟩
  | .hbm, ⟨5, _⟩ => ⟨S1024, .f32⟩
  | .hbm, ⟨6, _⟩ => ⟨S1024x3072, .bf16⟩
  | .hbm, ⟨7, _⟩ => ⟨S1x1024, .f32⟩
  | .hbm, ⟨8, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x1024 : Shape := ⟨2, ![16384, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x3072, .f32⟩
  | .hbm, ⟨22, _⟩ => ⟨S16384x3072, .f32⟩
  | .hbm, ⟨23, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S16384x1024 : Shape := ⟨2, ![16384, 1024]⟩
abbrev S2x1024 : Shape := ⟨2, ![2, 1024]⟩
abbrev S1x1024x2840 : Shape := ⟨3, ![1, 1024, 2840]⟩
abbrev S1024x2840 : Shape := ⟨2, ![1024, 2840]⟩
abbrev S1024x512 : Shape := ⟨2, ![1024, 512]⟩
abbrev S1024x1536 : Shape := ⟨2, ![1024, 1536]⟩
abbrev S1024x2560 : Shape := ⟨2, ![1024, 2560]⟩
abbrev S1024x256 : Shape := ⟨2, ![1024, 256]⟩
abbrev S1024x24 : Shape := ⟨2, ![1024, 24]⟩
abbrev S_ : Shape := ⟨0, ![]⟩
abbrev S1024x104 : Shape := ⟨2, ![1024, 104]⟩
abbrev S1024x384 : Shape := ⟨2, ![1024, 384]⟩
abbrev S1x1024 : Shape := ⟨2, ![1, 1024]⟩
abbrev S1024 : Shape := ⟨1, ![1024]⟩
abbrev S16384x2560 : Shape := ⟨2, ![16384, 2560]⟩
abbrev S16384x64 : Shape := ⟨2, ![16384, 64]⟩
abbrev S16384x128 : Shape := ⟨2, ![16384, 128]⟩
abbrev S1024x1024 : Shape := ⟨2, ![1024, 1024]⟩
abbrev S1024x1280 : Shape := ⟨2, ![1024, 1280]⟩
abbrev S1024x64 : Shape := ⟨2, ![1024, 64]⟩
abbrev S1024x128 : Shape := ⟨2, ![1024, 128]⟩
abbrev S1024x1 : Shape := ⟨2, ![1024, 1]⟩

abbrev nBuf : Space → Nat
  | .hbm => 24
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2840, .f32⟩
  | .hbm, ⟨3, _⟩ => ⟨S1024x2840, .f32⟩
  | .hbm, ⟨4, _⟩ => ⟨S1024x512, .f32⟩
  | .hbm, ⟨5, _⟩ => ⟨S1024x512, .f32⟩
  | .hbm, ⟨6, _⟩ => ⟨S1024x1536, .f32⟩
  | .hbm, ⟨7, _⟩ => ⟨S1024x2560, .f32⟩
  | .hbm, ⟨8, _⟩ => ⟨S1024x2560, .bf16⟩
  | .hbm, ⟨9, _⟩ => ⟨S1024x256, .f32⟩
  | .hbm, ⟨10, _⟩ => ⟨S1024x24, .f32⟩
  | .hbm, ⟨11, _⟩ => ⟨S_, .f32⟩
  | .hbm, ⟨12, _⟩ => ⟨S1024x104, .f32⟩
  | .hbm, ⟨13, _⟩ => ⟨S1024x384, .f32⟩
  | .hbm, ⟨14, _⟩ => ⟨S1024x384, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S16384x2560, .bf16⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x384, .bf16⟩
  | .local _ .vmem, ⟨6, _⟩ => ⟨S1024x1280, .bf16⟩
  | .local _ .vmem, ⟨7, _⟩ => ⟨S1024x1280, .bf16⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x128, .f32⟩
  | .local _ .vmem, ⟨17, _⟩ => ⟨S1024x128, .f32⟩
  | .local _ .vmem, ⟨18, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev main_v14_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S16384x1024 : Shape := ⟨2, ![16384, 1024]⟩
abbrev S2x1024 : Shape := ⟨2, ![2, 1024]⟩
abbrev S1x1024x2840 : Shape := ⟨3, ![1, 1024, 2840]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2840 : Shape := ⟨2, ![1024, 2840]⟩
abbrev S16384x2840 : Shape := ⟨2, ![16384, 2840]⟩
abbrev S16384x512 : Shape := ⟨2, ![16384, 512]⟩
abbrev S16384x128 : Shape := ⟨2, ![16384, 128]⟩
abbrev S16384x24 : Shape := ⟨2, ![16384, 24]⟩
abbrev S16384x2560 : Shape := ⟨2, ![16384, 2560]⟩
abbrev S16384x64 : Shape := ⟨2, ![16384, 64]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2840, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x2840, .f32⟩
  | .hbm, ⟨22, _⟩ => ⟨S16384x2840, .f32⟩
  | .hbm, ⟨23, _⟩ => ⟨S16384x512, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S16384x24, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x2560, .f32⟩
  | .hbm, ⟨35, _⟩ => ⟨S16384x2560, .bf16⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S_, .i32⟩
  | .hbm, ⟨41, _⟩ => ⟨S_, .f32⟩
  | .hbm, ⟨42, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_call0_v0 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.DiffLoopI.lean ====
/- The loops of the differential attention: one pass of each counted loop as so many plain steps on the running maximum,
   the accumulated values, the weights and the scores. -/
module

public import proofs.«01_k».proof.Proof.Gen.KernelIdeal.Skeleton
public import proofs.«01_k».proof.Proof.Gen.KernelIdeal.Frame
public import Idealize.ShloMosaic.Lib.Claim
public import Idealize.ShloMosaic.Lib.Pipeline.Value
public import Idealize.ShloMosaic.Lib.WritesUnit
public import Idealize.ShloMosaic.Lib.LoopRemainder
public import Idealize.ShloMosaic.Lib.Pointwise

@[expose] public section

set_option maxRecDepth 16384

noncomputable section

namespace Cert.KernelIdeal.Dif

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz : (![0, 0] : Fin 2 → Nat) = fun _ => 0 := by
  funext a
  match a with
  | 0 => rfl
  | 1 => rfl

/-! ## Where the accesses lie -/

theorem trips2 : ∀ i : grid0.Coords, (k0_t2_loop i).trips = ((i 2).val - 1) / 4 := by decide +kernel
theorem trips4 : ∀ i : grid0.Coords, (k0_t4_loop i).trips = ((i 2).val - 1) % 4 / 2 := by decide +kernel
theorem trips6 : ∀ i : grid0.Coords, (k0_t6_loop i).trips = ((i 2).val - 1) % 2 := by decide +kernel
theorem trips3 : ∀ i : grid0.Coords, (k0_t3_loop i).trips = 0 := by decide +kernel
theorem trips5 : ∀ i : grid0.Coords, (k0_t5_loop i).trips = 0 := by decide +kernel
theorem trips7 : ∀ i : grid0.Coords, (k0_t7_loop i).trips = 0 := by decide +kernel
theorem off5_eq : ∀ i : grid0.Coords, k0_off5 i = ![512 * min (i 2).val 1, 0] := by decide +kernel
theorem off6_eq : ∀ (i : grid0.Coords) (k : Fin (k0_t2_loop i).trips), k0_off6 i k = ![512 * (4 * k.val), 0] := by decide +kernel
theorem off7_eq : ∀ (i : grid0.Coords) (k : Fin (k0_t2_loop i).trips), k0_off7 i k 512#32 = ![512 * (4 * k.val + 2), 0] ∧ k0_off7 i k 1024#32 = ![512 * (4 * k.val + 3), 0]
    ∧ k0_off7 i k 1536#32 = ![512 * (4 * k.val + 4), 0] := by decide +kernel
theorem off8_eq : ∀ (i : grid0.Coords) (k : Fin (k0_t2_loop i).trips), k0_off8 i k 0#32 = ![512 * (4 * k.val + 1), 0] ∧ k0_off8 i k 512#32 = ![512 * (4 * k.val + 2), 0]
    ∧ k0_off8 i k 1024#32 = ![512 * (4 * k.val + 3), 0] := by decide +kernel
theorem off9_eq : ∀ (i : grid0.Coords) (k : Fin (k0_t2_loop i).trips), k0_off9 i k = ![512 * (4 * k.val + 5), 0] := by decide +kernel
theorem off14_eq : ∀ (i : grid0.Coords) (k : Fin (k0_t4_loop i).trips), k0_off14 i k = ![512 * (4 * (((i 2).val - 1) / 4) + 2 * k.val), 0] := by decide +kernel
theorem off15_eq : ∀ (i : grid0.Coords) (k : Fin (k0_t4_loop i).trips), k0_off15 i k = ![512 * (4 * (((i 2).val - 1) / 4) + 2 * k.val + 2), 0] := by decide +kernel
theorem off16_eq : ∀ (i : grid0.Coords) (k : Fin (k0_t4_loop i).trips), k0_off16 i k = ![512 * (4 * (((i 2).val - 1) / 4) + 2 * k.val + 1), 0] := by decide +kernel
theorem off17_eq : ∀ (i : grid0.Coords) (k : Fin (k0_t4_loop i).trips), k0_off17 i k = ![512 * (4 * (((i 2).val - 1) / 4) + 2 * k.val + 3), 0] := by decide +kernel
theorem off22_eq : ∀ (i : grid0.Coords) (k : Fin (k0_t6_loop i).trips), k0_off22 i k = ![512 * (4 * (((i 2).val - 1) / 4) + 2 * (((i 2).val - 1) % 4 / 2) + k.val), 0] := by decide +kernel
theorem off23_eq : ∀ (i : grid0.Coords) (k : Fin (k0_t6_loop i).trips), k0_off23 i k = ![512 * (4 * (((i 2).val - 1) / 4) + 2 * (((i 2).val - 1) % 4 / 2) + k.val + 2), 0] := by decide +kernel
theorem off26_eq : ∀ i : grid0.Coords, k0_off26 i = ![512 * ((i 2).val - 1), 0] := by decide +kernel

/-! ## Reads and whole stores -/

/-- One store of a whole buffer leaves its payload, whatever the buffer held. -/
theorem read_store {S : Shape} {e : EltTy} {off : Fin S.rank → Nat} (h : off = fun _ => 0)
    (inb : ∀ a, off a + S.size a ≤ S.size a) {sp : Space} (v : View sig .tc sp S e) (f : v.ty.Contents (Elt F)) (w : S.Idx → Elt F e) :
    v.read (Elt F) (v.writes (Elt F) f [⟨Rect.unit off S.size inb, w⟩]) = w := by
  subst h
  exact View.read_writes_whole v f w

/-! A load of a whole buffer reads what it holds. -/
theorem ld_acc {e : EltTy} (X : Vec F S1024x256 e) (h) : View.ld (Val := Elt F) X (Rect.unit (s := S1024x256) ![0, 0] ![1024, 256] h) = X :=
  View.ld_unit_zero (S := S1024x256) hz h X
theorem ld_p {e : EltTy} (X : Vec F S1024x512 e) (h) : View.ld (Val := Elt F) X (Rect.unit (s := S1024x512) ![0, 0] ![1024, 512] h) = X :=
  View.ld_unit_zero (S := S1024x512) hz h X
theorem ld_q {e : EltTy} (X : Vec F S512x128 e) (h) : View.ld (Val := Elt F) X (Rect.unit (s := S512x128) ![0, 0] ![512, 128] h) = X :=
  View.ld_unit_zero (S := S512x128) hz h X
theorem ld_lam {e : EltTy} (X : Vec F S4x64 e) (h) : View.ld (Val := Elt F) X (Rect.unit (s := S4x64) ![0, 0] ![4, 64] h) = X :=
  View.ld_unit_zero (S := S4x64) hz h X
theorem ld_sub {e : EltTy} (X : Vec F S1x128 e) (h) : View.ld (Val := Elt F) X (Rect.unit (s := S1x128) ![0, 0] ![1, 128] h) = X :=
  View.ld_unit_zero (S := S1x128) hz h X

/-- Block `n` of 512 rows of the values kept. -/
def vt (X : Vec F S8704x256 .bf16) (n : ℕ) : Vec F S512x256 .bf16 := fun j => X (ix2 ⟨(512 * n + (j 0).val) % 8704, Nat.mod_lt _ (by decide)⟩ (j 1))
/-- Block `n` of 512 rows of the keys kept. -/
def kt (X : Vec F S8704x128 .bf16) (n : ℕ) : Vec F S512x128 .bf16 := fun j => X (ix2 ⟨(512 * n + (j 0).val) % 8704, Nat.mod_lt _ (by decide)⟩ (j 1))

theorem ld_v {off : Fin 2 → ℕ} {n : ℕ} (h : off = ![512 * n, 0]) (X : Vec F S8704x256 .bf16) (hi) :
    View.ld (Val := Elt F) X (Rect.unit (s := S8704x256) off ![512, 256] hi) = vt X n := by
  subst h
  funext j
  have h0 : 512 * n + 512 ≤ 8704 := hi 0
  have hj : (j 0).val < 512 := (j 0).isLt
  refine congrArg X (funext fun a => Fin.ext ?_)
  match a with
  | ⟨0, _⟩ => show 512 * n + 1 * (j 0).val = (512 * n + (j 0).val) % 8704; omega
  | ⟨1, _⟩ => show 0 + 1 * (j 1).val = (j 1).val; omega
theorem ld_k {off : Fin 2 → ℕ} {n : ℕ} (h : off = ![512 * n, 0]) (X : Vec F S8704x128 .bf16) (hi) :
    View.ld (Val := Elt F) X (Rect.unit (s := S8704x128) off ![512, 128] hi) = kt X n := by
  subst h
  funext j
  have h0 : 512 * n + 512 ≤ 8704 := hi 0
  have hj : (j 0).val < 512 := (j 0).isLt
  refine congrArg X (funext fun a => Fin.ext ?_)
  match a with
  | ⟨0, _⟩ => show 512 * n + 1 * (j 0).val = (512 * n + (j 0).val) % 8704; omega
  | ⟨1, _⟩ => show 0 + 1 * (j 1).val = (j 1).val; omega

/-! ## One step -/

/-- What the loops carry: the running maximum, the accumulated values, the weights and the scores of the block at hand. -/
structure St (F : FTy → Type) where
  m : Vec F S1024x1 .f32
  acc : Vec F S1024x256 .f32
  p : Vec F S1024x512 .bf16
  s : Vec F S1024x512 .f32

/-- One step: take the weights' values in, rescale to the new maximum, turn the scores into weights, and score the next block. -/
def step (q : FVec F S1024x128 .bf16) (v : Vec F S512x256 .bf16) (k : Vec F S512x128 .bf16) (x : St F) : St F where
  m := k0_pay40 x.m x.s
  acc := k0_pay43 x.m x.acc x.p v x.s
  p := truncf .bf16 (exp2 (subf x.s (broadcastTo S1024x512 (k0_pay40 x.m x.s) broadcasts_S1024x1_S1024x512))) bitsLt_bf16_f32
  s := matmul dot_S1024x128_S512x128_S1024x512_1_1_0_0_n_n none q k (constant S1024x512 .f32 0x00000000#32)

/-- The state after `n` steps from `x`: step `j` takes value block `j` and scores key block `j + 2`. -/
def iter (q : FVec F S1024x128 .bf16) (kc : Vec F S8704x128 .bf16) (vc : Vec F S8704x256 .bf16) (x : St F) : ℕ → St F
  | 0 => x
  | n + 1 => step q (vt vc n) (kt kc (n + 2)) (iter q kc vc x n)

theorem iter_succ (q : FVec F S1024x128 .bf16) (kc : Vec F S8704x128 .bf16) (vc : Vec F S8704x256 .bf16) (x : St F) (n : ℕ) :
    iter q kc vc x (n + 1) = step q (vt vc n) (kt kc (n + 2)) (iter q kc vc x n) := rfl

section Trips
variable (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x768 .f32) (harg8 : arg8.IsWhole) (arg9 : Memref sig .tc .vmem S512x128 .bf16) (harg9 : arg9.IsWhole) (arg10 : Memref sig .tc .vmem S8704x128 .bf16) (harg10 : arg10.IsWhole) (arg11 : Memref sig .tc .vmem S8704x256 .bf16) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x256 .f32) (harg14 : arg14.IsWhole)

/-- The five kept buffers, at the keys, the values and a state. -/
def held (kc : Vec F S8704x128 .bf16) (vc : Vec F S8704x256 .bf16) (x : St F) : sProp 𝕄 :=
  iprop(owns (c : Thread nD τ) arg10 fullShare kc ∗ owns (c : Thread nD τ) arg11 fullShare vc ∗ owns (c : Thread nD τ) arg12 fullShare x.s
    ∗ owns (c : Thread nD τ) arg13 fullShare x.p ∗ owns (c : Thread nD τ) arg14 fullShare x.acc)

theorem trip6_eq (q : FVec F S1024x128 .bf16) (v : Vec F S512x256 .bf16) (k : Vec F S512x128 .bf16) (x : St F) :
    k0_pay41 q k = (step q v k x).s ∧ k0_pay42 x.m x.s = (step q v k x).p ∧ k0_pay70 (k0_pay43 x.m x.acc x.p v x.s) = (step q v k x).acc :=
  ⟨shapeCast_self _ _, shapeCast_self _ _, shapeCast_self _ _⟩

theorem trip4_eq (q : FVec F S1024x128 .bf16) (v v' : Vec F S512x256 .bf16) (k k' : Vec F S512x128 .bf16) (x : St F) :
    k0_pay64 q k' = (step q v' k' (step q v k x)).s ∧ k0_pay65 (k0_pay33 q x.m x.s k) = (step q v' k' (step q v k x)).p
    ∧ k0_pay66 (k0_pay30 x.m x.acc x.p v x.s v') (k0_pay32 q x.m x.s k) = (step q v' k' (step q v k x)).acc
    ∧ k0_pay31 q x.m x.s k = (step q v' k' (step q v k x)).m :=
  ⟨shapeCast_self _ _, shapeCast_self _ _, shapeCast_self _ _, rfl⟩

theorem trip2_eq (q : FVec F S1024x128 .bf16) (v v2 v3 v4 : Vec F S512x256 .bf16) (k k2 k3 k4 : Vec F S512x128 .bf16) (x : St F) :
    k0_pay58 q k4 = (step q v4 k4 (step q v3 k3 (step q v2 k2 (step q v k x)))).s
    ∧ k0_pay59 (k0_pay14 q (k0_pay5 q x.m x.s k) k2 k3) = (step q v4 k4 (step q v3 k3 (step q v2 k2 (step q v k x)))).p
    ∧ k0_pay60 (k0_pay11 q (k0_pay4 x.m x.acc x.p v x.s v2) (k0_pay5 q x.m x.s k) (k0_pay6 q x.m x.s k) (k0_pay7 q x.m x.s k) k2 v3 v4)
        (k0_pay13 q (k0_pay5 q x.m x.s k) k2 k3) = (step q v4 k4 (step q v3 k3 (step q v2 k2 (step q v k x)))).acc
    ∧ k0_pay12 q (k0_pay5 q x.m x.s k) k2 k3 = (step q v4 k4 (step q v3 k3 (step q v2 k2 (step q v k x)))).m :=
  ⟨shapeCast_self _ _, shapeCast_self _ _, shapeCast_self _ _, rfl⟩

set_option maxHeartbeats 2000000 in
/-- A pass of the last loop is one step. -/
theorem trip6 (q : FVec F S1024x128 .bf16) (v23 v43 v82 : BitVec 32) (v91 : FVec F S1024x1 .f32) (v108 v110 v112 v138 v144 : BitVec 32)
    (k : Fin (k0_t6_loop i).trips) (kc : Vec F S8704x128 .bf16) (vc : Vec F S8704x256 .bf16) (x : St F) (j : ℕ)
    (hj : j = 4 * (((i 2).val - 1) / 4) + 2 * (((i 2).val - 1) % 4 / 2) + k.val) (E : Set ℕ) (K : FVec F S1024x1 .f32 → sProp 𝕄) :
    iprop(held c arg10 arg11 arg12 arg13 arg14 kc vc x ∗ (held c arg10 arg11 arg12 arg13 arg14 kc vc (step q (vt vc j) (kt kc (j + 2)) x) -∗ K (step q (vt vc j) (kt kc (j + 2)) x).m))
      ⊢ wp frame (wpE (defs₀ (F := F)) Variants.none c none) E (k0_t6_body i arg3 harg3 arg4 harg4 arg5 harg5 arg6 harg6 arg7 harg7 arg8 harg8 arg9 harg9 arg10 harg10 arg11 harg11 arg12 harg12 arg13 harg13 arg14 harg14 q v23 v43 v82 v91 v108 v110 v112 v138 v144 k x.m) K := by
  have o22 := off22_eq i k
  have o23 := off23_eq i k
  rw [← hj] at o22 o23
  unfold k0_t6_body
  simp only [k0_part7_eq_skeleton]
  unfold k0_part7_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg10.eq_unread hf0; obtain rfl := harg11.eq_unread hf1; obtain rfl := harg12.eq_unread hf2; obtain rfl := harg13.eq_unread hf3; obtain rfl := harg14.eq_unread hf4
  sl_exec
  sl_step
  simp only [View.readAt_eq_ld, harg10.read_unread, harg11.read_unread, harg12.read_unread, harg13.read_unread, harg14.read_unread, ld_acc, ld_p, ld_v o22, ld_k o23]
  rw [← (trip6_eq q (vt vc j) (kt kc (j + 2)) x).1, ← (trip6_eq q (vt vc j) (kt kc (j + 2)) x).2.1, ← (trip6_eq q (vt vc j) (kt kc (j + 2)) x).2.2]
  rw [show (step q (vt vc j) (kt kc (j + 2)) x).m = k0_pay40 x.m x.s from rfl]
  iapply Hk
  isplitl [H0]
  · iexists _; isplitr; · ipureintro; exact harg10.read_unread _
    iexact H0
  isplitl [H1]
  · iexists _; isplitr; · ipureintro; exact harg11.read_unread _
    iexact H1
  isplitl [H2]
  · iexists _; isplitr
    swap; · iexact H2
    ipureintro
    exact read_store hz _ _ _ _
  isplitl [H3]
  · iexists _; isplitr
    swap; · iexact H3
    ipureintro
    exact read_store hz _ _ _ _
  iexists _; isplitr
  swap; · iexact H4
  ipureintro
  exact read_store hz _ _ _ _

set_option maxHeartbeats 2000000 in
/-- A pass of the middle loop is two steps. -/
theorem trip4 (q : FVec F S1024x128 .bf16) (v23 v43 v82 : BitVec 32) (v91 : FVec F S1024x1 .f32) (v108 v110 v112 : BitVec 32)
    (k : Fin (k0_t4_loop i).trips) (kc : Vec F S8704x128 .bf16) (vc : Vec F S8704x256 .bf16) (x : St F) (j : ℕ)
    (hj : j = 4 * (((i 2).val - 1) / 4) + 2 * k.val) (E : Set ℕ) (K : FVec F S1024x1 .f32 → sProp 𝕄) :
    iprop(held c arg10 arg11 arg12 arg13 arg14 kc vc x ∗ (held c arg10 arg11 arg12 arg13 arg14 kc vc (step q (vt vc (j + 1)) (kt kc (j + 3)) (step q (vt vc j) (kt kc (j + 2)) x)) -∗ K (step q (vt vc (j + 1)) (kt kc (j + 3)) (step q (vt vc j) (kt kc (j + 2)) x)).m))
      ⊢ wp frame (wpE (defs₀ (F := F)) Variants.none c none) E (k0_t4_body i arg3 harg3 arg4 harg4 arg5 harg5 arg6 harg6 arg7 harg7 arg8 harg8 arg9 harg9 arg10 harg10 arg11 harg11 arg12 harg12 arg13 harg13 arg14 harg14 q v23 v43 v82 v91 v108 v110 v112 k x.m) K := by
  have o14 := off14_eq i k
  have o15 := off15_eq i k
  have o16 := off16_eq i k
  have o17 := off17_eq i k
  rw [← hj] at o14 o15 o16 o17
  unfold k0_t4_body
  simp only [k0_part5_eq_skeleton]
  unfold k0_part5_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg10.eq_unread hf0; obtain rfl := harg11.eq_unread hf1; obtain rfl := harg12.eq_unread hf2; obtain rfl := harg13.eq_unread hf3; obtain rfl := harg14.eq_unread hf4
  sl_exec
  sl_step
  simp only [View.readAt_eq_ld, harg10.read_unread, harg11.read_unread, harg12.read_unread, harg13.read_unread, harg14.read_unread, ld_acc, ld_p, ld_v o14, ld_v o16, ld_k o15, ld_k o17]
  rw [← (trip4_eq q (vt vc j) (vt vc (j + 1)) (kt kc (j + 2)) (kt kc (j + 3)) x).1, ← (trip4_eq q (vt vc j) (vt vc (j + 1)) (kt kc (j + 2)) (kt kc (j + 3)) x).2.1, ← (trip4_eq q (vt vc j) (vt vc (j + 1)) (kt kc (j + 2)) (kt kc (j + 3)) x).2.2.1]
  rw [← (trip4_eq q (vt vc j) (vt vc (j + 1)) (kt kc (j + 2)) (kt kc (j + 3)) x).2.2.2]
  iapply Hk
  isplitl [H0]
  · iexists _; isplitr; · ipureintro; exact harg10.read_unread _
    iexact H0
  isplitl [H1]
  · iexists _; isplitr; · ipureintro; exact harg11.read_unread _
    iexact H1
  isplitl [H2]
  · iexists _; isplitr
    swap; · iexact H2
    ipureintro
    exact read_store hz _ _ _ _
  isplitl [H3]
  · iexists _; isplitr
    swap; · iexact H3
    ipureintro
    exact read_store hz _ _ _ _
  iexists _; isplitr
  swap; · iexact H4
  ipureintro
  exact read_store hz _ _ _ _

set_option maxHeartbeats 2000000 in
/-- A pass of the first loop is four steps. -/
theorem trip2 (q : FVec F S1024x128 .bf16) (v23 v43 : BitVec 32) (v61 : FVec F S1024x1 .f32) (c4_i32 v62 v67 v69 v71 v78 : BitVec 32)
    (k : Fin (k0_t2_loop i).trips) (kc : Vec F S8704x128 .bf16) (vc : Vec F S8704x256 .bf16) (x : St F) (j : ℕ)
    (hj : j = 4 * k.val) (E : Set ℕ) (K : FVec F S1024x1 .f32 → sProp 𝕄) :
    iprop(held c arg10 arg11 arg12 arg13 arg14 kc vc x ∗ (held c arg10 arg11 arg12 arg13 arg14 kc vc (step q (vt vc (j + 3)) (kt kc (j + 5)) (step q (vt vc (j + 2)) (kt kc (j + 4)) (step q (vt vc (j + 1)) (kt kc (j + 3)) (step q (vt vc j) (kt kc (j + 2)) x)))) -∗ K (step q (vt vc (j + 3)) (kt kc (j + 5)) (step q (vt vc (j + 2)) (kt kc (j + 4)) (step q (vt vc (j + 1)) (kt kc (j + 3)) (step q (vt vc j) (kt kc (j + 2)) x)))).m))
      ⊢ wp frame (wpE (defs₀ (F := F)) Variants.none c none) E (k0_t2_body i arg3 harg3 arg4 harg4 arg5 harg5 arg6 harg6 arg7 harg7 arg8 harg8 arg9 harg9 arg10 harg10 arg11 harg11 arg12 harg12 arg13 harg13 arg14 harg14 q v23 v43 v61 c4_i32 v62 v67 v69 v71 v78 k x.m) K := by
  have o6 := off6_eq i k
  obtain ⟨o7, o7', o7''⟩ := off7_eq i k
  obtain ⟨o8, o8', o8''⟩ := off8_eq i k
  have o9 := off9_eq i k
  rw [← hj] at o6 o7 o7' o7'' o8 o8' o8'' o9
  unfold k0_t2_body
  simp only [k0_part1_eq_skeleton, k0_part2_eq_skeleton]
  unfold k0_part1_skel k0_part2_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg10.eq_unread hf0; obtain rfl := harg11.eq_unread hf1; obtain rfl := harg12.eq_unread hf2; obtain rfl := harg13.eq_unread hf3; obtain rfl := harg14.eq_unread hf4
  sl_exec
  sl_step
  simp only [View.readAt_eq_ld, harg10.read_unread, harg11.read_unread, harg12.read_unread, harg13.read_unread, harg14.read_unread, ld_acc, ld_p, ld_v o6, ld_v o8, ld_v o8', ld_v o8'', ld_k o7, ld_k o7', ld_k o7'', ld_k o9]
  rw [← (trip2_eq q (vt vc j) (vt vc (j + 1)) (vt vc (j + 2)) (vt vc (j + 3)) (kt kc (j + 2)) (kt kc (j + 3)) (kt kc (j + 4)) (kt kc (j + 5)) x).1, ← (trip2_eq q (vt vc j) (vt vc (j + 1)) (vt vc (j + 2)) (vt vc (j + 3)) (kt kc (j + 2)) (kt kc (j + 3)) (kt kc (j + 4)) (kt kc (j + 5)) x).2.1, ← (trip2_eq q (vt vc j) (vt vc (j + 1)) (vt vc (j + 2)) (vt vc (j + 3)) (kt kc (j + 2)) (kt kc (j + 3)) (kt kc (j + 4)) (kt kc (j + 5)) x).2.2.1]
  rw [← (trip2_eq q (vt vc j) (vt vc (j + 1)) (vt vc (j + 2)) (vt vc (j + 3)) (kt kc (j + 2)) (kt kc (j + 3)) (kt kc (j + 4)) (kt kc (j + 5)) x).2.2.2]
  iapply Hk
  isplitl [H0]
  · iexists _; isplitr; · ipureintro; exact harg10.read_unread _
    iexact H0
  isplitl [H1]
  · iexists _; isplitr; · ipureintro; exact harg11.read_unread _
    iexact H1
  isplitl [H2]
  · iexists _; isplitr
    swap; · iexact H2
    ipureintro
    exact read_store hz _ _ _ _
  isplitl [H3]
  · iexists _; isplitr
    swap; · iexact H3
    ipureintro
    exact read_store hz _ _ _ _
  iexists _; isplitr
  swap; · iexact H4
  ipureintro
  exact read_store hz _ _ _ _

end Trips

end Cert.KernelIdeal.Dif
-- ==== Proof.DiffBodyI.lean ====
/- The whole body of the differential attention at one grid point. -/
module

public import proofs.«01_k».proof.Proof.Gen.KernelIdeal.Skeleton
public import proofs.«01_k».proof.Proof.Gen.KernelIdeal.Frame
public import Idealize.ShloMosaic.Lib.Claim
public import Idealize.ShloMosaic.Lib.Pipeline.Value
public import Idealize.ShloMosaic.Lib.WritesUnit
public import Idealize.ShloMosaic.Lib.LoopRemainder
public import Idealize.ShloMosaic.Lib.Pointwise
public import proofs.«01_k».proof.Proof.DiffLoopI

@[expose] public section

set_option maxRecDepth 16384

noncomputable section

namespace Cert.KernelIdeal.Dif

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body
variable (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x768 .f32) (harg8 : arg8.IsWhole) (arg9 : Memref sig .tc .vmem S512x128 .bf16) (harg9 : arg9.IsWhole) (arg10 : Memref sig .tc .vmem S8704x128 .bf16) (harg10 : arg10.IsWhole) (arg11 : Memref sig .tc .vmem S8704x256 .bf16) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x256 .f32) (harg14 : arg14.IsWhole)

/-! ## The loops -/

theorem none3 {E' : Type → Type} {σ : Type} (ok) (z : σ) (b : Fin (k0_t3_loop i).trips → σ → Prog E' σ) : Scf.Loop.for (k0_t3_loop i) ok z b = .ret z :=
  Scf.for_eq_ret _ _ _ _ _ _ (trips3 i)
theorem none5 {E' : Type → Type} {σ : Type} (ok) (z : σ) (b : Fin (k0_t5_loop i).trips → σ → Prog E' σ) : Scf.Loop.for (k0_t5_loop i) ok z b = .ret z :=
  Scf.for_eq_ret _ _ _ _ _ _ (trips5 i)
theorem none7 {E' : Type → Type} {σ : Type} (ok) (z : σ) (b : Fin (k0_t7_loop i).trips → σ → Prog E' σ) : Scf.Loop.for (k0_t7_loop i) ok z b = .ret z :=
  Scf.for_eq_ret _ _ _ _ _ _ (trips7 i)

/-- The first loop makes four steps a pass. -/
theorem loop2 (q : FVec F S1024x128 .bf16) (v23 v43 : BitVec 32) (v61 : FVec F S1024x1 .f32) (c4_i32 v62 v67 v69 v71 v78 : BitVec 32)
    (kc : Vec F S8704x128 .bf16) (vc : Vec F S8704x256 .bf16) (x : St F) (ok) (E : Set ℕ) (K : FVec F S1024x1 .f32 → sProp 𝕄) :
    iprop(held c arg10 arg11 arg12 arg13 arg14 kc vc x
        ∗ (held c arg10 arg11 arg12 arg13 arg14 kc vc (iter q kc vc x (4 * (((i 2).val - 1) / 4))) -∗ K (iter q kc vc x (4 * (((i 2).val - 1) / 4))).m))
      ⊢ wp frame (wpE (defs₀ (F := F)) Variants.none c none) E
          (Scf.Loop.for (k0_t2_loop i) ok x.m (k0_t2_body i arg3 harg3 arg4 harg4 arg5 harg5 arg6 harg6 arg7 harg7 arg8 harg8 arg9 harg9 arg10 harg10 arg11 harg11 arg12 harg12 arg13 harg13 arg14 harg14 q v23 v43 v61 c4_i32 v62 v67 v69 v71 v78)) K := by
  iintro ⟨H, Hk⟩
  iapply (Scf.wp_for frame (wpE (defs₀ (F := F)) Variants.none c none) E (k0_t2_loop i).lb (k0_t2_loop i).ub (k0_t2_loop i).st ok x.m
    (k0_t2_body i arg3 harg3 arg4 harg4 arg5 harg5 arg6 harg6 arg7 harg7 arg8 harg8 arg9 harg9 arg10 harg10 arg11 harg11 arg12 harg12 arg13 harg13 arg14 harg14 q v23 v43 v61 c4_i32 v62 v67 v69 v71 v78)
    (fun k a => iprop(held c arg10 arg11 arg12 arg13 arg14 kc vc (iter q kc vc x (4 * k)) ∗ ⌜a = (iter q kc vc x (4 * k)).m⌝)) ?_)
  swap
  · isplitl [H]
    · isplitl [H]; · iexact H
      ipureintro; rfl
    iintro %a ⟨H, %ha⟩
    rw [show Scf.trips (k0_t2_loop i).lb (k0_t2_loop i).ub (k0_t2_loop i).st = ((i 2).val - 1) / 4 from trips2 i] at ha ⊢
    subst ha
    iapply Hk; iexact H
  · intro k a
    iintro ⟨H, %ha⟩
    subst ha
    iapply (trip2 c i arg3 harg3 arg4 harg4 arg5 harg5 arg6 harg6 arg7 harg7 arg8 harg8 arg9 harg9 arg10 harg10 arg11 harg11 arg12 harg12 arg13 harg13 arg14 harg14 q v23 v43 v61 c4_i32 v62 v67 v69 v71 v78 k kc vc (iter q kc vc x (4 * k.val)) (4 * k.val) rfl)
    isplitl [H]; · iexact H
    iintro H
    isplitl [H]; · iexact H
    ipureintro; rfl

/-- The middle loop makes two steps a pass. -/
theorem loop4 (q : FVec F S1024x128 .bf16) (v23 v43 v82 : BitVec 32) (v91 : FVec F S1024x1 .f32) (v108 v110 v112 : BitVec 32)
    (kc : Vec F S8704x128 .bf16) (vc : Vec F S8704x256 .bf16) (x : St F) (ok) (E : Set ℕ) (K : FVec F S1024x1 .f32 → sProp 𝕄) :
    iprop(held c arg10 arg11 arg12 arg13 arg14 kc vc (iter q kc vc x (4 * (((i 2).val - 1) / 4)))
        ∗ (held c arg10 arg11 arg12 arg13 arg14 kc vc (iter q kc vc x (4 * (((i 2).val - 1) / 4) + 2 * (((i 2).val - 1) % 4 / 2)))
            -∗ K (iter q kc vc x (4 * (((i 2).val - 1) / 4) + 2 * (((i 2).val - 1) % 4 / 2))).m))
      ⊢ wp frame (wpE (defs₀ (F := F)) Variants.none c none) E
          (Scf.Loop.for (k0_t4_loop i) ok (iter q kc vc x (4 * (((i 2).val - 1) / 4))).m (k0_t4_body i arg3 harg3 arg4 harg4 arg5 harg5 arg6 harg6 arg7 harg7 arg8 harg8 arg9 harg9 arg10 harg10 arg11 harg11 arg12 harg12 arg13 harg13 arg14 harg14 q v23 v43 v82 v91 v108 v110 v112)) K := by
  iintro ⟨H, Hk⟩
  iapply (Scf.wp_for frame (wpE (defs₀ (F := F)) Variants.none c none) E (k0_t4_loop i).lb (k0_t4_loop i).ub (k0_t4_loop i).st ok _
    (k0_t4_body i arg3 harg3 arg4 harg4 arg5 harg5 arg6 harg6 arg7 harg7 arg8 harg8 arg9 harg9 arg10 harg10 arg11 harg11 arg12 harg12 arg13 harg13 arg14 harg14 q v23 v43 v82 v91 v108 v110 v112)
    (fun k a => iprop(held c arg10 arg11 arg12 arg13 arg14 kc vc (iter q kc vc x (4 * (((i 2).val - 1) / 4) + 2 * k)) ∗ ⌜a = (iter q kc vc x (4 * (((i 2).val - 1) / 4) + 2 * k)).m⌝)) ?_)
  swap
  · isplitl [H]
    · isplitl [H]; · iexact H
      ipureintro; rfl
    iintro %a ⟨H, %ha⟩
    rw [show Scf.trips (k0_t4_loop i).lb (k0_t4_loop i).ub (k0_t4_loop i).st = ((i 2).val - 1) % 4 / 2 from trips4 i] at ha ⊢
    subst ha
    iapply Hk; iexact H
  · intro k a
    iintro ⟨H, %ha⟩
    subst ha
    iapply (trip4 c i arg3 harg3 arg4 harg4 arg5 harg5 arg6 harg6 arg7 harg7 arg8 harg8 arg9 harg9 arg10 harg10 arg11 harg11 arg12 harg12 arg13 harg13 arg14 harg14 q v23 v43 v82 v91 v108 v110 v112 k kc vc (iter q kc vc x (4 * (((i 2).val - 1) / 4) + 2 * k.val)) (4 * (((i 2).val - 1) / 4) + 2 * k.val) rfl)
    isplitl [H]; · iexact H
    iintro H
    isplitl [H]; · iexact H
    ipureintro; rfl

/-- The last loop makes one step a pass; all three make one step fewer than the number of the query block. -/
theorem loop6 (q : FVec F S1024x128 .bf16) (v23 v43 v82 : BitVec 32) (v91 : FVec F S1024x1 .f32) (v108 v110 v112 v138 v144 : BitVec 32)
    (kc : Vec F S8704x128 .bf16) (vc : Vec F S8704x256 .bf16) (x : St F) (ok) (E : Set ℕ) (K : FVec F S1024x1 .f32 → sProp 𝕄) :
    iprop(held c arg10 arg11 arg12 arg13 arg14 kc vc (iter q kc vc x (4 * (((i 2).val - 1) / 4) + 2 * (((i 2).val - 1) % 4 / 2)))
        ∗ (held c arg10 arg11 arg12 arg13 arg14 kc vc (iter q kc vc x ((i 2).val - 1)) -∗ K (iter q kc vc x ((i 2).val - 1)).m))
      ⊢ wp frame (wpE (defs₀ (F := F)) Variants.none c none) E
          (Scf.Loop.for (k0_t6_loop i) ok (iter q kc vc x (4 * (((i 2).val - 1) / 4) + 2 * (((i 2).val - 1) % 4 / 2))).m (k0_t6_body i arg3 harg3 arg4 harg4 arg5 harg5 arg6 harg6 arg7 harg7 arg8 harg8 arg9 harg9 arg10 harg10 arg11 harg11 arg12 harg12 arg13 harg13 arg14 harg14 q v23 v43 v82 v91 v108 v110 v112 v138 v144)) K := by
  iintro ⟨H, Hk⟩
  iapply (Scf.wp_for frame (wpE (defs₀ (F := F)) Variants.none c none) E (k0_t6_loop i).lb (k0_t6_loop i).ub (k0_t6_loop i).st ok _
    (k0_t6_body i arg3 harg3 arg4 harg4 arg5 harg5 arg6 harg6 arg7 harg7 arg8 harg8 arg9 harg9 arg10 harg10 arg11 harg11 arg12 harg12 arg13 harg13 arg14 harg14 q v23 v43 v82 v91 v108 v110 v112 v138 v144)
    (fun k a => iprop(held c arg10 arg11 arg12 arg13 arg14 kc vc (iter q kc vc x (4 * (((i 2).val - 1) / 4) + 2 * (((i 2).val - 1) % 4 / 2) + k))
      ∗ ⌜a = (iter q kc vc x (4 * (((i 2).val - 1) / 4) + 2 * (((i 2).val - 1) % 4 / 2) + k)).m⌝)) ?_)
  swap
  · isplitl [H]
    · isplitl [H]; · iexact H
      ipureintro; rfl
    iintro %a ⟨H, %ha⟩
    have e : 4 * (((i 2).val - 1) / 4) + 2 * (((i 2).val - 1) % 4 / 2) + Scf.trips (k0_t6_loop i).lb (k0_t6_loop i).ub (k0_t6_loop i).st = (i 2).val - 1 := by
      rw [show Scf.trips (k0_t6_loop i).lb (k0_t6_loop i).ub (k0_t6_loop i).st = ((i 2).val - 1) % 2 from trips6 i]; omega
    rw [e] at ha ⊢
    subst ha
    iapply Hk; iexact H
  · intro k a
    iintro ⟨H, %ha⟩
    subst ha
    iapply (trip6 c i arg3 harg3 arg4 harg4 arg5 harg5 arg6 harg6 arg7 harg7 arg8 harg8 arg9 harg9 arg10 harg10 arg11 harg11 arg12 harg12 arg13 harg13 arg14 harg14 q v23 v43 v82 v91 v108 v110 v112 v138 v144 k kc vc (iter q kc vc x (4 * (((i 2).val - 1) / 4) + 2 * (((i 2).val - 1) % 4 / 2) + k.val)) _ rfl)
    isplitl [H]; · iexact H
    iintro H
    isplitl [H]; · iexact H
    ipureintro; rfl

theorem part11 (q : FVec F S1024x128 .bf16) (v23 v43 c4_i32 v62 v67 v69 v71 : BitVec 32)
    (kc : Vec F S8704x128 .bf16) (vc : Vec F S8704x256 .bf16) (x : St F) (E : Set ℕ) (K : _ → sProp 𝕄) :
    iprop(held c arg10 arg11 arg12 arg13 arg14 kc vc x
        ∗ (∀ a1 a2 a3 a4, held c arg10 arg11 arg12 arg13 arg14 kc vc (iter q kc vc x (4 * (((i 2).val - 1) / 4))) -∗ K ⟨a1, (iter q kc vc x (4 * (((i 2).val - 1) / 4))).m, a2, a3, a4⟩))
      ⊢ wp frame (wpE (defs₀ (F := F)) Variants.none c none) E (k0_part11 i arg3 harg3 arg4 harg4 arg5 harg5 arg6 harg6 arg7 harg7 arg8 harg8 arg9 harg9 arg10 harg10 arg11 harg11 arg12 harg12 arg13 harg13 arg14 harg14 q v23 v43 x.m c4_i32 v62 v67 v69 v71) K := by
  simp only [k0_part11_eq_skeleton]; unfold k0_part11_skel
  iintro ⟨H, Hk⟩
  dsimp only
  rw [wp_bind]
  iapply (loop2 c i arg3 harg3 arg4 harg4 arg5 harg5 arg6 harg6 arg7 harg7 arg8 harg8 arg9 harg9 arg10 harg10 arg11 harg11 arg12 harg12 arg13 harg13 arg14 harg14)
  isplitl [H]; · iexact H
  iintro H
  rw [none3, Prog.bind_ret]
  sl_step
  iapply Hk
  iexact H

theorem part12 (q : FVec F S1024x128 .bf16) (v23 v43 v82 v108 v110 v112 : BitVec 32)
    (kc : Vec F S8704x128 .bf16) (vc : Vec F S8704x256 .bf16) (x : St F) (E : Set ℕ) (K : _ → sProp 𝕄) :
    iprop(held c arg10 arg11 arg12 arg13 arg14 kc vc (iter q kc vc x (4 * (((i 2).val - 1) / 4)))
        ∗ (∀ a1, held c arg10 arg11 arg12 arg13 arg14 kc vc (iter q kc vc x ((i 2).val - 1)) -∗ K ⟨(iter q kc vc x ((i 2).val - 1)).m, a1⟩))
      ⊢ wp frame (wpE (defs₀ (F := F)) Variants.none c none) E (k0_part12 i arg3 harg3 arg4 harg4 arg5 harg5 arg6 harg6 arg7 harg7 arg8 harg8 arg9 harg9 arg10 harg10 arg11 harg11 arg12 harg12 arg13 harg13 arg14 harg14 q v23 v43 v82 (iter q kc vc x (4 * (((i 2).val - 1) / 4))).m v108 v110 v112) K := by
  simp only [k0_part12_eq_skeleton]; unfold k0_part12_skel
  iintro ⟨H, Hk⟩
  dsimp only
  rw [wp_bind]
  iapply (loop4 c i arg3 harg3 arg4 harg4 arg5 harg5 arg6 harg6 arg7 harg7 arg8 harg8 arg9 harg9 arg10 harg10 arg11 harg11 arg12 harg12 arg13 harg13 arg14 harg14)
  isplitl [H]; · iexact H
  iintro H
  rw [none5, Prog.bind_ret]
  rw [wp_bind]
  iapply (loop6 c i arg3 harg3 arg4 harg4 arg5 harg5 arg6 harg6 arg7 harg7 arg8 harg8 arg9 harg9 arg10 harg10 arg11 harg11 arg12 harg12 arg13 harg13 arg14 harg14)
  isplitl [H]; · iexact H
  iintro H
  rw [none7, Prog.bind_ret]
  sl_step
  iapply Hk
  iexact H

/-! ## The parts before and after the loops -/

/-- What the loops begin from. -/
def init (n : ℕ) (q : FVec F S1024x128 .bf16) (kc : Vec F S8704x128 .bf16) : St F where
  m := k0_pay57
  acc := k0_pay56
  p := k0_pay55
  s := k0_pay54 q (kt kc (min n 1))

theorem part10 (q : FVec F S1024x128 .bf16) (v21 v23 c2 v27 v32 v34 c0 : BitVec 32)
    (kc : Vec F S8704x128 .bf16) (vc : Vec F S8704x256 .bf16) (E : Set ℕ) (K : _ → sProp 𝕄) :
    iprop(owns (c : Thread nD τ) arg10 fullShare kc ∗ owns (c : Thread nD τ) arg11 fullShare vc ∗ (∃ d, owns (c : Thread nD τ) arg12 fullShare d)
        ∗ (∃ d, owns (c : Thread nD τ) arg13 fullShare d) ∗ (∃ d, owns (c : Thread nD τ) arg14 fullShare d)
        ∗ (∀ a1 a2 a3 a4 a5 a6, held c arg10 arg11 arg12 arg13 arg14 kc vc (init (i 2).val q kc) -∗ K ⟨a1, k0_pay57, a2, a3, a4, a5, a6⟩))
      ⊢ wp frame (wpE (defs₀ (F := F)) Variants.none c none) E (k0_part10 i arg3 harg3 arg4 harg4 arg5 harg5 arg6 harg6 arg7 harg7 arg8 harg8 arg9 harg9 arg10 harg10 arg11 harg11 arg12 harg12 arg13 harg13 arg14 harg14 q v21 v23 c2 v27 v32 v34 c0) K := by
  have o5 := off5_eq i
  simp only [k0_part10_eq_skeleton]; unfold k0_part10_skel
  unfold held owns
  iintro ⟨⟨%f0, %hf0, H0⟩, H1, ⟨%d2, %f2, -, H2⟩, ⟨%d3, %f3, -, H3⟩, ⟨%d4, %f4, -, H4⟩, Hk⟩
  obtain rfl := harg10.eq_unread hf0
  sl_exec
  sl_step
  simp only [View.readAt_eq_ld, harg10.read_unread, ld_k o5]
  iapply Hk
  isplitl [H0]
  · iexists _; isplitr; · ipureintro; exact harg10.read_unread _
    iexact H0
  isplitl [H1]; · iexact H1
  isplitl [H2]
  · iexists _; isplitr
    swap; · iexact H2
    ipureintro
    exact read_store hz _ _ _ _
  isplitl [H3]
  · iexists _; isplitr
    swap; · iexact H3
    ipureintro
    exact read_store hz _ _ _ _
  iexists _; isplitr
  swap; · iexact H4
  ipureintro
  exact read_store hz _ _ _ _

/-- The strip's first 256 columns, and the 512 after them. -/
def strip0 (x : Vec F S1x512x768 .f32) : Vec F S1x512x256 .f32 :=
  View.ld (Val := Elt F) x (Rect.unit (s := S1x512x768) ![0, 0, 0] S1x512x256.size inb_S1x512x768_S1x512x256_0_0_0)
def strip1 (x : Vec F S1x512x768 .f32) : Vec F S1x512x512 .f32 :=
  View.ld (Val := Elt F) x (Rect.unit (s := S1x512x768) ![0, 0, 256] S1x512x512.size inb_S1x512x768_S1x512x512_0_0_256)

theorem part13 (q : FVec F S1024x128 .bf16) (v23 : BitVec 32) (v24 v25 : BitVec 1) (v26 v152 : BitVec 32)
    (kc : Vec F S8704x128 .bf16) (vc : Vec F S8704x256 .bf16) (z : St F) (x8 : Vec F S1x512x768 .f32) (E : Set ℕ) (K : _ → sProp 𝕄) :
    iprop(held c arg10 arg11 arg12 arg13 arg14 kc vc z ∗ owns (c : Thread nD τ) arg8 fullShare x8
        ∗ ((held c arg10 arg11 arg12 arg13 arg14 kc vc z ∗ owns (c : Thread nD τ) arg8 fullShare x8) -∗
          K ⟨k0_pay73 v24 v25 z.m z.s (strip0 x8), k0_pay74 v24 v25 z.m z.acc z.p (vt vc ((i 2).val - 1)) z.s (strip0 x8) (vt vc (i 2).val), k0_pay75 q (kt kc ((i 2).val + 1))⟩))
      ⊢ wp frame (wpE (defs₀ (F := F)) Variants.none c none) E (k0_part13 i arg3 harg3 arg4 harg4 arg5 harg5 arg6 harg6 arg7 harg7 arg8 harg8 arg9 harg9 arg10 harg10 arg11 harg11 arg12 harg12 arg13 harg13 arg14 harg14 q v23 v24 v25 v26 z.m v152) K := by
  have o26 := off26_eq i
  have hs : strip0 x8 = View.ld (Val := Elt F) x8 (Rect.unit (s := S1x512x768) ![0, 0, 0] ![1, 512, 256] inb_S1x512x768_S1x512x256_0_0_0) := rfl
  rw [hs]
  have o27 : k0_off27 i = ![512 * (i 2).val, 0] := k0_off27_eq i
  have o28 : k0_off28 i = ![512 * ((i 2).val + 1), 0] := k0_off28_eq i
  simp only [k0_part13_eq_skeleton]; unfold k0_part13_skel
  unfold held owns
  iintro ⟨⟨⟨%f0, %hf0, H0⟩, ⟨%f1, %hf1, H1⟩, ⟨%f2, %hf2, H2⟩, ⟨%f3, %hf3, H3⟩, ⟨%f4, %hf4, H4⟩⟩, ⟨%f8, %hf8, H8⟩, Hk⟩
  obtain rfl := harg10.eq_unread hf0; obtain rfl := harg11.eq_unread hf1; obtain rfl := harg12.eq_unread hf2; obtain rfl := harg13.eq_unread hf3; obtain rfl := harg14.eq_unread hf4
  obtain rfl := harg8.eq_unread hf8
  sl_exec
  sl_step
  simp only [View.readAt_eq_ld, harg8.read_unread, harg10.read_unread, harg11.read_unread, harg12.read_unread, harg13.read_unread, harg14.read_unread, ld_acc, ld_p, ld_v o26, ld_v o27, ld_k o28]
  iapply Hk
  isplitr [H8]
  · isplitl [H0]
    · iexists _; isplitr; · ipureintro; exact harg10.read_unread _
      iexact H0
    isplitl [H1]
    · iexists _; isplitr; · ipureintro; exact harg11.read_unread _
      iexact H1
    isplitl [H2]
    · iexists _; isplitr; · ipureintro; exact harg12.read_unread _
      iexact H2
    isplitl [H3]
    · iexists _; isplitr; · ipureintro; exact harg13.read_unread _
      iexact H3
    iexists _; isplitr; · ipureintro; exact harg14.read_unread _
    iexact H4
  iexists _; isplitr; · ipureintro; exact harg8.read_unread _
  iexact H8

theorem part14 (v26 : BitVec 32) (v175 : FVec F S1024x1 .f32) (v187 : FVec F S1024x256 .f32) (v190 : FVec F S1024x512 .f32)
    (vc : Vec F S8704x256 .bf16) (x6 : Vec F S4x64 .f32) (x7 : Vec F S1x128 .f32) (x8 : Vec F S1x512x768 .f32) (E : Set ℕ) (K : _ → sProp 𝕄) :
    iprop(owns (c : Thread nD τ) arg11 fullShare vc ∗ owns (c : Thread nD τ) arg6 fullShare x6 ∗ owns (c : Thread nD τ) arg7 fullShare x7 ∗ owns (c : Thread nD τ) arg8 fullShare x8
        ∗ ((owns (c : Thread nD τ) arg11 fullShare vc ∗ owns (c : Thread nD τ) arg6 fullShare x6 ∗ owns (c : Thread nD τ) arg7 fullShare x7 ∗ owns (c : Thread nD τ) arg8 fullShare x8) -∗
          K ⟨k0_pay76 v175 v187 v190 (strip1 x8) (vt vc ((i 2).val + 1)) x6, k0_pay77 x7⟩))
      ⊢ wp frame (wpE (defs₀ (F := F)) Variants.none c none) E (k0_part14 i arg3 harg3 arg4 harg4 arg5 harg5 arg6 harg6 arg7 harg7 arg8 harg8 arg9 harg9 arg10 harg10 arg11 harg11 arg12 harg12 arg13 harg13 arg14 harg14 v26 v175 v187 v190) K := by
  have hs : strip1 x8 = View.ld (Val := Elt F) x8 (Rect.unit (s := S1x512x768) ![0, 0, 256] ![1, 512, 512] inb_S1x512x768_S1x512x512_0_0_256) := rfl
  rw [hs]
  have o29 : k0_off29 i = ![512 * ((i 2).val + 1), 0] := k0_off29_eq i
  simp only [k0_part14_eq_skeleton]; unfold k0_part14_skel
  unfold owns
  iintro ⟨⟨%f1, %hf1, H1⟩, ⟨%f6, %hf6, H6⟩, ⟨%f7, %hf7, H7⟩, ⟨%f8, %hf8, H8⟩, Hk⟩
  obtain rfl := harg11.eq_unread hf1; obtain rfl := harg6.eq_unread hf6; obtain rfl := harg7.eq_unread hf7; obtain rfl := harg8.eq_unread hf8
  sl_exec
  sl_step
  simp only [View.readAt_eq_ld, harg6.read_unread, harg7.read_unread, harg8.read_unread, harg11.read_unread, ld_lam, ld_sub, ld_v o29]
  iapply Hk
  isplitl [H1]
  · iexists _; isplitr; · ipureintro; exact harg11.read_unread _
    iexact H1
  isplitl [H6]
  · iexists _; isplitr; · ipureintro; exact harg6.read_unread _
    iexact H6
  isplitl [H7]
  · iexists _; isplitr; · ipureintro; exact harg7.read_unread _
    iexact H7
  iexists _; isplitr; · ipureintro; exact harg8.read_unread _
  iexact H8

end Body

end Cert.KernelIdeal.Dif
-- ==== Proof.DiffFillI.lean ====
/- The kept keys and values of the differential attention, and its whole body at one grid point. -/
module

public import proofs.«01_k».proof.Proof.Gen.KernelIdeal.Skeleton
public import proofs.«01_k».proof.Proof.Gen.KernelIdeal.Frame
public import Idealize.ShloMosaic.Lib.Claim
public import Idealize.ShloMosaic.Lib.Pipeline.Value
public import Idealize.ShloMosaic.Lib.WritesUnit
public import Idealize.ShloMosaic.Lib.LoopRemainder
public import Idealize.ShloMosaic.Lib.Pointwise
public import proofs.«01_k».proof.Proof.DiffBodyI

@[expose] public section

set_option maxRecDepth 16384

noncomputable section

namespace Cert.KernelIdeal.Dif

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body
variable (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x768 .f32) (harg8 : arg8.IsWhole) (arg9 : Memref sig .tc .vmem S512x128 .bf16) (harg9 : arg9.IsWhole) (arg10 : Memref sig .tc .vmem S8704x128 .bf16) (harg10 : arg10.IsWhole) (arg11 : Memref sig .tc .vmem S8704x256 .bf16) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x256 .f32) (harg14 : arg14.IsWhole)

theorem pay50_id (v : Vec F S256x128 .bf16) : k0_pay50 v = v := by
  unfold k0_pay50; rw [shapeCast_self]; exact shapeCast_self _ _
theorem pay51_id (v : Vec F S256x128 .bf16) : k0_pay51 v = v := by
  unfold k0_pay51; rw [shapeCast_self]; exact shapeCast_self _ _
theorem ld_blk {off : Fin 2 → ℕ} {n : ℕ} (h : off = ![256 * n, 0]) (X : Vec F S8192x128 .bf16) (hi) :
    View.ld (Val := Elt F) X (Rect.unit (s := S8192x128) off ![256, 128] hi)
      = fun j : S256x128.Idx => X (ix2 ⟨(256 * n + (j 0).val) % 8192, Nat.mod_lt _ (by decide)⟩ (j 1)) := by
  subst h
  funext j
  have h0 : 256 * n + 256 ≤ 8192 := hi 0
  have hj : (j 0).val < 256 := (j 0).isLt
  refine congrArg X (funext fun a => Fin.ext ?_)
  match a with
  | ⟨0, _⟩ => show 256 * n + 1 * (j 0).val = (256 * n + (j 0).val) % 8192; omega
  | ⟨1, _⟩ => show 0 + 1 * (j 1).val = (j 1).val; omega

/-! ## The filling of the kept keys and values -/

/-- The keys kept: 512 rows of zeros, then the block's keys. -/
def fillK (x : Vec F S8192x128 .bf16) : Vec F S8704x128 .bf16 := fun y =>
  if h : (y 0).val < 512 then k0_pay48 (ix2 ⟨(y 0).val, h⟩ (y 1))
  else x (ix2 ⟨(y 0).val - 512, by have : (y 0).val < 8704 := (y 0).isLt; omega⟩ (y 1))
/-- The values kept: 512 rows of zeros, then the block's values and a column of ones. -/
def fillV (x : Vec F S8192x128 .bf16) : Vec F S8704x256 .bf16 := fun y =>
  if h : (y 0).val < 512 then k0_pay49 (ix2 ⟨(y 0).val, h⟩ (y 1))
  else if h' : (y 1).val < 128 then x (ix2 ⟨(y 0).val - 512, by have : (y 0).val < 8704 := (y 0).isLt; omega⟩ ⟨(y 1).val, h'⟩)
  else k0_pay52 (ix2 ⟨((y 0).val - 512) % 256, Nat.mod_lt _ (by decide)⟩ ⟨(y 1).val - 128, by have : (y 1).val < 256 := (y 1).isLt; omega⟩)

/-- The kept buffers when the first `n` rows are as wanted. -/
def filled (x1 x2 : Vec F S8192x128 .bf16) (n : ℕ) : sProp 𝕄 :=
  iprop(owns (c : Thread nD τ) arg4 fullShare x1 ∗ owns (c : Thread nD τ) arg5 fullShare x2
    ∗ (∃ d : Vec F S8704x128 .bf16, ⌜∀ y, (y 0).val < n → d y = fillK x1 y⌝ ∗ owns (c : Thread nD τ) arg10 fullShare d)
    ∗ (∃ d : Vec F S8704x256 .bf16, ⌜∀ y, (y 0).val < n → d y = fillV x2 y⌝ ∗ owns (c : Thread nD τ) arg11 fullShare d))

set_option maxHeartbeats 1000000 in
theorem fill_trip (h : k0_cond1 i = 1#1) (x1 x2 : Vec F S8192x128 .bf16) (k : Fin k0_t1_loop.trips) (E : Set ℕ) :
    filled c arg4 arg5 arg10 arg11 x1 x2 (512 + 256 * k.val)
      ⊢ wp frame (wpE (defs₀ (F := F)) Variants.none c none) E (k0_t1_body i arg3 harg3 arg4 harg4 arg5 harg5 arg6 harg6 arg7 harg7 arg8 harg8 arg9 harg9 arg10 harg10 arg11 harg11 arg12 harg12 arg13 harg13 arg14 harg14 h k ())
          (fun _ => filled c arg4 arg5 arg10 arg11 x1 x2 (512 + 256 * (k.val + 1))) := by
  unfold k0_t1_body filled owns
  iintro ⟨⟨%f4, %hf4, H4⟩, ⟨%f5, %hf5, H5⟩, ⟨%d, %hd, %f0, %hf0, H0⟩, ⟨%e, %he, %f1, %hf1, H1⟩⟩
  obtain rfl := harg4.eq_unread hf4; obtain rfl := harg5.eq_unread hf5; obtain rfl := harg10.eq_unread hf0; obtain rfl := harg11.eq_unread hf1
  sl_exec
  sl_step
  simp only [View.readAt_eq_ld, harg4.read_unread, harg5.read_unread]
  have o1 : k0_off1 k = ![256 * k.val, 0] := k0_off1_eq k
  have o2 : k0_off2 k = ![256 * k.val + 512, 0] := k0_off2_eq k
  have o3 : k0_off3 k = ![256 * k.val + 512, 0] := k0_off3_eq k
  have o4 : k0_off4 k = ![256 * k.val + 512, 128] := k0_off4_eq k
  isplitl [H4]
  · iexists _; isplitr; · ipureintro; exact harg4.read_unread _
    iexact H4
  isplitl [H5]
  · iexists _; isplitr; · ipureintro; exact harg5.read_unread _
    iexact H5
  isplitl [H0]
  · iexists _; isplitr
    swap
    · iexists _; isplitr
      swap; · iexact H0
      ipureintro; rfl
    ipureintro
    intro y hy
    by_cases hin : 512 + 256 * k.val ≤ (y 0).val
    · have e := View.read_writes_cons_rows_of_mem (Val := Elt F) arg10.view (harg10.unread d) (o := 256 * k.val + 512)
        (off := k0_off2 k) (size := S256x128.size) (k0_off2_inb i k h) (k0_pay50 (View.ld (Val := Elt F) x1 (Rect.unit (s := S8192x128) (k0_off1 k) S256x128.size (k0_off1_inb i k h)))) [] y
        (ix2 ⟨(y 0).val - 512 - 256 * k.val, by omega⟩ (y 1)) o2 (by show (y 0).val = 256 * k.val + 512 + ((y 0).val - 512 - 256 * k.val); omega) rfl
      refine e.trans ?_
      rw [pay50_id, ld_blk o1]
      unfold fillK
      rw [dif_neg (by omega)]
      refine congrArg x1 (funext fun a => Fin.ext ?_)
      match a with
      | ⟨0, _⟩ => show (256 * k.val + ((y 0).val - 512 - 256 * k.val)) % 8192 = (y 0).val - 512; have : (y 0).val < 8704 := (y 0).isLt; omega
      | ⟨1, _⟩ => rfl
    · refine (View.read_writes_cons_rows_of_not_mem (Val := Elt F) arg10.view (harg10.unread d) (o := 256 * k.val + 512) (W := 256)
        (off := k0_off2 k) (size := S256x128.size) (k0_off2_inb i k h) _ [] y o2 rfl (Or.inl (by omega))).trans ?_
      rw [View.writes_nil, harg10.read_unread]
      exact hd y (by omega)
  iexists _; isplitr
  swap
  · iexists _; isplitr
    swap; · iexact H1
    ipureintro; rfl
  ipureintro
  intro y hy
  by_cases hin : 512 + 256 * k.val ≤ (y 0).val
  · by_cases hc : (y 1).val < 128
    · refine (View.read_writes_cons_unit_of_not_mem (Val := Elt F) arg11.view (harg11.unread e) (off := k0_off4 k) (size := S256x128.size) (k0_off4_inb i k h) _ _ y o4 (1 : Fin 2) (Or.inl hc)).trans ?_
      refine (View.read_writes_cons_unit_of_mem (Val := Elt F) arg11.view (harg11.unread e) (off := k0_off3 k) (size := S256x128.size) (k0_off3_inb i k h) _ _ y
        (ix2 ⟨(y 0).val - 512 - 256 * k.val, by omega⟩ ⟨(y 1).val, hc⟩) o3 (Fin.forall_fin_two.mpr ⟨by show (y 0).val = 256 * k.val + 512 + ((y 0).val - 512 - 256 * k.val); omega, by show (y 1).val = 0 + (y 1).val; omega⟩)).trans ?_
      rw [pay51_id, ld_blk o1]
      unfold fillV
      rw [dif_neg (by omega), dif_pos hc]
      refine congrArg x2 (funext fun a => Fin.ext ?_)
      match a with
      | ⟨0, _⟩ => show (256 * k.val + ((y 0).val - 512 - 256 * k.val)) % 8192 = (y 0).val - 512; have : (y 0).val < 8704 := (y 0).isLt; omega
      | ⟨1, _⟩ => rfl
    · have hlt : (y 1).val < 256 := (y 1).isLt
      refine (View.read_writes_cons_unit_of_mem (Val := Elt F) arg11.view (harg11.unread e) (off := k0_off4 k) (size := S256x128.size) (k0_off4_inb i k h) _ _ y
        (ix2 ⟨(y 0).val - 512 - 256 * k.val, by omega⟩ ⟨(y 1).val - 128, by omega⟩) o4 (Fin.forall_fin_two.mpr ⟨by show (y 0).val = 256 * k.val + 512 + ((y 0).val - 512 - 256 * k.val); omega, by show (y 1).val = 128 + ((y 1).val - 128); omega⟩)).trans ?_
      unfold fillV
      rw [dif_neg (by omega), dif_neg hc]
      refine congrArg k0_pay52 (funext fun a => Fin.ext ?_)
      match a with
      | ⟨0, _⟩ => show (y 0).val - 512 - 256 * k.val = ((y 0).val - 512) % 256; omega
      | ⟨1, _⟩ => rfl
  · refine (View.read_writes_cons_unit_of_not_mem (Val := Elt F) arg11.view (harg11.unread e) (off := k0_off4 k) (size := S256x128.size) (k0_off4_inb i k h) _ _ y o4 (0 : Fin 2) (Or.inl (by show (y 0).val < 256 * k.val + 512; omega))).trans ?_
    refine (View.read_writes_cons_unit_of_not_mem (Val := Elt F) arg11.view (harg11.unread e) (off := k0_off3 k) (size := S256x128.size) (k0_off3_inb i k h) _ _ y o3 (0 : Fin 2) (Or.inl (by show (y 0).val < 256 * k.val + 512; omega))).trans ?_
    rw [View.writes_nil, harg11.read_unread]
    exact he y (by omega)

/-- What the first part gives to the rest: the scaled queries, and the flag of a block to the left. -/
def flag : BitVec 1 := Scalar.cmpi .sge (BitVec.ofNat 32 (i 2).val) 1#32

/-- The first part at a block's first point: the keys and values are copied into the kept buffers. -/
theorem part9_first (h : k0_cond1 i = 1#1) (x0 : Vec F S512x128 .bf16) (x1 x2 : Vec F S8192x128 .bf16) (E : Set ℕ) (K : _ → sProp 𝕄) :
    iprop(owns (c : Thread nD τ) arg3 fullShare x0 ∗ owns (c : Thread nD τ) arg4 fullShare x1 ∗ owns (c : Thread nD τ) arg5 fullShare x2
        ∗ (∃ d, owns (c : Thread nD τ) arg10 fullShare d) ∗ (∃ d, owns (c : Thread nD τ) arg11 fullShare d)
        ∗ (∀ a1 a2 a3 a4 a5 a6 a7 a8, (owns (c : Thread nD τ) arg3 fullShare x0 ∗ owns (c : Thread nD τ) arg4 fullShare x1 ∗ owns (c : Thread nD τ) arg5 fullShare x2
          ∗ owns (c : Thread nD τ) arg10 fullShare (fillK x1) ∗ owns (c : Thread nD τ) arg11 fullShare (fillV x2)) -∗
            K ⟨k0_pay53 x0, a1, a2, flag i, flag i, a3, a4, a5, a6, a7, a8⟩))
      ⊢ wp frame (wpE (defs₀ (F := F)) Variants.none c none) E (k0_part9 i arg3 harg3 arg4 harg4 arg5 harg5 arg6 harg6 arg7 harg7 arg8 harg8 arg9 harg9 arg10 harg10 arg11 harg11 arg12 harg12 arg13 harg13 arg14 harg14) K := by
  simp only [k0_part9_eq_skeleton]; unfold k0_part9_skel
  dsimp only
  rw [dif_pos h]
  unfold owns
  rw [show flag i = Scalar.cmpi .sge (BitVec.ofNat 32 (i 2).val) 1#32 from rfl]
  iintro ⟨⟨%f3, %hf3, H3⟩, H4, H5, ⟨%d, %f0, -, H0⟩, ⟨%e, %f1, -, H1⟩, Hk⟩
  obtain rfl := harg3.eq_unread hf3
  sl_exec
  rw [wp_bind]
  iapply (Scf.wp_for frame (wpE (defs₀ (F := F)) Variants.none c none) E k0_t1_loop.lb k0_t1_loop.ub k0_t1_loop.st (k0_t1_ok i h) ⟨⟩
    (k0_t1_body i arg3 harg3 arg4 harg4 arg5 harg5 arg6 harg6 arg7 harg7 arg8 harg8 arg9 harg9 arg10 harg10 arg11 harg11 arg12 harg12 arg13 harg13 arg14 harg14 h)
    (fun k _ => filled c arg4 arg5 arg10 arg11 x1 x2 (512 + 256 * k)) (fun k _ => fill_trip c i arg3 harg3 arg4 harg4 arg5 harg5 arg6 harg6 arg7 harg7 arg8 harg8 arg9 harg9 arg10 harg10 arg11 harg11 arg12 harg12 arg13 harg13 arg14 harg14 h x1 x2 k E))
  isplitl [H4 H5 H0 H1]
  · unfold filled owns
    isplitl [H4]; · iexact H4
    isplitl [H5]; · iexact H5
    isplitl [H0]
    · iexists _; isplitr
      swap
      · iexists _; isplitr
        swap; · iexact H0
        ipureintro; rfl
      ipureintro
      intro y hy
      have hy' : (y 0).val < 512 := hy
      refine (View.read_writes_cons_unit_of_mem (Val := Elt F) arg10.view _ (off := ![0, 0]) (size := S512x128.size) inb_S8704x128_S512x128_0_0 _ _ y
        (ix2 ⟨(y 0).val, hy'⟩ (y 1)) rfl (Fin.forall_fin_two.mpr ⟨by show (y 0).val = 0 + (y 0).val; omega, by show (y 1).val = 0 + (y 1).val; omega⟩)).trans ?_
      unfold fillK
      rw [dif_pos hy']
    iexists _; isplitr
    swap
    · iexists _; isplitr
      swap; · iexact H1
      ipureintro; rfl
    ipureintro
    intro y hy
    have hy' : (y 0).val < 512 := hy
    refine (View.read_writes_cons_unit_of_mem (Val := Elt F) arg11.view _ (off := ![0, 0]) (size := S512x256.size) inb_S8704x256_S512x256_0_0 _ _ y
      (ix2 ⟨(y 0).val, hy'⟩ (y 1)) rfl (Fin.forall_fin_two.mpr ⟨by show (y 0).val = 0 + (y 0).val; omega, by show (y 1).val = 0 + (y 1).val; omega⟩)).trans ?_
    unfold fillV
    rw [dif_pos hy']
  iintro %_ H
  unfold filled owns
  icases H with ⟨H4, H5, ⟨%d', %hd', H0⟩, ⟨%e', %he', H1⟩⟩
  obtain rfl : d' = fillK x1 := funext fun y => hd' y (by
    have : (y 0).val < 8704 := (y 0).isLt
    rw [show Scf.trips k0_t1_loop.lb k0_t1_loop.ub k0_t1_loop.st = 32 from by decide +kernel]; omega)
  obtain rfl : e' = fillV x2 := funext fun y => he' y (by
    have : (y 0).val < 8704 := (y 0).isLt
    rw [show Scf.trips k0_t1_loop.lb k0_t1_loop.ub k0_t1_loop.st = 32 from by decide +kernel]; omega)
  sl_exec
  sl_step
  simp only [View.readAt_eq_ld, harg3.read_unread, ld_q]
  iapply Hk
  isplitl [H3]
  · iexists _; isplitr; · ipureintro; exact harg3.read_unread _
    iexact H3
  isplitl [H4]; · iexact H4
  isplitl [H5]; · iexact H5
  isplitl [H0]; · iexact H0
  iexact H1

/-- The first part at the block's other points. -/
theorem part9_rest (h : ¬ k0_cond1 i = 1#1) (x0 : Vec F S512x128 .bf16) (E : Set ℕ) (K : _ → sProp 𝕄) :
    iprop(owns (c : Thread nD τ) arg3 fullShare x0
        ∗ (∀ a1 a2 a3 a4 a5 a6 a7 a8, owns (c : Thread nD τ) arg3 fullShare x0 -∗ K ⟨k0_pay53 x0, a1, a2, flag i, flag i, a3, a4, a5, a6, a7, a8⟩))
      ⊢ wp frame (wpE (defs₀ (F := F)) Variants.none c none) E (k0_part9 i arg3 harg3 arg4 harg4 arg5 harg5 arg6 harg6 arg7 harg7 arg8 harg8 arg9 harg9 arg10 harg10 arg11 harg11 arg12 harg12 arg13 harg13 arg14 harg14) K := by
  simp only [k0_part9_eq_skeleton]; unfold k0_part9_skel
  dsimp only
  rw [dif_neg h]
  unfold owns
  rw [show flag i = Scalar.cmpi .sge (BitVec.ofNat 32 (i 2).val) 1#32 from rfl]
  iintro ⟨⟨%f3, %hf3, H3⟩, Hk⟩
  obtain rfl := harg3.eq_unread hf3
  sl_exec
  sl_step
  simp only [View.readAt_eq_ld, harg3.read_unread, ld_q]
  iapply Hk
  iexists _; isplitr; · ipureintro; exact harg3.read_unread _
  iexact H3

/-! ## The whole body -/

/-- What the loops leave. -/
def last (x0 : Vec F S512x128 .bf16) (kc : Vec F S8704x128 .bf16) (vc : Vec F S8704x256 .bf16) : St F :=
  iter (k0_pay53 x0) kc vc (init (i 2).val (k0_pay53 x0) kc) ((i 2).val - 1)

/-- The output block. -/
def out (x0 : Vec F S512x128 .bf16) (kc : Vec F S8704x128 .bf16) (vc : Vec F S8704x256 .bf16) (x6 : Vec F S4x64 .f32) (x7 : Vec F S1x128 .f32)
    (x8 : Vec F S1x512x768 .f32) : Vec F S512x128 .bf16 :=
  k0_pay1
    (k0_pay76 (k0_pay73 (flag i) (flag i) (last i x0 kc vc).m (last i x0 kc vc).s (strip0 x8))
      (k0_pay74 (flag i) (flag i) (last i x0 kc vc).m (last i x0 kc vc).acc (last i x0 kc vc).p (vt vc ((i 2).val - 1)) (last i x0 kc vc).s (strip0 x8) (vt vc (i 2).val))
      (k0_pay75 (k0_pay53 x0) (kt kc ((i 2).val + 1))) (strip1 x8) (vt vc ((i 2).val + 1)) x6)
    (k0_pay77 x7)

/-- The body after the first part. -/
theorem rest (x0 : Vec F S512x128 .bf16) (kc : Vec F S8704x128 .bf16) (vc : Vec F S8704x256 .bf16) (x6 : Vec F S4x64 .f32) (x7 : Vec F S1x128 .f32)
    (x8 : Vec F S1x512x768 .f32) (a1 a2 a3 a4 a5 a6 a7 a8 : BitVec 32) (E : Set ℕ) (K : PUnit → sProp 𝕄) :
    iprop(owns (c : Thread nD τ) arg10 fullShare kc ∗ owns (c : Thread nD τ) arg11 fullShare vc ∗ (∃ d, owns (c : Thread nD τ) arg12 fullShare d)
        ∗ (∃ d, owns (c : Thread nD τ) arg13 fullShare d) ∗ (∃ d, owns (c : Thread nD τ) arg14 fullShare d)
        ∗ owns (c : Thread nD τ) arg6 fullShare x6 ∗ owns (c : Thread nD τ) arg7 fullShare x7 ∗ owns (c : Thread nD τ) arg8 fullShare x8 ∗ (∃ d, owns (c : Thread nD τ) arg9 fullShare d)
        ∗ ((held c arg10 arg11 arg12 arg13 arg14 kc vc (last i x0 kc vc) ∗ owns (c : Thread nD τ) arg6 fullShare x6 ∗ owns (c : Thread nD τ) arg7 fullShare x7
          ∗ owns (c : Thread nD τ) arg8 fullShare x8 ∗ owns (c : Thread nD τ) arg9 fullShare (out i x0 kc vc x6 x7 x8)) -∗ K ⟨⟩))
      ⊢ wp frame (wpE (defs₀ (F := F)) Variants.none c none) E (do
          let ⟨v43, v61, c4, v62, v67, v69, v71⟩ ← k0_part10 i arg3 harg3 arg4 harg4 arg5 harg5 arg6 harg6 arg7 harg7 arg8 harg8 arg9 harg9 arg10 harg10 arg11 harg11 arg12 harg12 arg13 harg13 arg14 harg14 (k0_pay53 x0) a1 a2 a4 a5 a6 a7 a8
          let ⟨v82, v91, v108, v110, v112⟩ ← k0_part11 i arg3 harg3 arg4 harg4 arg5 harg5 arg6 harg6 arg7 harg7 arg8 harg8 arg9 harg9 arg10 harg10 arg11 harg11 arg12 harg12 arg13 harg13 arg14 harg14 (k0_pay53 x0) a2 v43 v61 c4 v62 v67 v69 v71
          let ⟨v151, v152⟩ ← k0_part12 i arg3 harg3 arg4 harg4 arg5 harg5 arg6 harg6 arg7 harg7 arg8 harg8 arg9 harg9 arg10 harg10 arg11 harg11 arg12 harg12 arg13 harg13 arg14 harg14 (k0_pay53 x0) a2 v43 v82 v91 v108 v110 v112
          let ⟨v175, v187, v190⟩ ← k0_part13 i arg3 harg3 arg4 harg4 arg5 harg5 arg6 harg6 arg7 harg7 arg8 harg8 arg9 harg9 arg10 harg10 arg11 harg11 arg12 harg12 arg13 harg13 arg14 harg14 (k0_pay53 x0) a2 (flag i) (flag i) a3 v151 v152
          let ⟨v235, v237⟩ ← k0_part14 i arg3 harg3 arg4 harg4 arg5 harg5 arg6 harg6 arg7 harg7 arg8 harg8 arg9 harg9 arg10 harg10 arg11 harg11 arg12 harg12 arg13 harg13 arg14 harg14 a3 v175 v187 v190
          let v253 : Vec F S512x128 .bf16 ← Prog.lift (.load arg9 (Rect.unit (s := S512x128) ![0, 0] S512x128.size inb_S512x128_S512x128_0_0).toLoadRect (View.loadsAt_vmem h_S512x128))
          Prog.lift (.store arg9 (Rect.unit (s := S512x128) ![0, 0] S512x128.size inb_S512x128_S512x128_0_0) (k0_pay1 v235 v237) Finset.univ (View.stores_vmem h_S512x128 (harg9.storeExact_slice rfl _ packedbf16_S512x128_S512x128_0_0) (fun _ => rfl)) (.inl rfl))
          pure ⟨⟩) K := by
  iintro ⟨H0, H1, H2, H3, H4, H6, H7, H8, H9, Hk⟩
  rw [wp_bind]
  iapply (part10 c i arg3 harg3 arg4 harg4 arg5 harg5 arg6 harg6 arg7 harg7 arg8 harg8 arg9 harg9 arg10 harg10 arg11 harg11 arg12 harg12 arg13 harg13 arg14 harg14)
  isplitl [H0]; · iexact H0
  isplitl [H1]; · iexact H1
  isplitl [H2]; · iexact H2
  isplitl [H3]; · iexact H3
  isplitl [H4]; · iexact H4
  iintro %b1 %b2 %b3 %b4 %b5 %b6 H
  dsimp only
  rw [wp_bind]
  iapply (part11 c i arg3 harg3 arg4 harg4 arg5 harg5 arg6 harg6 arg7 harg7 arg8 harg8 arg9 harg9 arg10 harg10 arg11 harg11 arg12 harg12 arg13 harg13 arg14 harg14 (x := init (i 2).val (k0_pay53 x0) kc))
  isplitl [H]; · iexact H
  iintro %e1 %e2 %e3 %e4 H
  dsimp only
  rw [wp_bind]
  iapply (part12 c i arg3 harg3 arg4 harg4 arg5 harg5 arg6 harg6 arg7 harg7 arg8 harg8 arg9 harg9 arg10 harg10 arg11 harg11 arg12 harg12 arg13 harg13 arg14 harg14 (x := init (i 2).val (k0_pay53 x0) kc))
  isplitl [H]; · iexact H
  iintro %g1 H
  dsimp only
  rw [wp_bind]
  iapply (part13 c i arg3 harg3 arg4 harg4 arg5 harg5 arg6 harg6 arg7 harg7 arg8 harg8 arg9 harg9 arg10 harg10 arg11 harg11 arg12 harg12 arg13 harg13 arg14 harg14 (z := iter (k0_pay53 x0) kc vc (init (i 2).val (k0_pay53 x0) kc) ((i 2).val - 1)))
  isplitl [H]; · iexact H
  isplitl [H8]; · iexact H8
  iintro ⟨H, H8⟩
  dsimp only
  rw [wp_bind]
  unfold held
  icases H with ⟨H0, H1, H2, H3, H4⟩
  iapply (part14 c i arg3 harg3 arg4 harg4 arg5 harg5 arg6 harg6 arg7 harg7 arg8 harg8 arg9 harg9 arg10 harg10 arg11 harg11 arg12 harg12 arg13 harg13 arg14 harg14)
  isplitl [H1]; · iexact H1
  isplitl [H6]; · iexact H6
  isplitl [H7]; · iexact H7
  isplitl [H8]; · iexact H8
  iintro ⟨H1, H6, H7, H8⟩
  dsimp only
  unfold owns
  icases H9 with ⟨%d9, %f9, -, H9⟩
  sl_exec
  sl_step
  iapply Hk
  isplitl [H0 H1 H2 H3 H4]
  · isplitl [H0]; · iexact H0
    isplitl [H1]; · iexact H1
    isplitl [H2]; · iexact H2
    isplitl [H3]; · iexact H3
    iexact H4
  isplitl [H6]; · iexact H6
  isplitl [H7]; · iexact H7
  isplitl [H8]; · iexact H8
  iexists _; isplitr
  swap; · iexact H9
  ipureintro
  exact read_store hz _ _ _ _

/-- The body at a block's first point. -/
theorem body_first (h : k0_cond1 i = 1#1) (x0 : Vec F S512x128 .bf16) (x1 x2 : Vec F S8192x128 .bf16) (x6 : Vec F S4x64 .f32) (x7 : Vec F S1x128 .f32)
    (x8 : Vec F S1x512x768 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x6 ∗ owns (c : Thread nD τ) arg7 fullShare x7 ∗ owns (c : Thread nD τ) arg8 fullShare x8 ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ ((owns (c : Thread nD τ) arg3 fullShare x0 ∗ owns (c : Thread nD τ) arg4 fullShare x1 ∗ owns (c : Thread nD τ) arg5 fullShare x2
          ∗ owns (c : Thread nD τ) arg6 fullShare x6 ∗ owns (c : Thread nD τ) arg7 fullShare x7 ∗ owns (c : Thread nD τ) arg8 fullShare x8
          ∗ owns (c : Thread nD τ) arg9 fullShare (out i x0 (fillK x1) (fillV x2) x6 x7 x8)
          ∗ held c arg10 arg11 arg12 arg13 arg14 (fillK x1) (fillV x2) (last i x0 (fillK x1) (fillV x2))) -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14) K := by
  rw [cc0_diff_attention_eq_skeleton]; unfold cc0_diff_attention_skel
  iintro ⟨H3, H4, H5, H6, H7, H8, H9, H0, H1, H2, G3, G4, Hk⟩
  rw [wp_bind]
  iapply (part9_first c i arg3 harg3 arg4 harg4 arg5 harg5 arg6 harg6 arg7 harg7 arg8 harg8 arg9 harg9 arg10 harg10 arg11 harg11 arg12 harg12 arg13 harg13 arg14 harg14 h x0 x1 x2)
  isplitl [H3]; · iexact H3
  isplitl [H4]; · iexact H4
  isplitl [H5]; · iexact H5
  isplitl [H0]; · iexact H0
  isplitl [H1]; · iexact H1
  iintro %a1 %a2 %a3 %a4 %a5 %a6 %a7 %a8 ⟨H3, H4, H5, H0, H1⟩
  dsimp only
  iapply (rest c i arg3 harg3 arg4 harg4 arg5 harg5 arg6 harg6 arg7 harg7 arg8 harg8 arg9 harg9 arg10 harg10 arg11 harg11 arg12 harg12 arg13 harg13 arg14 harg14 x0 (fillK x1) (fillV x2) x6 x7 x8 a1 a2 a3 a4 a5 a6 a7 a8)
  isplitl [H0]; · iexact H0
  isplitl [H1]; · iexact H1
  isplitl [H2]; · iexact H2
  isplitl [G3]; · iexact G3
  isplitl [G4]; · iexact G4
  isplitl [H6]; · iexact H6
  isplitl [H7]; · iexact H7
  isplitl [H8]; · iexact H8
  isplitl [H9]; · iexact H9
  iintro ⟨H, H6, H7, H8, H9⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H

/-- The body at the block's other points, the keys and values kept. -/
theorem body_rest (h : ¬ k0_cond1 i = 1#1) (x0 : Vec F S512x128 .bf16) (kc : Vec F S8704x128 .bf16) (vc : Vec F S8704x256 .bf16) (x6 : Vec F S4x64 .f32) (x7 : Vec F S1x128 .f32)
    (x8 : Vec F S1x512x768 .f32) (E : Set ℕ) (K : PUnit → sProp 𝕄) :
    iprop(owns (c : Thread nD τ) arg3 fullShare x0
        ∗ owns (c : Thread nD τ) arg6 fullShare x6 ∗ owns (c : Thread nD τ) arg7 fullShare x7 ∗ owns (c : Thread nD τ) arg8 fullShare x8 ∗ (∃ d, owns (c : Thread nD τ) arg9 fullShare d)
        ∗ owns (c : Thread nD τ) arg10 fullShare kc ∗ owns (c : Thread nD τ) arg11 fullShare vc ∗ (∃ d, owns (c : Thread nD τ) arg12 fullShare d)
        ∗ (∃ d, owns (c : Thread nD τ) arg13 fullShare d) ∗ (∃ d, owns (c : Thread nD τ) arg14 fullShare d)
        ∗ ((owns (c : Thread nD τ) arg3 fullShare x0
          ∗ owns (c : Thread nD τ) arg6 fullShare x6 ∗ owns (c : Thread nD τ) arg7 fullShare x7 ∗ owns (c : Thread nD τ) arg8 fullShare x8
          ∗ owns (c : Thread nD τ) arg9 fullShare (out i x0 kc vc x6 x7 x8)
          ∗ held c arg10 arg11 arg12 arg13 arg14 kc vc (last i x0 kc vc)) -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14) K := by
  rw [cc0_diff_attention_eq_skeleton]; unfold cc0_diff_attention_skel
  iintro ⟨H3, H6, H7, H8, H9, H0, H1, H2, G3, G4, Hk⟩
  rw [wp_bind]
  iapply (part9_rest c i arg3 harg3 arg4 harg4 arg5 harg5 arg6 harg6 arg7 harg7 arg8 harg8 arg9 harg9 arg10 harg10 arg11 harg11 arg12 harg12 arg13 harg13 arg14 harg14 h x0)
  isplitl [H3]; · iexact H3
  iintro %a1 %a2 %a3 %a4 %a5 %a6 %a7 %a8 H3
  dsimp only
  iapply (rest c i arg3 harg3 arg4 harg4 arg5 harg5 arg6 harg6 arg7 harg7 arg8 harg8 arg9 harg9 arg10 harg10 arg11 harg11 arg12 harg12 arg13 harg13 arg14 harg14 x0 kc vc x6 x7 x8 a1 a2 a3 a4 a5 a6 a7 a8)
  isplitl [H0]; · iexact H0
  isplitl [H1]; · iexact H1
  isplitl [H2]; · iexact H2
  isplitl [G3]; · iexact G3
  isplitl [G4]; · iexact G4
  isplitl [H6]; · iexact H6
  isplitl [H7]; · iexact H7
  isplitl [H8]; · iexact H8
  isplitl [H9]; · iexact H9
  iintro ⟨H, H6, H7, H8, H9⟩
  iapply Hk
  isplitl [H3]; · iexact H3
  isplitl [H6]; · iexact H6
  isplitl [H7]; · iexact H7
  isplitl [H8]; · iexact H8
  isplitl [H9]; · iexact H9
  iexact H
end Body

end Cert.KernelIdeal.Dif
-- ==== Proof.DiffRunI.lean ====
/- The run of the differential attention. -/
module

public import proofs.«01_k».proof.Proof.Gen.KernelIdeal.Skeleton
public import proofs.«01_k».proof.Proof.Gen.KernelIdeal.Frame
public import Idealize.ShloMosaic.Lib.Claim
public import Idealize.ShloMosaic.Lib.Pipeline.Value
public import Idealize.ShloMosaic.Lib.WritesUnit
public import Idealize.ShloMosaic.Lib.LoopRemainder
public import Idealize.ShloMosaic.Lib.Pointwise
public import proofs.«01_k».proof.Proof.DiffFillI

@[expose] public section

set_option maxRecDepth 16384

noncomputable section

namespace Cert.KernelIdeal.Dif

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The filling is done at the first of a block's sixteen points. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The first point of the sixteen that point `t` belongs to. -/
def ev (t : Fin cfg0.N) : Fin cfg0.N := ⟨16 * (t.val / 16), by have := t.isLt; omega⟩
theorem ev_first (t : Fin cfg0.N) (h : t.val % 16 = 0) : ev t = t := Fin.ext (show 16 * (t.val / 16) = t.val by omega)
theorem ev_pred (t : Fin cfg0.N) (h : ¬t.val % 16 = 0) : ev ⟨t.val - 1, Nat.lt_of_le_of_lt (Nat.sub_le _ _) t.isLt⟩ = ev t :=
  Fin.ext (show 16 * ((t.val - 1) / 16) = 16 * (t.val / 16) by omega)

/-- The keys and the values kept after point `t`, and the output block then. -/
def keys (c : Dev nD) (t : Fin cfg0.N) : Vec F S8704x128 .bf16 := fillK (iblk m c 1 (ev t))
def vals (c : Dev nD) (t : Fin cfg0.N) : Vec F S8704x256 .bf16 := fillV (iblk m c 2 (ev t))
def o6 (c : Dev nD) (t : Fin cfg0.N) : Vec F S512x128 .bf16 :=
  out (grid0.coords t) (iblk m c 0 t) (keys m c t) (vals m c t) (iblk m c 3 t) (iblk m c 4 t) (iblk m c 5 t)

/-- The scratch of the loops, at anything. -/
def loose (c : Dev nD) : sProp 𝕄 :=
  iprop((∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d))

/-- The scratch between points: at anything at first, then the keys and values kept. -/
def kept (c : Dev nD) : (n : ℕ) → n ≤ cfg0.N → sProp 𝕄
  | 0, _ => Pipeline.ΦA spec0 c
  | n + 1, hn => iprop((owns (c : Thread nD τ) (Memref.whole cc0_scratch0) fullShare (keys m c ⟨n, hn⟩) ∗ owns (c : Thread nD τ) (Memref.whole cc0_scratch1) fullShare (vals m c ⟨n, hn⟩)
      ∗ loose c) ∗ (∃ r, prngReg c r))

theorem kept_zero (c : Dev nD) (n : ℕ) (h : n ≤ cfg0.N) (hz : n = 0) : kept m c n h = Pipeline.ΦA spec0 c := by
  subst hz; rfl
theorem kept_succ (c : Dev nD) (t : Fin cfg0.N) :
    kept m c (t.val + 1) t.isLt = iprop((owns (c : Thread nD τ) (Memref.whole cc0_scratch0) fullShare (keys m c t) ∗ owns (c : Thread nD τ) (Memref.whole cc0_scratch1) fullShare (vals m c t)
      ∗ loose c) ∗ (∃ r, prngReg c r)) := rfl
theorem kept_pos (c : Dev nD) (n : ℕ) (h : n ≤ cfg0.N) (hz : n ≠ 0) :
    kept m c n h = iprop((owns (c : Thread nD τ) (Memref.whole cc0_scratch0) fullShare (keys m c ⟨n - 1, by omega⟩) ∗ owns (c : Thread nD τ) (Memref.whole cc0_scratch1) fullShare (vals m c ⟨n - 1, by omega⟩)
      ∗ loose c) ∗ (∃ r, prngReg c r)) := by
  cases n with
  | zero => exact absurd rfl hz
  | succ n => rfl
theorem rest_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ loose c) ∗ (∃ r, prngReg c r)) := by
  unfold Pipeline.ΦA loose; rw [scopedRest0_eq]; simp only [owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 m c t
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem kept_castSucc (c : Dev nD) (t : Fin cfg0.N) : (dats m 0 c).Φ t.castSucc = kept m c t.val (Nat.le_of_lt t.isLt) := by
  dsimp only [dats]; exact Pipeline.Dat.Φ_castSucc (kept m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = o6 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = kept m c (t.val + 1) t.isLt from rfl, kept_succ]
  by_cases h0 : t.val % 16 = 0
  · have hs : kept m c t.val (Nat.le_of_lt t.isLt) ⊢ iprop(((∃ d, owns (c : Thread nD τ) (Memref.whole cc0_scratch0) fullShare d) ∗ (∃ d, owns (c : Thread nD τ) (Memref.whole cc0_scratch1) fullShare d) ∗ loose c) ∗ (∃ r, prngReg c r)) := by
      by_cases hz : t.val = 0
      · rw [kept_zero m c _ _ hz, rest_eq]
      · rw [kept_pos m c _ _ hz]
        iintro ⟨⟨HS, HT, HL⟩, Hg⟩
        isplitr [Hg]
        · isplitl [HS]
          · iexists _; iexact HS
          isplitl [HT]
          · iexists _; iexact HT
          iexact HL
        iexact Hg
    rw [kept_castSucc m c t]
    unfold o6 keys vals
    rw [ev_first t h0]
    iintro ⟨Hs, Ho, ⟨%d0, H0⟩, ⟨%d1, H1⟩, ⟨%d2, H2⟩, ⟨%d3, H3⟩, ⟨%d4, H4⟩, ⟨%d5, H5⟩, ⟨%d6, H6⟩⟩
    ihave Hs' := hs $$ Hs
    unfold loose
    icases Hs' with ⟨⟨HS, HT, HL2, HL3, HL4⟩, Hg⟩
    iapply (body_first c (grid0.coords t) _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HT]; · iexact HT
    isplitl [HL2]; · iexact HL2
    isplitl [HL3]; · iexact HL3
    isplitl [HL4]; · iexact HL4
    unfold held
    iintro ⟨H0, H1, H2, H3, H4, H5, H6, HS, HT, HL2, HL3, HL4⟩
    isplitl [HS HT HL2 HL3 HL4 Hg]
    · isplitr [Hg]
      · isplitl [HS]; · iexact HS
        isplitl [HT]; · iexact HT
        isplitl [HL2]; · iexists _; iexact HL2
        isplitl [HL3]; · iexists _; iexact HL3
        iexists _; iexact HL4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun h => h0 (by rw [h])
    have hk : keys m c ⟨t.val - 1, Nat.lt_of_le_of_lt (Nat.sub_le _ _) t.isLt⟩ = keys m c t := by unfold keys; rw [ev_pred t h0]
    have hv : vals m c ⟨t.val - 1, Nat.lt_of_le_of_lt (Nat.sub_le _ _) t.isLt⟩ = vals m c t := by unfold vals; rw [ev_pred t h0]
    rw [kept_castSucc m c t, kept_pos m c _ _ hz, hk, hv]
    unfold o6 loose
    iintro ⟨⟨⟨HS, HT, HL2, HL3, HL4⟩, Hg⟩, Ho, ⟨%d0, H0⟩, ⟨%d1, H1⟩, ⟨%d2, H2⟩, ⟨%d3, H3⟩, ⟨%d4, H4⟩, ⟨%d5, H5⟩, ⟨%d6, H6⟩⟩
    iapply (body_rest c (grid0.coords t) _ _ _ _ _ _ _ _ _ _ _ _ _ _ _ _ _ _ _ _ _ _ _ _ (fun h => h0 ((first_iff t).mp h)) (iblk m c 0 t) (keys m c t) (vals m c t) (iblk m c 3 t) (iblk m c 4 t) (iblk m c 5 t) Set.univ _)
    isplitl [H0]; · iexact H0
    isplitl [H3]; · iexact H3
    isplitl [H4]; · iexact H4
    isplitl [H5]; · iexact H5
    isplitl [H6]; · iexists _; iexact H6
    isplitl [HS]; · iexact HS
    isplitl [HT]; · iexact HT
    isplitl [HL2]; · iexact HL2
    isplitl [HL3]; · iexact HL3
    isplitl [HL4]; · iexact HL4
    unfold held
    iintro ⟨H0, H3, H4, H5, H6, HS, HT, HL2, HL3, HL4⟩
    isplitl [HS HT HL2 HL3 HL4 Hg]
    · isplitr [Hg]
      · isplitl [HS]; · iexact HS
        isplitl [HT]; · iexact HT
        isplitl [HL2]; · iexists _; iexact HL2
        isplitl [HL3]; · iexists _; iexact HL3
        iexists _; iexact HL4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = kept m c 0 (Nat.zero_le _) from rfl, kept_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = kept m c (Fin.last cfg0.N).val (Nat.le_of_lt_succ (Fin.last cfg0.N).isLt) from rfl,
    kept_pos m c _ _ (by rw [Fin.val_last]; have : cfg0.N = 128 := N_0; omega), rest_eq]
  iintro ⟨⟨HS, HT, HL⟩, Hg⟩
  isplitr [Hg]
  · isplitl [HS]
    · iexists _; iexact HS
    isplitl [HT]
    · iexists _; iexact HT
    iexact HL
  iexact Hg

/-! ## The run -/

set_option backward.isDefEq.respectTransparency.types false in
/-- Every execution ends with every array at what the proof data says, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.KernelIdeal.Dif
-- ==== Proof.DiffMath.lean ====
/- The mathematics of the differential attention: a softmax taken block by block against the softmax of a whole row,
over the extended reals. -/
module

public import Idealize.ShloMosaic.PureOps.Ideal
public import Idealize.ShloMosaic.Lib.Pointwise
public import Mathlib.Data.EReal.Inv
public import Mathlib.Analysis.SpecialFunctions.Pow.Real

@[expose] public section

noncomputable section

namespace Cert.DiffMath

open Idealize.ShloMosaic
open scoped BigOperators

/-! ## Sums and products of reals among the extended reals -/

/-- A sum of reals is the real sum. -/
theorem sum_coe {ι : Type} (t : Finset ι) (f : ι → ℝ) : ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

/-- A quotient of reals by a positive one is the real quotient. -/
theorem div_coe (x y : ℝ) (h : y ≠ 0) : Ideal.div (x : EReal) (y : EReal) = ((x / y : ℝ) : EReal) := by
  have h' : (y : EReal) ≠ 0 := by exact_mod_cast h
  unfold Ideal.div
  rw [if_neg h', div_eq_mul_inv, EReal.coe_mul, EReal.coe_inv]

/-! ## The maximum of a block -/

/-- The maximum over a block, from minus infinity: at least every element, and minus infinity or one of them. -/
theorem fold_max {ι : Type} [Fintype ι] (f : ι → EReal) :
    (∀ k, f k ≤ Finset.univ.fold max ⊥ f) ∧ (Finset.univ.fold max ⊥ f = ⊥ ∨ ∃ k, Finset.univ.fold max ⊥ f = f k) := by
  classical
  refine ⟨fun k => (Finset.le_fold_max _).mpr (Or.inr ⟨k, Finset.mem_univ k, le_rfl⟩), ?_⟩
  have h : ∀ t : Finset ι, t.fold max ⊥ f = ⊥ ∨ ∃ k, t.fold max ⊥ f = f k := by
    intro t
    induction t using Finset.induction_on with
    | empty => exact Or.inl rfl
    | insert a t ha ih =>
      rw [Finset.fold_insert ha]
      rcases le_total (f a) (t.fold max ⊥ f) with h | h
      · rw [max_eq_right h]; exact ih
      · rw [max_eq_left h]; exact Or.inr ⟨a, rfl⟩
  exact h _

/-! ## Weights -/

/-- The weight of a score: two to it, nothing at minus infinity. -/
def wt (s : EReal) : ℝ := (Ideal.exp2 s).toReal

theorem exp2_bot : Ideal.exp2 ⊥ = 0 := rfl
theorem exp2_coe (r : ℝ) : Ideal.exp2 (r : EReal) = (((2 : ℝ) ^ r : ℝ) : EReal) := rfl
theorem wt_bot : wt ⊥ = 0 := by unfold wt; rw [exp2_bot]; rfl
theorem wt_coe (r : ℝ) : wt (r : EReal) = (2 : ℝ) ^ r := by unfold wt; rw [exp2_coe]; rfl

/-- Two to a score less a real maximum. -/
theorem exp2_sub {s : EReal} (hs : s ≠ ⊤) (μ : ℝ) : Ideal.exp2 (s - (μ : EReal)) = (((2 : ℝ) ^ (-μ) * wt s : ℝ) : EReal) := by
  induction s using EReal.rec with
  | bot => rw [EReal.bot_sub, exp2_bot, wt_bot, mul_zero]; rfl
  | coe r =>
    rw [← EReal.coe_sub, exp2_coe, wt_coe, ← Real.rpow_add (by norm_num)]
    congr 2; ring
  | top => exact absurd rfl hs

/-! ## The running sum -/

/-- `A` is the running sum at the running maximum `m` of what sums to `W` without one. -/
def Inv (m A : EReal) (W : ℝ) : Prop :=
  (m = ⊥ ∧ A = 0 ∧ W = 0) ∨ ∃ μ : ℝ, m = (μ : EReal) ∧ A = (((2 : ℝ) ^ (-μ) * W : ℝ) : EReal)

/-- One block: the maximum goes up, the running sum is scaled and the block's weighted values are added. -/
theorem Inv.step {ι : Type} [Fintype ι] {m A : EReal} {W : ℝ} (h : Inv m A W) (s : ι → EReal) (hs : ∀ k, s k ≠ ⊤)
    (v : ι → EReal) (v' : ι → ℝ) (hv : ∀ k, v k = ((v' k : ℝ) : EReal)) (B : EReal) (hB : B = Finset.univ.fold max ⊥ s) :
    Inv (max m B) (Ideal.exp2 (m - max m B) * A + ∑ k, Ideal.exp2 (s k - max m B) * v k) (W + ∑ k, wt (s k) * v' k) := by
  obtain ⟨h1, h2⟩ := fold_max s
  rw [← hB] at h1 h2
  have hbt : B ≠ ⊤ := by
    rcases h2 with h | ⟨k, h⟩
    · rw [h]; exact bot_ne_top
    · rw [h]; exact hs k
  have hm : m ≠ ⊤ := by
    rcases h with ⟨h, -⟩ | ⟨μ, h, -⟩
    · rw [h]; exact bot_ne_top
    · rw [h]; exact EReal.coe_ne_top μ
  have hM : max m B ≠ ⊤ := by
    rcases le_total m B with h | h
    · rw [max_eq_right h]; exact hbt
    · rw [max_eq_left h]; exact hm
  by_cases hb : max m B = ⊥
  · have hm0 : m = ⊥ := le_bot_iff.mp (hb ▸ le_max_left m B)
    have hB0 : B = ⊥ := le_bot_iff.mp (hb ▸ le_max_right m B)
    have hs0 : ∀ k, s k = ⊥ := fun k => le_bot_iff.mp (hB0 ▸ h1 k)
    have hAW : A = 0 ∧ W = 0 := by
      rcases h with ⟨-, h⟩ | ⟨μ, h, -⟩
      · exact h
      · rw [hm0] at h; exact absurd h.symm (EReal.coe_ne_bot μ)
    refine Or.inl ⟨hb, ?_, ?_⟩
    · rw [hb, hAW.1, mul_zero, zero_add]
      refine Finset.sum_eq_zero fun k _ => ?_
      rw [hs0 k, EReal.bot_sub, exp2_bot, zero_mul]
    · rw [hAW.2, zero_add]
      refine Finset.sum_eq_zero fun k _ => ?_
      rw [hs0 k, wt_bot, zero_mul]
  · obtain ⟨μ, hμ⟩ : ∃ μ : ℝ, max m B = (μ : EReal) := by
      induction hx : max m B using EReal.rec with
      | bot => exact absurd hx hb
      | coe r => exact ⟨r, rfl⟩
      | top => exact absurd hx hM
    refine Or.inr ⟨μ, hμ, ?_⟩
    rw [hμ]
    have e1 : Ideal.exp2 (m - (μ : EReal)) * A = (((2 : ℝ) ^ (-μ) * W : ℝ) : EReal) := by
      rcases h with ⟨h, hA, hW⟩ | ⟨ν, h, hA⟩
      · rw [hA, hW, mul_zero, mul_zero]; rfl
      · rw [exp2_sub hm, hA, ← EReal.coe_mul, h, wt_coe]
        congr 1
        rw [mul_assoc, ← mul_assoc ((2 : ℝ) ^ ν), ← Real.rpow_add (by norm_num), add_neg_cancel, Real.rpow_zero, one_mul]
    have e2 : ∀ k, Ideal.exp2 (s k - (μ : EReal)) * v k = (((2 : ℝ) ^ (-μ) * (wt (s k) * v' k) : ℝ) : EReal) := fun k => by
      rw [exp2_sub (hs k), hv k, ← EReal.coe_mul, mul_assoc]
    rw [e1, Finset.sum_congr rfl (fun k _ => e2 k), sum_coe, ← EReal.coe_add, ← Finset.mul_sum, ← mul_add]

/-- The quotient of two running sums at one maximum does not depend on it. -/
theorem Inv.div {m A D : EReal} {W Z : ℝ} (hA : Inv m A W) (hD : Inv m D Z) (hZ : Z ≠ 0) :
    Ideal.div A D = ((W / Z : ℝ) : EReal) := by
  rcases hD with ⟨-, -, h⟩ | ⟨μ, hm, hD⟩
  · exact absurd h hZ
  · rcases hA with ⟨h, -⟩ | ⟨ν, hm', hA⟩
    · rw [h] at hm; exact absurd hm.symm (EReal.coe_ne_bot μ)
    · have hp : (2 : ℝ) ^ (-μ) ≠ 0 := (Real.rpow_pos_of_pos (by norm_num) _).ne'
      have : ν = μ := by rw [hm] at hm'; exact_mod_cast hm'.symm
      subst this
      rw [hA, hD, div_coe _ _ (mul_ne_zero hp hZ), mul_div_mul_left _ _ hp]

/-! ## The softmax of a whole row -/

/-- The unnormalised weight of key `j` in a causal row: `exp` of its logit up to the diagonal, nothing after it. -/
def ew {N : ℕ} (t : ℕ) (l : Fin N → ℝ) (j : Fin N) : ℝ := if j.val ≤ t then Real.exp (l j) else 0

theorem ew_nonneg {N : ℕ} (t : ℕ) (l : Fin N → ℝ) (j : Fin N) : 0 ≤ ew t l j := by
  unfold ew; split
  · exact (Real.exp_pos _).le
  · exact le_rfl

theorem ew_sum_pos {N : ℕ} (t : Fin N) (l : Fin N → ℝ) : 0 < ∑ j, ew t.val l j := by
  refine Finset.sum_pos' (fun j _ => ew_nonneg _ _ _) ⟨t, Finset.mem_univ t, ?_⟩
  unfold ew; rw [if_pos le_rfl]; exact Real.exp_pos _

theorem exp_coe (r : ℝ) : Ideal.exp (r : EReal) = ((Real.exp r : ℝ) : EReal) := rfl

/-- The masked softmax of the reference: the row's maximum is subtracted, what is masked counts nothing, and the sum is at least
`10⁻³⁰` — which it always is, the greatest logit giving one. -/
theorem softmax {N : ℕ} (t : Fin N) (l : Fin N → ℝ) (c : ℝ) (hc : c ≤ 1)
    (M : EReal) (hM : M = Finset.univ.fold max ⊥ (fun j : Fin N => if j.val ≤ t.val then ((l j : ℝ) : EReal) else ⊥))
    (p : Fin N → EReal) (hp : ∀ j, p j = if j.val ≤ t.val then Ideal.exp (((l j : ℝ) : EReal) - M) else 0) (j : Fin N) :
    Ideal.div (p j) (max (∑ k, p k) (c : EReal)) = ((ew t.val l j / ∑ k, ew t.val l k : ℝ) : EReal) := by
  obtain ⟨h1, h2⟩ := fold_max (fun j : Fin N => if j.val ≤ t.val then ((l j : ℝ) : EReal) else ⊥)
  rw [← hM] at h1 h2
  have ht := h1 t
  simp only [le_refl, if_true] at ht
  have hMb : M ≠ ⊥ := fun h => by rw [h] at ht; exact absurd (le_bot_iff.mp ht) (EReal.coe_ne_bot _)
  obtain ⟨k, hk⟩ : ∃ k : Fin N, M = if k.val ≤ t.val then ((l k : ℝ) : EReal) else ⊥ := by
    rcases h2 with h | h
    · exact absurd h hMb
    · exact h
  have hkt : k.val ≤ t.val := by
    by_contra h; rw [if_neg h] at hk; exact hMb hk
  rw [if_pos hkt] at hk
  have hp' : ∀ j, p j = ((Real.exp (-l k) * ew t.val l j : ℝ) : EReal) := fun j => by
    rw [hp j]; unfold ew
    split
    · rw [hk, ← EReal.coe_sub, exp_coe, ← Real.exp_add]; congr 2; ring
    · rw [mul_zero]; rfl
  have hS : ∑ k, p k = ((Real.exp (-l k) * ∑ j, ew t.val l j : ℝ) : EReal) := by
    rw [Finset.sum_congr rfl (fun j _ => hp' j), sum_coe, Finset.mul_sum]
  have hge : (1 : ℝ) ≤ Real.exp (-l k) * ∑ j, ew t.val l j := by
    have : Real.exp (l k) ≤ ∑ j, ew t.val l j := by
      have h := Finset.single_le_sum (f := fun j => ew t.val l j) (fun j _ => ew_nonneg _ _ _) (Finset.mem_univ k)
      refine le_trans (le_of_eq ?_) h
      unfold ew; rw [if_pos hkt]
    calc (1 : ℝ) = Real.exp (-l k) * Real.exp (l k) := by rw [← Real.exp_add, neg_add_cancel, Real.exp_zero]
      _ ≤ _ := mul_le_mul_of_nonneg_left this (Real.exp_pos _).le
  rw [hS, max_eq_left (by exact_mod_cast hc.trans hge), hp' j, div_coe _ _ (by linarith),
    mul_div_mul_left _ _ (Real.exp_pos _).ne']

/-! ## Blocks of 512 rows -/

/-- A sum over a further block of 512. -/
theorem sum_block (g : ℕ → ℝ) (n : ℕ) :
    ∑ y ∈ Finset.range (512 * (n + 1)), g y = ∑ y ∈ Finset.range (512 * n), g y + ∑ k : Fin 512, g (512 * n + k.val) := by
  rw [show 512 * (n + 1) = 512 * n + 512 from by ring, Finset.sum_range_add, Finset.sum_range (fun k => g (512 * n + k))]

end Cert.DiffMath
-- ==== Proof.DiffFlash.lean ====
/- The differential attention's block: what its registers hold, row by row. -/
module

public import proofs.«01_k».proof.Proof.DiffFillI
public import proofs.«01_k».proof.Proof.DiffMath

@[expose] public section

set_option maxRecDepth 16384

noncomputable section

namespace Cert.KernelIdeal.Dif

open Idealize.ShloMosaic Idealize.ShloMosaic.TcCoe
open Cert.DiffMath
open Cert.KernelIdeal.Gen

theorem ninf : (Ideal.ofBits .f32 0xFF800000#32 : EReal) = ⊥ := by simp [Ideal.ofBits, Ideal.ieee]

section Step
variable (q : FVec Ideal S1024x128 .bf16) (v : Vec Ideal S512x256 .bf16) (k : FVec Ideal S512x128 .bf16) (x : St Ideal)
  (r : Fin 1024) (c : Fin 256) (j : Fin 512)

/-- The greatest of a row. -/
def top (s : Fin 512 → EReal) : EReal := Finset.univ.fold max ⊥ s

theorem pay40_at (m : FVec Ideal S1024x1 .f32) (s : Vec Ideal S1024x512 .f32) : k0_pay40 m s (ix2 r 0) = max (m (ix2 r 0)) (top fun j : Fin 512 => s (ix2 r j)) := by
  pointwise [k0_pay40]
  rw [ninf]; rfl

theorem step_acc : (step q v k x).acc (ix2 r c)
    = Ideal.exp2 (x.m (ix2 r 0) - k0_pay40 x.m x.s (ix2 r 0)) * (x.acc (ix2 r c) + ∑ j : Fin 512, x.p (ix2 r j) * v (ix2 j c)) := by
  show k0_pay43 x.m x.acc x.p v x.s (ix2 r c) = _
  pointwise [k0_pay43]
  rfl

theorem step_p : (step q v k x).p (ix2 r j) = Ideal.exp2 (x.s (ix2 r j) - k0_pay40 x.m x.s (ix2 r 0)) := by
  show truncf .bf16 (exp2 (subf x.s (broadcastTo S1024x512 (k0_pay40 x.m x.s) broadcasts_S1024x1_S1024x512))) bitsLt_bf16_f32 (ix2 r j) = _
  pointwise []
  rfl

theorem score_at : matmul (φ₂ := .bf16) dot_S1024x128_S512x128_S1024x512_1_1_0_0_n_n none q k (constant S1024x512 .f32 0x00000000#32) (ix2 r j) = ∑ d : Fin 128, q (ix2 r d) * k (ix2 j d) := by
  pointwise []

theorem pay54_at : k0_pay54 q k (ix2 r j) = ∑ d : Fin 128, q (ix2 r d) * k (ix2 j d) := by
  pointwise [k0_pay54]

theorem pay75_at : k0_pay75 q k (ix2 r j) = ∑ d : Fin 128, q (ix2 r d) * k (ix2 j d) := by
  pointwise [k0_pay75]

theorem pay57_at : (k0_pay57 : FVec Ideal S1024x1 .f32) (ix2 r 0) = ⊥ := by
  pointwise [k0_pay57]
  rfl

theorem pay56_at : (k0_pay56 : FVec Ideal S1024x256 .f32) (ix2 r c) = 0 := by
  pointwise [k0_pay56]

theorem pay55_at : (k0_pay55 : FVec Ideal S1024x512 .bf16) (ix2 r j) = 0 := by
  pointwise [k0_pay55]

end Step

section Tail
variable (fl : BitVec 1) (m : FVec Ideal S1024x1 .f32) (acc : Vec Ideal S1024x256 .f32) (p : Vec Ideal S1024x512 .bf16) (v v' : Vec Ideal S512x256 .bf16)
  (s : Vec Ideal S1024x512 .f32) (st : Vec Ideal S1x512x256 .f32) (st' : Vec Ideal S1x512x512 .f32) (x6 : Vec Ideal S4x64 .f32) (r : Fin 1024) (r0 : Fin 512) (c : Fin 256) (j : Fin 512)

/-- What a gate adds to a score. -/
def gate : EReal := Scalar.select fl (Ideal.ofBits .f32 0x00000000#32) (Named.named (F := Ideal) κ "mask" (φ := .f32) 0xF149F2CA#32)

theorem gate_one : gate 1#1 = 0 := by unfold gate; pointwise []
theorem gate_zero : gate 0#1 = ⊥ := by unfold gate; pointwise []; rfl

theorem pay72_at (h : r.val % 512 = r0.val) : k0_pay72 fl fl s st (ix2 r j) = s (ix2 r j) + (if h : j.val < 256 then gate fl else st (ix3 0 r0 ⟨j.val - 256, by omega⟩) + gate fl) := by
  pointwise [k0_pay72]
  have hg : Scalar.select fl 0 (Named.named (F := Ideal) κ "mask" (φ := .f32) 4048155338#32) = gate fl := by unfold gate; pointwise []
  refine congrArg (s (ix2 r j) + ·) ?_
  by_cases hj : j.val < 256
  · have eR : (if h : j.val < 256 then gate fl else st (ix3 0 r0 ⟨j.val - 256, by omega⟩) + gate fl) = gate fl := dif_pos hj
    rw [eR]
    refine Eq.trans (dif_pos hj) ?_
    exact hg
  · have eR : (if h : j.val < 256 then gate fl else st (ix3 0 r0 ⟨j.val - 256, by omega⟩) + gate fl) = st (ix3 0 r0 ⟨j.val - 256, by omega⟩) + gate fl := dif_neg hj
    rw [eR]
    refine Eq.trans (dif_neg hj) ?_
    refine congrArg₂ (· + ·) ?_ hg
    by_cases hr : r.val < 512
    · have : (⟨r.val, hr⟩ : Fin 512) = r0 := Fin.ext (by rw [← h]; exact (Nat.mod_eq_of_lt hr).symm)
      rw [← this]; exact dif_pos hr
    · have : (⟨r.val - 512, by omega⟩ : Fin 512) = r0 := Fin.ext (by show r.val - 512 = r0.val; omega)
      rw [← this]; exact dif_neg hr

theorem pay73_at : k0_pay73 fl fl m s st (ix2 r 0) = max (m (ix2 r 0)) (top fun j => k0_pay72 fl fl s st (ix2 r j)) := by
  pointwise [k0_pay73]
  rw [ninf]; rfl

theorem pay74_at : k0_pay74 fl fl m acc p v s st v' (ix2 r c)
    = Ideal.exp2 (m (ix2 r 0) - k0_pay73 fl fl m s st (ix2 r 0)) * (acc (ix2 r c) + ∑ j : Fin 512, p (ix2 r j) * v (ix2 j c))
      + ∑ j : Fin 512, Ideal.exp2 (k0_pay72 fl fl s st (ix2 r j) - k0_pay73 fl fl m s st (ix2 r 0)) * v' (ix2 j c) := by
  pointwise [k0_pay74]
  rfl

/-- A score of the last block. -/
def fs : EReal := s (ix2 r j) + st' (ix3 0 r0 j)
/-- The greatest score of a row once the last block is seen. -/
def fm : EReal := max (m (ix2 r 0)) (top fun j => fs s st' r r0 j)
/-- The running sums once the last block is added. -/
def fA : EReal := Ideal.exp2 (m (ix2 r 0) - fm m s st' r r0) * acc (ix2 r c) + ∑ j : Fin 512, Ideal.exp2 (fs s st' r r0 j - fm m s st' r r0) * v (ix2 j c)
/-- The weight of the second softmax. -/
def lamK : EReal :=
  Ideal.exp (∑ d : Fin 64, x6 (ix2 0 d) * x6 (ix2 1 d)) - Ideal.exp (∑ d : Fin 64, x6 (ix2 2 d) * x6 (ix2 3 d)) + Ideal.ofBits .f32 0x3E4CCCCD#32

theorem pay76_at (c : Fin 128) : k0_pay76 m acc s st' v x6 (ix2 r0 c)
    = Ideal.div (fA m acc v s st' ⟨r0.val, by omega⟩ r0 ⟨c.val, by omega⟩) (fA m acc v s st' ⟨r0.val, by omega⟩ r0 128)
      - lamK x6 * Ideal.div (fA m acc v s st' ⟨512 + r0.val, by omega⟩ r0 ⟨c.val, by omega⟩) (fA m acc v s st' ⟨512 + r0.val, by omega⟩ r0 128) := by
  pointwise [k0_pay76]
  rw [ninf]; rfl
end Tail

section Row
variable (n : ℕ) (q : FVec Ideal S1024x128 .bf16) (kc : Vec Ideal S8704x128 .bf16) (vc : Vec Ideal S8704x256 .bf16) (r : Fin 1024) (c : Fin 256)
  (σ ν w : ℕ → ℝ)
  (hσ : ∀ (y : ℕ) (h : y < 8704), ∑ d : Fin 128, q (ix2 r d) * kc (ix2 ⟨y, h⟩ d) = ((σ y : ℝ) : EReal))
  (hν : ∀ (y : ℕ) (h : y < 8704), vc (ix2 ⟨y, h⟩ c) = ((ν y : ℝ) : EReal))
  (hw0 : ∀ y, y < 512 → w y = 0) (hw : ∀ y, 512 ≤ y → y < 512 * n → (2 : ℝ) ^ (σ y) = w y)

include hσ in
theorem kt_at (b : ℕ) (hb : b < 17) (j : Fin 512) : ∑ d : Fin 128, q (ix2 r d) * kt kc b (ix2 j d) = ((σ (512 * b + j.val) : ℝ) : EReal) := by
  have hy : 512 * b + j.val < 8704 := by omega
  rw [← hσ _ hy]
  refine Finset.sum_congr rfl fun d _ => ?_
  have : kt kc b (ix2 j d) = kc (ix2 ⟨512 * b + j.val, hy⟩ d) := by
    show kc (ix2 ⟨(512 * b + j.val) % 8704, _⟩ d) = _
    congr 2
    exact Fin.ext (Nat.mod_eq_of_lt hy)
  rw [this]

include hν in
theorem vt_at (b : ℕ) (hb : b < 17) (j : Fin 512) : vt vc b (ix2 j c) = ((ν (512 * b + j.val) : ℝ) : EReal) := by
  have hy : 512 * b + j.val < 8704 := by omega
  rw [← hν _ hy]
  show vc (ix2 ⟨(512 * b + j.val) % 8704, _⟩ c) = _
  congr 2
  exact Fin.ext (Nat.mod_eq_of_lt hy)

include hσ hν hw0 hw in
/-- After `k` steps: block `k + 1` is scored, and what is summed, the pending block included, is the first `k + 1` blocks. -/
theorem iter_inv (hn1 : 1 ≤ n) (hn : n < 16) : ∀ k : ℕ, k + 1 ≤ n →
    (∀ j : Fin 512, (iter q kc vc (init n q kc) k).s (ix2 r j) = ((σ (512 * (k + 1) + j.val) : ℝ) : EReal))
    ∧ Inv ((iter q kc vc (init n q kc) k).m (ix2 r 0))
        ((iter q kc vc (init n q kc) k).acc (ix2 r c) + ∑ j : Fin 512, (iter q kc vc (init n q kc) k).p (ix2 r j) * vt vc k (ix2 j c))
        (∑ y ∈ Finset.range (512 * (k + 1)), w y * ν y) := by
  intro k
  induction k with
  | zero =>
    intro _
    refine ⟨fun j => ?_, ?_⟩
    · show k0_pay54 q (kt kc (min n 1)) (ix2 r j) = _
      rw [min_eq_right hn1, pay54_at, kt_at q kc r σ hσ 1 (by omega)]
    · show Inv ((k0_pay57 : FVec Ideal S1024x1 .f32) (ix2 r 0)) ((k0_pay56 : FVec Ideal S1024x256 .f32) (ix2 r c) + ∑ j : Fin 512, (k0_pay55 : FVec Ideal S1024x512 .bf16) (ix2 r j) * vt vc 0 (ix2 j c)) _
      refine Or.inl ⟨pay57_at r, ?_, ?_⟩
      · rw [pay56_at, zero_add]
        exact Finset.sum_eq_zero fun j _ => by rw [pay55_at, zero_mul]
      · exact Finset.sum_eq_zero fun y hy => by rw [hw0 y (by simpa using hy), zero_mul]
  | succ k ih =>
    intro hk
    obtain ⟨h1, h2⟩ := ih (by omega)
    rw [iter_succ]
    generalize hx : iter q kc vc (init n q kc) k = x at h1 h2 ⊢
    refine ⟨fun j => ?_, ?_⟩
    · show matmul (φ₂ := .bf16) dot_S1024x128_S512x128_S1024x512_1_1_0_0_n_n none q (kt kc (k + 2)) (constant S1024x512 .f32 0x00000000#32) (ix2 r j) = _
      rw [score_at, kt_at q kc r σ hσ (k + 2) (by omega)]
    · have h := h2.step (fun j : Fin 512 => x.s (ix2 r j)) (fun j => by rw [h1 j]; exact EReal.coe_ne_top _)
        (fun j => vt vc (k + 1) (ix2 j c)) (fun j => ν (512 * (k + 1) + j.val)) (fun j => vt_at vc c ν hν (k + 1) (by omega) j)
        (top fun j => x.s (ix2 r j)) rfl
      rw [← pay40_at] at h
      rw [step_acc, sum_block (fun y => w y * ν y) (k + 1)]
      have e : ∀ j : Fin 512, wt (x.s (ix2 r j)) = w (512 * (k + 1) + j.val) := fun j => by
        rw [h1 j, wt_coe, hw _ (by omega) (by omega)]
      simp only [e] at h
      have e' : ∀ j : Fin 512, (step q (vt vc k) (kt kc (k + 2)) x).p (ix2 r j) = Ideal.exp2 (x.s (ix2 r j) - k0_pay40 x.m x.s (ix2 r 0)) := fun j => step_p _ _ _ _ _ _
      simp only [e']
      exact h

/-- What the bias strip's first part adds to a score. -/
def bias0 (fl : BitVec 1) (st : Vec Ideal S1x512x256 .f32) (r0 : Fin 512) (j : Fin 512) : EReal :=
  if h : j.val < 256 then gate fl else st (ix3 0 r0 ⟨j.val - 256, by omega⟩) + gate fl

include hσ hν hw0 hw in
/-- The sums of a row at the end. -/
theorem final_inv (hn : n < 16) (fl : BitVec 1) (st : Vec Ideal S1x512x256 .f32) (st' : Vec Ideal S1x512x512 .f32) (r0 : Fin 512) (hr : r.val % 512 = r0.val)
    (hT0 : ∀ j : Fin 512, ((σ (512 * n + j.val) : ℝ) : EReal) + bias0 fl st r0 j ≠ ⊤ ∧ wt (((σ (512 * n + j.val) : ℝ) : EReal) + bias0 fl st r0 j) = w (512 * n + j.val))
    (hT1 : ∀ j : Fin 512, ((σ (512 * (n + 1) + j.val) : ℝ) : EReal) + st' (ix3 0 r0 j) ≠ ⊤ ∧ wt (((σ (512 * (n + 1) + j.val) : ℝ) : EReal) + st' (ix3 0 r0 j)) = w (512 * (n + 1) + j.val))
    (x : St Ideal) (hx : x = iter q kc vc (init n q kc) (n - 1)) :
    Inv (fm (k0_pay73 fl fl x.m x.s st) (k0_pay75 q (kt kc (n + 1))) st' r r0)
      (fA (k0_pay73 fl fl x.m x.s st) (k0_pay74 fl fl x.m x.acc x.p (vt vc (n - 1)) x.s st (vt vc n)) (vt vc (n + 1)) (k0_pay75 q (kt kc (n + 1))) st' r r0 c)
      (∑ y ∈ Finset.range (512 * (n + 2)), w y * ν y) := by
  have hs : (∀ j : Fin 512, x.s (ix2 r j) = ((σ (512 * n + j.val) : ℝ) : EReal))
      ∧ Inv (x.m (ix2 r 0)) (x.acc (ix2 r c) + ∑ j : Fin 512, x.p (ix2 r j) * vt vc (n - 1) (ix2 j c)) (∑ y ∈ Finset.range (512 * n), w y * ν y) := by
    rcases Nat.eq_zero_or_pos n with h0 | h0
    · subst h0
      rw [hx]
      refine ⟨fun j => ?_, ?_⟩
      · show k0_pay54 q (kt kc (min 0 1)) (ix2 r j) = _
        rw [pay54_at, kt_at q kc r σ hσ (min 0 1) (by omega)]; rfl
      · show Inv ((k0_pay57 : FVec Ideal S1024x1 .f32) (ix2 r 0)) ((k0_pay56 : FVec Ideal S1024x256 .f32) (ix2 r c) + ∑ j : Fin 512, (k0_pay55 : FVec Ideal S1024x512 .bf16) (ix2 r j) * vt vc 0 (ix2 j c)) _
        refine Or.inl ⟨pay57_at r, ?_, ?_⟩
        · rw [pay56_at, zero_add]
          exact Finset.sum_eq_zero fun j _ => by rw [pay55_at, zero_mul]
        · simp
    · have h := iter_inv n q kc vc r c σ ν w hσ hν hw0 hw h0 hn (n - 1) (by omega)
      rw [← hx, show n - 1 + 1 = n from by omega] at h
      exact h
  obtain ⟨h1, h2⟩ := hs
  have e72 : ∀ j : Fin 512, k0_pay72 fl fl x.s st (ix2 r j) = ((σ (512 * n + j.val) : ℝ) : EReal) + bias0 fl st r0 j := fun j => by
    rw [pay72_at fl x.s st r r0 j hr, h1 j]; rfl
  have g := h2.step (fun j : Fin 512 => k0_pay72 fl fl x.s st (ix2 r j)) (fun j => by rw [e72]; exact (hT0 j).1)
    (fun j => vt vc n (ix2 j c)) (fun j => ν (512 * n + j.val)) (fun j => vt_at vc c ν hν n (by omega) j)
    (top fun j => k0_pay72 fl fl x.s st (ix2 r j)) rfl
  rw [← pay73_at] at g
  have e : ∀ j : Fin 512, wt (k0_pay72 fl fl x.s st (ix2 r j)) = w (512 * n + j.val) := fun j => by rw [e72]; exact (hT0 j).2
  simp only [e] at g
  rw [← sum_block (fun y => w y * ν y) n, ← pay74_at] at g
  have e75 : ∀ j : Fin 512, fs (k0_pay75 q (kt kc (n + 1))) st' r r0 j = ((σ (512 * (n + 1) + j.val) : ℝ) : EReal) + st' (ix3 0 r0 j) := fun j => by
    unfold fs; rw [pay75_at, kt_at q kc r σ hσ (n + 1) (by omega)]
  have g' := g.step (fun j : Fin 512 => fs (k0_pay75 q (kt kc (n + 1))) st' r r0 j) (fun j => by rw [e75]; exact (hT1 j).1)
    (fun j => vt vc (n + 1) (ix2 j c)) (fun j => ν (512 * (n + 1) + j.val)) (fun j => vt_at vc c ν hν (n + 1) (by omega) j)
    (top fun j => fs (k0_pay75 q (kt kc (n + 1))) st' r r0 j) rfl
  have e' : ∀ j : Fin 512, wt (fs (k0_pay75 q (kt kc (n + 1))) st' r r0 j) = w (512 * (n + 1) + j.val) := fun j => by rw [e75]; exact (hT1 j).2
  simp only [e'] at g'
  rw [← sum_block (fun y => w y * ν y) (n + 1)] at g'
  exact g'

end Row

end Cert.KernelIdeal.Dif
-- ==== Proof.DiffSpec.lean ====
/- The relative-position buckets of the differential attention, and the gather that looks the bias up. -/
module

public import Idealize.ShloMosaic.PureOps.Ideal
public import Idealize.ShloMosaic.Lib.Pointwise
public import Mathlib.Analysis.SpecialFunctions.Log.Basic
public import proofs.«01_k».proof.Proof.DiffMath

@[expose] public section

noncomputable section

namespace Cert.DiffSpec

open Idealize.ShloMosaic

/-! ## The gather -/

/-- The dimension numbers of that gather: whole columns, the column's position in the array. -/
abbrev colDims (H R C : ℕ) (wf : GatherDims.WF ⟨2, ![H, 32]⟩ ⟨3, ![R, C, 1]⟩ ⟨3, ![H, R, C]⟩ [0] [1] [] [1] [] 2 ![H, 1]) :
    GatherDims ⟨2, ![H, 32]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- A table's columns picked by an array of positions: element `(h, a, b)` is row `h` at the position `(a, b)`, clamped. -/
theorem gather_cols {H R C : ℕ} (wf : GatherDims.WF ⟨2, ![H, 32]⟩ ⟨3, ![R, C, 1]⟩ ⟨3, ![H, R, C]⟩ [0] [1] [] [1] [] 2 ![H, 1])
    (x : (⟨2, ![H, 32]⟩ : Shape).Idx → EReal) (idx : IVec ⟨3, ![R, C, 1]⟩ 32) (h : Fin H) (a : Fin R) (b : Fin C) :
    Host.gather (colDims H R C wf) x idx (ix3 h a b) = x (ix2 h ⟨min (idx (ix3 a b 0)).toInt.toNat 31, by omega⟩) := by
  unfold Host.gather
  congr 1
  funext e
  refine Fin.ext ?_
  match e with
  | ⟨0, _⟩ =>
    show (colDims H R C wf).start (ix3 h a b) idx (0 : Fin 2) + (colDims H R C wf).batchCoord (ix3 h a b) (0 : Fin 2) + (colDims H R C wf).offCoord (ix3 h a b) (0 : Fin 2) = h.val
    rw [GatherDims.batchCoord_eq_zero _ _ _ List.not_mem_nil]
    unfold GatherDims.start
    rw [dif_neg (show ¬ (0 : Fin 2) ∈ [(1 : Fin 2)] by decide)]
    simp only [Nat.add_zero, Nat.zero_add]
    rfl
  | ⟨1, _⟩ =>
    show (colDims H R C wf).start (ix3 h a b) idx (1 : Fin 2) + (colDims H R C wf).batchCoord (ix3 h a b) (1 : Fin 2) + (colDims H R C wf).offCoord (ix3 h a b) (1 : Fin 2) = min (idx (ix3 a b 0)).toInt.toNat 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ [(1 : Fin 2)] from List.mem_singleton.mpr rfl)]
    have hsi : (colDims H R C wf).siIdx (ix3 h a b) ⟨List.idxOf (1 : Fin 2) (colDims H R C wf).startIndexMap,
        List.idxOf_lt_length_iff.2 (List.mem_singleton.mpr rfl)⟩ = ix3 a b 0 := by
      funext f; refine Fin.ext ?_
      match f with
      | ⟨0, _⟩ => rfl
      | ⟨1, _⟩ => rfl
      | ⟨2, _⟩ => rfl
    rw [hsi]
    rfl

/-! ## The buckets -/

/-- The bucket of a distance: itself up to 15, then by its logarithm, at most 31. -/
def bkt (rel : BitVec 32) : BitVec 32 :=
  let n := IntOp.maxsi rel 0#32
  let y : EReal := Ideal.div (Ideal.log (Ideal.div (((IntOp.maxsi n 1#32).toInt : ℝ) : EReal) (Ideal.ofBits .f32 0x41800000#32))) (Ideal.ofBits .f32 0x40051592#32) * Ideal.ofBits .f32 0x41800000#32
  let b := Scalar.select (IntOp.cmpi .slt n 16#32) n (IntOp.minsi (IntOp.addi 16#32 (Ideal.fptosi 32 y)) 31#32)
  Scalar.select (IntOp.cmpi .slt b 0#32) (IntOp.addi b 32#32) b

/-- The table's row of a distance. -/
def row (rel : BitVec 32) : Fin 32 := ⟨min (bkt rel).toInt.toNat 31, by omega⟩

theorem toInt_ofNat (k : ℕ) (h : k < 2147483648) : (BitVec.ofNat 32 k).toInt = (k : ℤ) := by
  rw [BitVec.toInt_eq_toNat_of_lt (by rw [BitVec.toNat_ofNat]; omega), BitVec.toNat_ofNat]
  omega

theorem c16 : Ideal.ofBits .f32 0x41800000#32 = ((16 : ℝ) : EReal) := by
  simp [Ideal.ofBits, Ideal.ieee]; rw [← EReal.coe_mul]; norm_num
theorem c8 : Ideal.ofBits .f32 0x40051592#32 = ((8721810 / 4194304 : ℝ) : EReal) := by
  simp [Ideal.ofBits, Ideal.ieee]; rw [← EReal.coe_mul]; norm_num

/-- Every distance from 257 on is in the last bucket. -/
theorem row_far (k : ℕ) (h : 257 ≤ k) (h' : k < 8192) : row (BitVec.ofNat 32 k) = 31 := by
  have ht := toInt_ofNat k (by omega)
  have e1 : IntOp.maxsi (BitVec.ofNat 32 k) 0#32 = BitVec.ofNat 32 k := by
    unfold IntOp.maxsi
    rw [if_pos]
    rw [BitVec.slt_iff_toInt_lt, ht]
    show (0 : ℤ) < k; omega
  have e2 : IntOp.maxsi (BitVec.ofNat 32 k) 1#32 = BitVec.ofNat 32 k := by
    unfold IntOp.maxsi
    rw [if_pos]
    rw [BitVec.slt_iff_toInt_lt, ht]
    show (1 : ℤ) < k; omega
  have e3 : IntOp.cmpi .slt (BitVec.ofNat 32 k) 16#32 = 0#1 := by
    have : ¬ (BitVec.ofNat 32 k).slt 16#32 = true := by
      rw [BitVec.slt_iff_toInt_lt, ht]
      show ¬ (k : ℤ) < 16; omega
    show BitVec.ofBool ((BitVec.ofNat 32 k).slt 16#32) = 0#1
    rw [Bool.eq_false_iff.mpr this]; rfl
  have hk : (257 : ℝ) ≤ (k : ℝ) := by exact_mod_cast h
  have hk' : (k : ℝ) ≤ 8192 := by exact_mod_cast h'.le
  have hlo : (2 : ℝ) ≤ Real.log ((k : ℝ) / 16) := by
    have h16 : Real.log 16 = 4 * Real.log 2 := by rw [show (16 : ℝ) = 2 ^ (4 : ℕ) by norm_num, Real.log_pow]; norm_num
    have h2 := Real.one_sub_inv_le_log_of_pos (show (0 : ℝ) < 2 by norm_num)
    have := Real.log_le_log (show (0 : ℝ) < 16 by norm_num) (show (16 : ℝ) ≤ (k : ℝ) / 16 by rw [le_div_iff₀ (by norm_num)]; linarith)
    norm_num at h2
    linarith
  have hhi : Real.log ((k : ℝ) / 16) ≤ 512 := by
    have := Real.log_le_sub_one_of_pos (show (0 : ℝ) < (k : ℝ) / 16 by positivity)
    have h5 : (k : ℝ) / 16 ≤ 512 := by rw [div_le_iff₀ (by norm_num)]; linarith
    linarith
  obtain ⟨N, hN, hN1, hN2⟩ : ∃ N : ℕ, Ideal.fptosi 32 (Ideal.div (Ideal.log (Ideal.div (((k : ℝ) : EReal)) ((16 : ℝ) : EReal))) ((8721810 / 4194304 : ℝ) : EReal) * ((16 : ℝ) : EReal)) = BitVec.ofNat 32 N
      ∧ 15 ≤ N ∧ N ≤ 10000 := by
    have d1 : Ideal.div ((k : ℝ) : EReal) ((16 : ℝ) : EReal) = (((k : ℝ) / 16 : ℝ) : EReal) := DiffMath.div_coe _ _ (by norm_num)
    have d2 : Ideal.log (((k : ℝ) / 16 : ℝ) : EReal) = ((Real.log ((k : ℝ) / 16) : ℝ) : EReal) := by
      show (if (k : ℝ) / 16 ≤ 0 then (⊥ : EReal) else _) = _
      rw [if_neg (by push Not; positivity)]
    have d3 : Ideal.div ((Real.log ((k : ℝ) / 16) : ℝ) : EReal) ((8721810 / 4194304 : ℝ) : EReal) = ((Real.log ((k : ℝ) / 16) / (8721810 / 4194304) : ℝ) : EReal) := DiffMath.div_coe _ _ (by norm_num)
    rw [d1, d2, d3, ← EReal.coe_mul]
    set y : ℝ := Real.log ((k : ℝ) / 16) / (8721810 / 4194304) * 16 with hy
    have y1 : (15 : ℝ) ≤ y := by rw [hy, div_mul_eq_mul_div, le_div_iff₀ (by norm_num)]; linarith
    have y2 : y ≤ 10000 := by rw [hy, div_mul_eq_mul_div, div_le_iff₀ (by norm_num)]; linarith
    have f1 : (15 : ℤ) ≤ ⌊y⌋ := Int.le_floor.mpr (by exact_mod_cast y1)
    have f2 : ⌊y⌋ ≤ 10000 := by
      have := (Int.floor_le y).trans y2
      exact_mod_cast this
    refine ⟨⌊y⌋.toNat, ?_, by omega, by omega⟩
    unfold Ideal.fptosi
    rw [Ideal.toIntClamped_coe, if_pos (by linarith)]
    have : max (-((2 ^ (32 - 1) : ℕ) : ℤ)) (min (((2 ^ (32 - 1) : ℕ) : ℤ) - 1) ⌊y⌋) = ((⌊y⌋.toNat : ℕ) : ℤ) := by
      norm_num; omega
    rw [this, BitVec.ofInt_natCast]
  have e4 : IntOp.minsi (IntOp.addi 16#32 (BitVec.ofNat 32 N)) 31#32 = 31#32 := by
    have : IntOp.addi 16#32 (BitVec.ofNat 32 N) = BitVec.ofNat 32 (16 + N) := by
      show BitVec.ofNat 32 16 + BitVec.ofNat 32 N = _
      rw [← BitVec.ofNat_add]
    unfold IntOp.minsi
    rw [this, if_neg]
    rw [BitVec.slt_iff_toInt_lt, toInt_ofNat _ (by omega)]
    show ¬ ((16 + N : ℕ) : ℤ) < 31; omega
  have e5 : bkt (BitVec.ofNat 32 k) = 31#32 := by
    unfold bkt
    simp only [e1, e2, e3, c16, c8, ht, Int.cast_natCast, hN, e4]
    rfl
  unfold row
  refine Fin.ext ?_
  simp only [e5]
  rfl

end Cert.DiffSpec
-- ==== Proof.DiffReal.lean ====
/- The differential attention over the reals. -/
module

public import proofs.«01_k».proof.Proof.DiffSpec
public import proofs.«01_k».proof.Proof.DiffMath

@[expose] public section

noncomputable section

namespace Cert.DiffReal

open Idealize.ShloMosaic Cert.DiffSpec Cert.DiffMath

variable (X : Fin 16384 → Fin 2840 → ℝ) (Tb : Fin 32 → Fin 16 → ℝ) (L : Fin 4 → Fin 64 → ℝ)
  (b : Fin 2) (e : Fin 2) (h : Fin 4) (t j : Fin 8192) (d : Fin 64) (c : Fin 128)

/-- A query entry. -/
def Q : ℝ := X ⟨8192 * b.val + t.val, by omega⟩ ⟨1304 + 128 * h.val + 64 * e.val + d.val, by omega⟩
/-- A key entry. -/
def K : ℝ := X ⟨8192 * b.val + j.val, by omega⟩ ⟨1816 + 128 * h.val + 64 * e.val + d.val, by omega⟩
/-- A value entry. -/
def W : ℝ := X ⟨8192 * b.val + j.val, by omega⟩ ⟨2328 + 128 * h.val + c.val, by omega⟩
/-- The product of a query and a key. -/
def qk : ℝ := ∑ d : Fin 64, Q X b e h t d * K X b e h j d
/-- The bias of two positions. -/
def tab : ℝ := Tb (row (BitVec.ofNat 32 t.val - BitVec.ofNat 32 j.val)) ⟨8 + h.val, by omega⟩
/-- The logit of two positions. -/
def lg : ℝ := qk X b e h t j * (1 / 8) + tab Tb h t j
/-- One attention map applied to the values. -/
def att : ℝ := (∑ j, ew t (lg X Tb b e h t) j * W X b h j c) / ∑ j, ew t (lg X Tb b e h t) j

/-- The literal 0.2 is a real. -/
theorem c02 : Ideal.ofBits .f32 0x3E4CCCCD#32 = ((13421773 / 67108864 : ℝ) : EReal) := by
  have e : (13421773 / 67108864 : ℝ) = 13421773 * (67108864)⁻¹ := by norm_num
  rw [e, EReal.coe_mul]
  simp [Ideal.ofBits, Ideal.ieee]
  rw [show ((2 : ℝ) ^ 26)⁻¹ = 67108864⁻¹ by norm_num]

/-- The literal 0.125 is an eighth. -/
theorem c18 : Ideal.ofBits .f32 0x3E000000#32 = ((1 / 8 : ℝ) : EReal) := by
  simp [Ideal.ofBits, Ideal.ieee]
  rw [← EReal.coe_mul]
  norm_num

/-- The floor of the denominator is a real of at most one. -/
theorem c30 : ∃ r : ℝ, r ≤ 1 ∧ Ideal.ofBits .f32 0x0DA24260#32 = (r : EReal) := by
  refine ⟨(10633824 : ℝ) * (2 ^ 123)⁻¹, by norm_num, ?_⟩
  simp [Ideal.ofBits, Ideal.ieee]

/-- The weight of the second map. -/
def lam : ℝ := Real.exp (∑ d, L 0 d * L 1 d) - Real.exp (∑ d, L 2 d * L 3 d) + 13421773 / 67108864

/-- The weight of the second map, from the vectors. -/
theorem lam_eq (f0 f1 f2 f3 : Fin 64 → EReal) (h0 : ∀ d, f0 d = L 0 d) (h1 : ∀ d, f1 d = L 1 d) (h2 : ∀ d, f2 d = L 2 d) (h3 : ∀ d, f3 d = L 3 d) :
    Ideal.exp (∑ d, f0 d * f1 d) - Ideal.exp (∑ d, f2 d * f3 d) + Ideal.ofBits .f32 0x3E4CCCCD#32 = (lam L : EReal) := by
  have s : ∀ (f g : Fin 64 → EReal) (a b : Fin 64 → ℝ), (∀ d, f d = a d) → (∀ d, g d = b d) → ∑ d, f d * g d = ((∑ d, a d * b d : ℝ) : EReal) := by
    intro f g a b ha hb
    rw [← sum_coe]
    refine Finset.sum_congr rfl fun d _ => ?_
    rw [ha, hb, EReal.coe_mul]
  rw [s f0 f1 _ _ h0 h1, s f2 f3 _ _ h2 h3, c02]
  unfold lam
  rw [EReal.coe_add, EReal.coe_sub]
  rfl

/-- The difference of the two maps. -/
def dif : ℝ := att X Tb b 0 h t c - lam L * att X Tb b 1 h t c

/-- The normalised and scaled row. -/
def rms (f : Fin 128 → EReal) (g : EReal) (c : Fin 128) : EReal :=
  f c * Ideal.rsqrt (Ideal.div (∑ x, f x * f x) (Ideal.ofBits .f32 0x43000000#32) + Ideal.ofBits .f32 0x358637BD#32) * g * Ideal.ofBits .f32 0x3F4CCCCD#32

end Cert.DiffReal
-- ==== Proof.DiffPay.lean ====
/- The differential attention's block: its queries, the kept keys and values, the strips and the result, at an index. -/
module

public import proofs.«01_k».proof.Proof.DiffFillI
public import proofs.«01_k».proof.Proof.DiffReal

@[expose] public section

set_option maxRecDepth 16384

noncomputable section

namespace Cert.KernelIdeal.Dif

open Idealize.ShloMosaic Idealize.ShloMosaic.TcCoe
open Cert.DiffMath Cert.DiffReal
open Cert.KernelIdeal.Gen

/-- The factor of the queries. -/
theorem qscale : (Named.named (F := Ideal) κ "qscale" (φ := .f32) 0x3E38AA3B#32 : EReal) = (((1 / 8) * (Real.log 2)⁻¹ : ℝ) : EReal) := rfl

theorem lane_lt (d : Fin 128) : IntOp.cmpi .slt (BitVec.ofNat 32 d.val) 64#32 = BitVec.ofBool (decide (d.val < 64)) := by
  revert d; decide +kernel
theorem lane_eq (d : Fin 128) : IntOp.cmpi .eq (BitVec.ofNat 32 d.val) 0#32 = BitVec.ofBool (decide (d.val = 0)) := by
  revert d; decide +kernel
theorem pick {α : Type} (p : Prop) [Decidable p] (a b : α) : Scalar.select (BitVec.ofBool (decide p)) a b = if p then a else b := by
  unfold Scalar.select
  by_cases h : p <;> simp [h]

/-- The queries: each row twice, with the first and with the last 64 lanes. -/
theorem pay53_at (x0 : Vec Ideal S512x128 .bf16) (e : Fin 2) (r0 : Fin 512) (d : Fin 128) :
    k0_pay53 x0 (ix2 ⟨512 * e.val + r0.val, by omega⟩ d) = if d.val / 64 = e.val then x0 (ix2 r0 d) * (((1 / 8) * (Real.log 2)⁻¹ : ℝ) : EReal) else 0 := by
  unfold k0_pay53
  pointwise []
  have hd := d.isLt
  match e with
  | ⟨0, _⟩ =>
    refine Eq.trans (dif_pos (show 512 * 0 + r0.val < 512 by omega)) ?_
    pointwise []
    rw [qscale, lane_lt, pick]
    exact if_congr (by show d.val < 64 ↔ d.val / 64 = 0; omega) rfl rfl
  | ⟨1, _⟩ =>
    refine Eq.trans (dif_neg (show ¬512 * 1 + r0.val < 512 by omega)) ?_
    pointwise []
    rw [qscale, lane_lt, pick]
    by_cases h : d.val < 64
    · rw [if_pos h]; exact (if_neg (show ¬d.val / 64 = 1 by omega)).symm
    · rw [if_neg h]; exact (if_pos (show d.val / 64 = 1 by omega)).symm

/-- The kept keys. -/
theorem fillK_at (x : Vec Ideal S8192x128 .bf16) (y : Fin 8704) (d : Fin 128) :
    fillK x (ix2 y d) = if h : y.val < 512 then 0 else x (ix2 ⟨y.val - 512, by omega⟩ d) := by
  show (if h : y.val < 512 then (k0_pay48 : FVec Ideal S512x128 .bf16) (ix2 ⟨y.val, h⟩ d) else x (ix2 ⟨y.val - 512, by omega⟩ d)) = _
  split
  · pointwise [k0_pay48]
  · rfl

/-- The kept values. -/
theorem fillV_at (x : Vec Ideal S8192x128 .bf16) (y : Fin 8704) (c : Fin 128) :
    fillV x (ix2 y ⟨c.val, by omega⟩) = if h : y.val < 512 then 0 else x (ix2 ⟨y.val - 512, by omega⟩ c) := by
  show (if h : y.val < 512 then (k0_pay49 : FVec Ideal S512x256 .bf16) (ix2 ⟨y.val, h⟩ ⟨c.val, by omega⟩) else if h' : c.val < 128 then x (ix2 ⟨y.val - 512, by omega⟩ ⟨c.val, h'⟩) else _) = _
  split
  · pointwise [k0_pay49]
  · rw [dif_pos c.isLt]

/-- The column of ones beside the kept values. -/
theorem fillV_one (x : Vec Ideal S8192x128 .bf16) (y : Fin 8704) :
    fillV x (ix2 y 128) = if y.val < 512 then 0 else 1 := by
  show (if h : y.val < 512 then (k0_pay49 : FVec Ideal S512x256 .bf16) (ix2 ⟨y.val, h⟩ (128 : Fin 256)) else if h' : (128 : Fin 256).val < 128 then _ else (k0_pay52 : FVec Ideal S256x128 .bf16) (ix2 ⟨(y.val - 512) % 256, Nat.mod_lt _ (by decide)⟩ ⟨(128 : Fin 256).val - 128, by decide⟩)) = _
  by_cases h : y.val < 512
  · rw [dif_pos h, if_pos h]
    pointwise [k0_pay49]
  · rw [dif_neg h, if_neg h]
    refine Eq.trans (dif_neg (by decide)) ?_
    generalize (⟨(y.val - 512) % 256, _⟩ : Fin 256) = u
    pointwise [k0_pay52]

theorem strip0_at (x : Vec Ideal S1x512x768 .f32) (r : Fin 512) (j : Fin 256) : strip0 x (ix3 0 r j) = x (ix3 0 r ⟨j.val, by omega⟩) := by
  refine congrArg x (funext fun a => Fin.ext ?_)
  match a with
  | ⟨0, _⟩ => show 0 + 1 * 0 = 0; rfl
  | ⟨1, _⟩ => show 0 + 1 * r.val = r.val; omega
  | ⟨2, _⟩ => show 0 + 1 * j.val = j.val; omega

theorem strip1_at (x : Vec Ideal S1x512x768 .f32) (r : Fin 512) (j : Fin 512) : strip1 x (ix3 0 r j) = x (ix3 0 r ⟨256 + j.val, by omega⟩) := by
  refine congrArg x (funext fun a => Fin.ext ?_)
  match a with
  | ⟨0, _⟩ => show 0 + 1 * 0 = 0; rfl
  | ⟨1, _⟩ => show 0 + 1 * r.val = r.val; omega
  | ⟨2, _⟩ => show 256 + 1 * j.val = 256 + j.val; omega

/-- The stored block. -/
theorem pay1_at (x : FVec Ideal S512x128 .f32) (g : Vec Ideal S1x128 .f32) (r : Fin 512) (c : Fin 128) :
    k0_pay1 x (k0_pay77 g) (ix2 r c) = rms (fun k => x (ix2 r k)) (g (ix2 0 c)) c := by
  pointwise [k0_pay1, k0_pay77]
  rfl

/-- Half of the lanes of a sum. -/
theorem half_sum (e : Fin 2) (f : Fin 64 → EReal) (g : Fin 128 → EReal) (hg : ∀ d : Fin 128, g d = if h : d.val / 64 = e.val then f ⟨d.val % 64, by omega⟩ else 0) :
    ∑ d, g d = ∑ d, f d := by
  have h2 : ∑ d : Fin 128, g d = ∑ a : Fin 64, g ⟨a.val, by omega⟩ + ∑ a : Fin 64, g ⟨64 + a.val, by omega⟩ :=
    Fin.sum_univ_add (a := 64) (b := 64) g
  rw [h2]
  match e with
  | ⟨0, _⟩ =>
    have h1 : ∑ a : Fin 64, g ⟨64 + a.val, by omega⟩ = 0 := Finset.sum_eq_zero fun a _ => by
      rw [hg]; exact dif_neg (show ¬(64 + a.val) / 64 = 0 by omega)
    rw [h1, add_zero]
    refine Finset.sum_congr rfl fun a _ => ?_
    rw [hg]
    refine (dif_pos (show a.val / 64 = 0 by omega)).trans (congrArg f (Fin.ext (show a.val % 64 = a.val by omega)))
  | ⟨1, _⟩ =>
    have h1 : ∑ a : Fin 64, g ⟨a.val, by omega⟩ = 0 := Finset.sum_eq_zero fun a _ => by
      rw [hg]; exact dif_neg (show ¬a.val / 64 = 1 by omega)
    rw [h1, zero_add]
    refine Finset.sum_congr rfl fun a _ => ?_
    rw [hg]
    refine (dif_pos (show (64 + a.val) / 64 = 1 by omega)).trans (congrArg f (Fin.ext (show (64 + a.val) % 64 = a.val by omega)))

/-- A score: the product of a query and a kept key. -/
theorem score (x0 : Vec Ideal S512x128 .bf16) (x1 : Vec Ideal S8192x128 .bf16) (e : Fin 2) (r0 : Fin 512) (y : Fin 8704)
    (Q : Fin 64 → ℝ) (K : Fin 8192 → Fin 64 → ℝ)
    (hQ : ∀ d : Fin 64, x0 (ix2 r0 ⟨64 * e.val + d.val, by omega⟩) = (Q d : EReal))
    (hK : ∀ j (d : Fin 64), x1 (ix2 j ⟨64 * e.val + d.val, by omega⟩) = (K j d : EReal)) :
    ∑ d : Fin 128, k0_pay53 x0 (ix2 ⟨512 * e.val + r0.val, by omega⟩ d) * fillK x1 (ix2 y d)
      = ((if h : y.val < 512 then 0 else (∑ d, Q d * K ⟨y.val - 512, by omega⟩ d) * ((1 / 8) * (Real.log 2)⁻¹) : ℝ) : EReal) := by
  by_cases h : y.val < 512
  · rw [dif_pos h]
    refine Finset.sum_eq_zero fun d _ => ?_
    rw [fillK_at, dif_pos h, mul_zero]
  · rw [dif_neg h, Finset.sum_mul, ← sum_coe]
    refine half_sum e _ _ fun d => ?_
    rw [pay53_at, fillK_at, dif_neg h]
    by_cases hd : d.val / 64 = e.val
    · rw [if_pos hd, dif_pos hd]
      have ed : d = ⟨64 * e.val + d.val % 64, by omega⟩ := Fin.ext (show d.val = 64 * e.val + d.val % 64 by omega)
      have q := hQ ⟨d.val % 64, by omega⟩
      have k := hK ⟨y.val - 512, by omega⟩ ⟨d.val % 64, by omega⟩
      rw [← ed] at q k
      rw [q, k, EReal.coe_mul (_ * _), EReal.coe_mul (Q _), mul_right_comm]
    · rw [if_neg hd, dif_neg hd, zero_mul]

end Cert.KernelIdeal.Dif
-- ==== Proof.DiffInt.lean ====
/- Differences of positions as machine words. -/
module

public import proofs.«01_k».proof.Proof.DiffReal

@[expose] public section

noncomputable section

namespace Cert.DiffInt

open Idealize.ShloMosaic

/-- A difference that is no less than zero. -/
theorem sub_le (a b : ℕ) (ha : a < 2 ^ 31) (h : b ≤ a) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega

/-- Whether a difference is no less than zero. -/
theorem sub_sge (a b : ℕ) (ha : a < 2 ^ 31) (hb : b < 2 ^ 31) :
    IntOp.cmpi .sge (BitVec.ofNat 32 a - BitVec.ofNat 32 b) 0#32 = BitVec.ofBool (decide (b ≤ a)) := by
  have e : (BitVec.ofNat 32 a - BitVec.ofNat 32 b).toInt = (a : ℤ) - b := by
    rw [BitVec.toInt_eq_toNat_cond, BitVec.toNat_sub, BitVec.toNat_ofNat, BitVec.toNat_ofNat]
    split <;> omega
  unfold IntOp.cmpi
  refine congrArg BitVec.ofBool ?_
  show (0#32).sle (BitVec.ofNat 32 a - BitVec.ofNat 32 b) = _
  unfold BitVec.sle
  rw [e]
  by_cases h : b ≤ a
  · rw [decide_eq_true h]; exact decide_eq_true (by show (0 : ℤ) ≤ a - b; omega)
  · rw [decide_eq_false h]; exact decide_eq_false (by show ¬(0 : ℤ) ≤ a - b; omega)

/-- A choice by a decided proposition. -/
theorem pick {α : Type} (p : Prop) [Decidable p] (a b : α) : Scalar.select (BitVec.ofBool (decide p)) a b = if p then a else b := by
  unfold Scalar.select
  by_cases h : p <;> simp [h]

/-- The host's quotient of the literals one and the logarithm of two. -/
theorem invlog2 : Ideal.div (Ideal.ofBits .f32 0x3F800000#32) (Ideal.log (Ideal.ofBits .f32 0x40000000#32)) = ((1 / Real.log 2 : ℝ) : EReal) := by
  have h1 : (Ideal.ofBits .f32 0x3F800000#32 : EReal) = ((1 : ℝ) : EReal) := by
    simp [Ideal.ofBits, Ideal.ieee]
    rw [← EReal.coe_mul, ← EReal.coe_one]; norm_num
  have h2 : (Ideal.ofBits .f32 0x40000000#32 : EReal) = ((2 : ℝ) : EReal) := by
    simp [Ideal.ofBits, Ideal.ieee]
    rw [← EReal.coe_mul]; norm_num
  have h3 : Ideal.log ((2 : ℝ) : EReal) = ((Real.log 2 : ℝ) : EReal) := by
    show (if (2 : ℝ) ≤ 0 then (⊥ : EReal) else _) = _
    rw [if_neg (by norm_num)]
  rw [h1, h2, h3, Cert.DiffMath.div_coe _ _ (Real.log_pos (by norm_num)).ne']

end Cert.DiffInt
-- ==== Proof.DiffRow.lean ====
/- The differential attention's block: its rows on real arguments. -/
module

public import proofs.«01_k».proof.Proof.DiffFlash
public import proofs.«01_k».proof.Proof.DiffPay
public import proofs.«01_k».proof.Proof.DiffInt

@[expose] public section

set_option maxRecDepth 16384

noncomputable section

namespace Cert.KernelIdeal.Dif

open Cert.KernelIdeal Cert.KernelIdeal.Gen Idealize.ShloMosaic Idealize.ShloMosaic.TcCoe
open Cert.DiffMath Cert.DiffReal Cert.DiffSpec

/-! ## Sums over the kept rows -/

/-- What row `y` of the kept rows stands for: nothing in the first 512, then the positions. -/
def lift (f : Fin 8192 → ℝ) (y : ℕ) : ℝ := if h : 512 ≤ y ∧ y < 8704 then f ⟨y - 512, by omega⟩ else 0

theorem lift_lo (f : Fin 8192 → ℝ) {y : ℕ} (h : y < 512) : lift f y = 0 := dif_neg (by omega)
theorem lift_hi (f : Fin 8192 → ℝ) (j : Fin 8192) {y : ℕ} (h : y = 512 + j.val) : lift f y = f j := by
  subst h
  unfold lift
  rw [dif_pos (by omega)]
  exact congrArg f (Fin.ext (by show 512 + j.val - 512 = j.val; omega))

theorem lift_sum (n : ℕ) (hn : n < 16) (a f : Fin 8192 → ℝ) (ha : ∀ j, 512 * (n + 1) ≤ j.val → a j = 0) :
    ∑ y ∈ Finset.range (512 * (n + 2)), lift a y * lift f y = ∑ j, a j * f j := by
  have h1 : ∑ y ∈ Finset.range (512 * (n + 2)), lift a y * lift f y = ∑ y ∈ Finset.range (512 + 8192), lift a y * lift f y := by
    by_cases hc : 512 * (n + 2) ≤ 8704
    · refine Finset.sum_subset (Finset.range_subset_range.mpr (by omega)) fun y hy hy' => ?_
      rw [Finset.mem_range] at hy hy'
      rw [lift_hi a ⟨y - 512, by omega⟩ (by show y = 512 + (y - 512); omega), ha _ (by show 512 * (n + 1) ≤ y - 512; omega), zero_mul]
    · omega
  rw [h1, Finset.sum_range_add, Finset.sum_eq_zero (fun y hy => by rw [lift_lo a (by simpa using hy), zero_mul]), zero_add, Finset.sum_range]
  exact Finset.sum_congr rfl fun j _ => by rw [lift_hi a j rfl, lift_hi f j rfl]

/-- Two to a scaled score is the exponential of the score. -/
theorem two_pow (a b T : ℝ) : (2 : ℝ) ^ (a * ((1 / 8) * (Real.log 2)⁻¹) + (b - T) * (1 / Real.log 2)) = Real.exp (-T) * Real.exp (a * (1 / 8) + b) := by
  have hl : Real.log 2 ≠ 0 := (Real.log_pos (by norm_num)).ne'
  rw [Real.rpow_def_of_pos (by norm_num), ← Real.exp_add]
  congr 1
  field_simp
  ring

theorem two_pow_far (a T : ℝ) : (2 : ℝ) ^ (a * ((1 / 8) * (Real.log 2)⁻¹)) = Real.exp (-T) * Real.exp (a * (1 / 8) + T) := by
  rw [← two_pow a T T, sub_self, zero_mul, add_zero]

theorem flag_val : ∀ n : Fin 16, Scalar.cmpi .sge (BitVec.ofNat 32 n.val) 1#32 = if n.val = 0 then 0#1 else 1#1 := by decide +kernel

section Row
variable (n : ℕ) (hn : n < 16) (x0 : Vec Ideal S512x128 .bf16) (x1 x2 : Vec Ideal S8192x128 .bf16) (S : Vec Ideal S1x512x768 .f32)
  (e : Fin 2) (r : Fin 1024) (r0 : Fin 512) (hr : r.val = 512 * e.val + r0.val) (Q : Fin 64 → ℝ) (K : Fin 8192 → Fin 64 → ℝ) (B : BitVec 32 → ℝ) (T : ℝ)
  (hQ : ∀ d : Fin 64, x0 (ix2 r0 ⟨64 * e.val + d.val, by omega⟩) = (Q d : EReal))
  (hK : ∀ j (d : Fin 64), x1 (ix2 j ⟨64 * e.val + d.val, by omega⟩) = (K j d : EReal))
  (hfar : ∀ k, 257 ≤ k → k < 8192 → B (BitVec.ofNat 32 k) = T)
  (hS : ∀ (r : Fin 512) (s : Fin 768), S (ix3 0 r s) = if s.val ≤ 256 + r.val then (((B (BitVec.ofNat 32 (256 + r.val) - BitVec.ofNat 32 s.val) - T) * (1 / Real.log 2) : ℝ) : EReal) else ⊥)

/-- The logit of the row. -/
def lgr (j : Fin 8192) : ℝ := (∑ d, Q d * K j d) * (1 / 8) + B (BitVec.ofNat 32 (512 * n + r0.val) - BitVec.ofNat 32 j.val)

include hn hr hQ hK hfar hS in
theorem row_inv (c : Fin 256) (f : Fin 8192 → ℝ) (hν : ∀ (y : ℕ) (h : y < 8704), fillV x2 (ix2 ⟨y, h⟩ c) = ((lift f y : ℝ) : EReal))
    (fl : BitVec 1) (hfl : fl = if n = 0 then 0#1 else 1#1)
    (x : St Ideal) (hx : x = iter (k0_pay53 x0) (fillK x1) (fillV x2) (init n (k0_pay53 x0) (fillK x1)) (n - 1)) :
    Inv (fm (k0_pay73 fl fl x.m x.s (strip0 S)) (k0_pay75 (k0_pay53 x0) (kt (fillK x1) (n + 1))) (strip1 S) r r0)
      (fA (k0_pay73 fl fl x.m x.s (strip0 S)) (k0_pay74 fl fl x.m x.acc x.p (vt (fillV x2) (n - 1)) x.s (strip0 S) (vt (fillV x2) n)) (vt (fillV x2) (n + 1))
        (k0_pay75 (k0_pay53 x0) (kt (fillK x1) (n + 1))) (strip1 S) r r0 c)
      (Real.exp (-T) * ∑ j, ew (512 * n + r0.val) (lgr n r0 Q K B) j * f j) := by
  have hr' : r = ⟨512 * e.val + r0.val, by omega⟩ := Fin.ext hr
  have hr0 := r0.isLt
  have E : Real.exp (-T) * ∑ j, ew (512 * n + r0.val) (lgr n r0 Q K B) j * f j
      = ∑ y ∈ Finset.range (512 * (n + 2)), lift (fun j => Real.exp (-T) * ew (512 * n + r0.val) (lgr n r0 Q K B) j) y * lift f y := by
    rw [lift_sum n hn _ f (fun j hj => by unfold ew; rw [if_neg (by omega), mul_zero]), Finset.mul_sum]
    exact Finset.sum_congr rfl fun j _ => by ring
  rw [E]
  have hseen : ∀ (j : Fin 8192) (y : ℕ), y = 512 + j.val → j.val ≤ 512 * n + r0.val →
      lift (fun j => Real.exp (-T) * ew (512 * n + r0.val) (lgr n r0 Q K B) j) y
        = Real.exp (-T) * Real.exp ((∑ d, Q d * K j d) * (1 / 8) + B (BitVec.ofNat 32 (512 * n + r0.val - j.val))) := by
    intro j y hy hj
    rw [lift_hi _ j hy]
    unfold ew lgr
    rw [if_pos hj, Cert.DiffInt.sub_le _ _ (by omega) hj]
  refine final_inv n (k0_pay53 x0) (fillK x1) (fillV x2) r c (lift fun j => (∑ d, Q d * K j d) * ((1 / 8) * (Real.log 2)⁻¹)) (lift f)
    (lift fun j => Real.exp (-T) * ew (512 * n + r0.val) (lgr n r0 Q K B) j) ?_ hν (fun y hy => lift_lo _ hy) ?_ hn fl (strip0 S) (strip1 S) r0 ?_ ?_ ?_ x hx
  · intro y hy
    rw [hr', score x0 x1 e r0 ⟨y, hy⟩ Q K hQ hK]
    congr 1
    by_cases h : y < 512
    · rw [dif_pos h, lift_lo _ h]
    · rw [dif_neg h, lift_hi _ ⟨y - 512, by omega⟩ (by show y = 512 + (y - 512); omega)]
  · intro y h1 h2
    rw [lift_hi _ ⟨y - 512, by omega⟩ (by show y = 512 + (y - 512); omega),
      hseen ⟨y - 512, by omega⟩ y (by show y = 512 + (y - 512); omega) (by show y - 512 ≤ _; omega),
      hfar _ (by show 257 ≤ 512 * n + r0.val - (y - 512); omega) (by show 512 * n + r0.val - (y - 512) < 8192; omega), two_pow_far _ T]
  · rw [hr]; have := e.isLt; omega
  · intro j
    have hj := j.isLt
    by_cases h0 : n = 0
    · subst h0
      have hb : bias0 fl (strip0 S) r0 j = ⊥ := by
        unfold bias0
        rw [hfl, if_pos rfl, gate_zero]
        split
        · rfl
        · exact EReal.add_bot _
      rw [hb, EReal.add_bot, wt_bot, lift_lo _ (by omega)]
      exact ⟨bot_ne_top, rfl⟩
    · rw [if_neg h0] at hfl
      have hJ : 512 * (n - 1) + j.val < 8192 := by omega
      have hy : 512 * n + j.val = 512 + (512 * (n - 1) + j.val) := by omega
      rw [lift_hi _ ⟨_, hJ⟩ hy, hseen ⟨_, hJ⟩ _ hy (by show 512 * (n - 1) + j.val ≤ _; omega)]
      by_cases hc : j.val < 256
      · have hb : bias0 fl (strip0 S) r0 j = 0 := by
          unfold bias0
          rw [dif_pos hc, hfl, gate_one]
        rw [hb, add_zero, wt_coe, hfar _ (by show 257 ≤ 512 * n + r0.val - (512 * (n - 1) + j.val); omega) (by show 512 * n + r0.val - (512 * (n - 1) + j.val) < 8192; omega), two_pow_far _ T]
        exact ⟨EReal.coe_ne_top _, rfl⟩
      · have hb : bias0 fl (strip0 S) r0 j = (((B (BitVec.ofNat 32 (512 * n + r0.val - (512 * (n - 1) + j.val))) - T) * (1 / Real.log 2) : ℝ) : EReal) := by
          unfold bias0
          rw [dif_neg hc, hfl, gate_one, add_zero, strip0_at, hS, if_pos (by show j.val - 256 ≤ 256 + r0.val; omega),
            Cert.DiffInt.sub_le _ _ (by omega) (by show j.val - 256 ≤ 256 + r0.val; omega)]
          rw [show 256 + r0.val - (j.val - 256) = 512 * n + r0.val - (512 * (n - 1) + j.val) by omega]
        rw [hb, ← EReal.coe_add, wt_coe, two_pow]
        exact ⟨EReal.coe_ne_top _, rfl⟩
  · intro j
    have hj := j.isLt
    by_cases hJ : 512 * n + j.val < 8192
    · have hy : 512 * (n + 1) + j.val = 512 + (512 * n + j.val) := by omega
      by_cases hc : j.val ≤ r0.val
      · have hb : strip1 S (ix3 0 r0 j) = (((B (BitVec.ofNat 32 (512 * n + r0.val - (512 * n + j.val))) - T) * (1 / Real.log 2) : ℝ) : EReal) := by
          rw [strip1_at, hS, if_pos (by show 256 + j.val ≤ 256 + r0.val; omega),
            Cert.DiffInt.sub_le _ _ (by omega) (by show 256 + j.val ≤ 256 + r0.val; omega)]
          rw [show 256 + r0.val - (256 + j.val) = 512 * n + r0.val - (512 * n + j.val) by omega]
        rw [lift_hi _ ⟨_, hJ⟩ hy, hseen ⟨_, hJ⟩ _ hy (by show 512 * n + j.val ≤ _; omega), hb, ← EReal.coe_add, wt_coe, two_pow]
        exact ⟨EReal.coe_ne_top _, rfl⟩
      · have hb : strip1 S (ix3 0 r0 j) = ⊥ := by
          rw [strip1_at, hS, if_neg (by show ¬256 + j.val ≤ 256 + r0.val; omega)]
        rw [hb, EReal.add_bot, wt_bot, lift_hi (fun j => Real.exp (-T) * ew (512 * n + r0.val) (lgr n r0 Q K B) j) ⟨_, hJ⟩ hy]
        unfold ew
        rw [if_neg (by show ¬512 * n + j.val ≤ _; omega), mul_zero]
        exact ⟨bot_ne_top, rfl⟩
    · omega

include hn hr hQ hK hfar hS in
/-- One map of a row: the quotient of the sums is the attention. -/
theorem row_div (c : Fin 128) (f : Fin 8192 → ℝ) (hV : ∀ j, x2 (ix2 j c) = ((f j : ℝ) : EReal))
    (fl : BitVec 1) (hfl : fl = if n = 0 then 0#1 else 1#1)
    (x : St Ideal) (hx : x = iter (k0_pay53 x0) (fillK x1) (fillV x2) (init n (k0_pay53 x0) (fillK x1)) (n - 1)) :
    Ideal.div
      (fA (k0_pay73 fl fl x.m x.s (strip0 S)) (k0_pay74 fl fl x.m x.acc x.p (vt (fillV x2) (n - 1)) x.s (strip0 S) (vt (fillV x2) n)) (vt (fillV x2) (n + 1))
        (k0_pay75 (k0_pay53 x0) (kt (fillK x1) (n + 1))) (strip1 S) r r0 ⟨c.val, by omega⟩)
      (fA (k0_pay73 fl fl x.m x.s (strip0 S)) (k0_pay74 fl fl x.m x.acc x.p (vt (fillV x2) (n - 1)) x.s (strip0 S) (vt (fillV x2) n)) (vt (fillV x2) (n + 1))
        (k0_pay75 (k0_pay53 x0) (kt (fillK x1) (n + 1))) (strip1 S) r r0 128)
      = (((∑ j, ew (512 * n + r0.val) (lgr n r0 Q K B) j * f j) / ∑ j, ew (512 * n + r0.val) (lgr n r0 Q K B) j : ℝ) : EReal) := by
  have hr0 := r0.isLt
  have i1 := row_inv n hn x0 x1 x2 S e r r0 hr Q K B T hQ hK hfar hS ⟨c.val, by omega⟩ f (fun y hy => by
    rw [fillV_at x2 ⟨y, hy⟩ c]
    by_cases h : y < 512
    · rw [lift_lo _ h]; exact dif_pos h
    · rw [lift_hi _ ⟨y - 512, by omega⟩ (by show y = 512 + (y - 512); omega), ← hV]; exact dif_neg h) fl hfl x hx
  have i2 := row_inv n hn x0 x1 x2 S e r r0 hr Q K B T hQ hK hfar hS 128 (fun _ => 1) (fun y hy => by
    rw [fillV_one x2 ⟨y, hy⟩]
    by_cases h : y < 512
    · rw [lift_lo _ h]; exact if_pos h
    · rw [lift_hi _ ⟨y - 512, by omega⟩ (by show y = 512 + (y - 512); omega)]; exact if_neg h) fl hfl x hx
  simp only [mul_one] at i2
  have hp : 0 < ∑ j, ew (512 * n + r0.val) (lgr n r0 Q K B) j := ew_sum_pos (⟨512 * n + r0.val, by omega⟩ : Fin 8192) (lgr n r0 Q K B)
  rw [i1.div i2 (mul_pos (Real.exp_pos _) hp).ne', mul_div_mul_left _ _ (Real.exp_pos _).ne']

end Row

/-- A row of the output block. -/
theorem out_at (i : grid0.Coords) (n : ℕ) (hi : (i 2).val = n) (hn : n < 16)
    (x0 : Vec Ideal S512x128 .bf16) (x1 x2 : Vec Ideal S8192x128 .bf16) (x6 : Vec Ideal S4x64 .f32) (x7 : Vec Ideal S1x128 .f32) (S : Vec Ideal S1x512x768 .f32)
    (X : Fin 16384 → Fin 2840 → ℝ) (Tb : Fin 32 → Fin 16 → ℝ) (L : Fin 4 → Fin 64 → ℝ)
    (b : Fin 2) (h : Fin 4) (r0 : Fin 512) (t : Fin 8192) (ht : t.val = 512 * n + r0.val)
    (hQ : ∀ (e : Fin 2) (d : Fin 64), x0 (ix2 r0 ⟨64 * e.val + d.val, by omega⟩) = ((Q X b e h t d : ℝ) : EReal))
    (hK : ∀ (e : Fin 2) j (d : Fin 64), x1 (ix2 j ⟨64 * e.val + d.val, by omega⟩) = ((K X b e h j d : ℝ) : EReal))
    (hV : ∀ j (c : Fin 128), x2 (ix2 j c) = ((W X b h j c : ℝ) : EReal))
    (hS : ∀ (r : Fin 512) (s : Fin 768), S (ix3 0 r s) = if s.val ≤ 256 + r.val then
      (((Tb (row (BitVec.ofNat 32 (256 + r.val) - BitVec.ofNat 32 s.val)) ⟨8 + h.val, by omega⟩ - Tb 31 ⟨8 + h.val, by omega⟩) * (1 / Real.log 2) : ℝ) : EReal) else ⊥)
    (h0 : ∀ d, x6 (ix2 0 d) = ((L 0 d : ℝ) : EReal)) (h1 : ∀ d, x6 (ix2 1 d) = ((L 1 d : ℝ) : EReal))
    (h2 : ∀ d, x6 (ix2 2 d) = ((L 2 d : ℝ) : EReal)) (h3 : ∀ d, x6 (ix2 3 d) = ((L 3 d : ℝ) : EReal))
    (c : Fin 128) : out i x0 (fillK x1) (fillV x2) x6 x7 S (ix2 r0 c)
    = rms (fun k => ((dif X Tb L b h t k : ℝ) : EReal)) (x7 (ix2 0 c)) c := by
  subst hi
  unfold out
  rw [pay1_at]
  refine congrArg (fun f => rms f (x7 (ix2 0 c)) c) (funext fun k => ?_)
  have hfl : flag i = if (i 2).val = 0 then 0#1 else 1#1 := flag_val ⟨(i 2).val, hn⟩
  have hd : ∀ (e : Fin 2) (r : Fin 1024) (hr : r.val = 512 * e.val + r0.val), _ := fun e r hr =>
    row_div (i 2).val hn x0 x1 x2 S e r r0 hr (Q X b e h t) (K X b e h)
      (fun z => Tb (row z) ⟨8 + h.val, by omega⟩) (Tb 31 ⟨8 + h.val, by omega⟩) (hQ e) (hK e)
      (fun k a a' => by show Tb (row (BitVec.ofNat 32 k)) _ = _; rw [row_far k a a']) hS k (fun j => W X b h j k) (fun j => hV j k)
      (flag i) hfl (last i x0 (fillK x1) (fillV x2)) rfl
  have hlg : ∀ e : Fin 2, lgr (i 2).val r0 (Q X b e h t) (K X b e h) (fun z => Tb (row z) ⟨8 + h.val, by omega⟩) = lg X Tb b e h t := fun e => by
    funext j
    unfold lgr lg qk tab
    rw [ht]
  have hl : lamK x6 = ((lam L : ℝ) : EReal) :=
    lam_eq L (fun d => x6 (ix2 0 d)) (fun d => x6 (ix2 1 d)) (fun d => x6 (ix2 2 d)) (fun d => x6 (ix2 3 d)) h0 h1 h2 h3
  rw [pay76_at, hd 0 ⟨r0.val, by omega⟩ (by show r0.val = 512 * 0 + r0.val; omega), hd 1 ⟨512 + r0.val, by omega⟩ (by show 512 + r0.val = 512 * 1 + r0.val; omega),
    hl, hlg 0, hlg 1, ← ht, ← EReal.coe_mul, ← EReal.coe_sub]
  rfl

end Cert.KernelIdeal.Dif
-- ==== Proof.ProjSpec.lean ====
/- One row of an input projection over the extended reals: the root-mean-square normalization of the row, times the
   weights. -/
module

public import Idealize.ShloMosaic.Lib.Pointwise
public import Idealize.ShloMosaic.Lib.Tactic

@[expose] public section

noncomputable section

namespace Cert.Proj

open Idealize.ShloMosaic

/-- A row divided by the root of the mean of its squares, times the gain. -/
def norm (y g : Fin 1024 → EReal) (j : Fin 1024) : EReal :=
  y j * Ideal.rsqrt (Ideal.div (∑ k, y k * y k) (Ideal.ofBits FTy.f32 1149239296#32) + Ideal.ofBits FTy.f32 897988541#32) * g j
/-- The normalized row times a column of the weights. -/
def out (y g w : Fin 1024 → EReal) : EReal := ∑ k, norm y g k * w k

end Cert.Proj
-- ==== Proof.EvenSpec.lean ====
/- The columns of the even layer's input projection as its results hold them: the wide result has the columns of the
   queries, of the selected and of the windowed keys and values, and of the differential attention's inputs, side by
   side; the gates' result has its 24 columns and then zeros. -/
module

public import proofs.«01_k».proof.Proof.ProjSpec

@[expose] public section

noncomputable section

namespace Cert.Proj

open Idealize.ShloMosaic

/-- The column of the weights that column `j` of the wide result takes. -/
def wide (j : Fin 2560) : Fin 2840 :=
  ⟨if j.val < 512 then j.val else if j.val < 1024 then j.val + 256 else j.val + 280, by
    have := j.isLt
    split
    · omega
    · split <;> omega⟩

/-- Column `j` of a row of the gates' result. -/
def gate (y g : Fin 1024 → EReal) (w : Fin 1024 → Fin 2840 → EReal) (j : Fin 128) : EReal :=
  if h : j.val < 24 then out y g (fun k => w k ⟨1280 + j.val, by omega⟩) else 0

end Cert.Proj
-- ==== Proof.DiffHost.lean ====
/- The differential attention: what the host hands to the kernel. -/
module

public import proofs.«01_k».proof.Proof.DiffRunI
public import proofs.«01_k».proof.Proof.DiffInt
public import proofs.«01_k».proof.Proof.EvenSpec

@[expose] public section

set_option maxRecDepth 16384

noncomputable section

namespace Cert.KernelIdeal.Dif

open Cert.KernelIdeal Cert.KernelIdeal.Gen Idealize.ShloMosaic Idealize.ShloMosaic.TcCoe Idealize.SL.Sem
open Cert.DiffMath Cert.DiffReal Cert.DiffSpec
open Cert.Proj (wide)

variable (m : (ℓ : Loc nD τ sig) → Buf (Elt Ideal) ℓ) (ρ : Dev nD → PrngReg) (c : Dev nD)

/-- The argument arrays of device `c`. -/
abbrev A0 : Vec Ideal S16384x2840 .f32 := m ((c : Thread nD τ).loc main_arg0)
abbrev A1 : Vec Ideal S32x16 .f32 := m ((c : Thread nD τ).loc main_arg1)
abbrev A2 : Vec Ideal S64 .f32 := m ((c : Thread nD τ).loc main_arg2)
abbrev A3 : Vec Ideal S64 .f32 := m ((c : Thread nD τ).loc main_arg3)
abbrev A4 : Vec Ideal S64 .f32 := m ((c : Thread nD τ).loc main_arg4)
abbrev A5 : Vec Ideal S64 .f32 := m ((c : Thread nD τ).loc main_arg5)
abbrev A6 : Vec Ideal S128 .f32 := m ((c : Thread nD τ).loc main_arg6)

theorem A0_at (r : Fin 16384) (j j' : Fin 2840) (h : j.val = j'.val) :
    (m ((c : Thread nD τ).loc main_arg0) : Vec Ideal S16384x2840 .f32) (ix2 r j) = A0 m c (ix2 r j') := by rw [show j = j' from Fin.ext h]

/-- The columns the attention reads. -/
theorem V_w (r : Fin 16384) (j : Fin 2560) : (V m c main_v4 : Vec Ideal S16384x2560 .bf16) (ix2 r j) = A0 m c (ix2 r (wide j)) := by
  show (StableHlo.after hostOps0 (fun b => m (c, b)) (Proc.devRef .tc main_v4) : Vec Ideal S16384x2560 .bf16) _ = _
  after_results_simp
  (try dsimp only [Matrix.cons_val])
  (try after_results_simp)
  pointwise []
  have hj := j.isLt
  repeat' split
  all_goals
    (try after_results_simp)
    pointwise []
    refine A0_at m c r _ _ ?_
    unfold wide
    dsimp only
    repeat' split
    all_goals omega

theorem V_sub (j : Fin 128) : (V m c main_v56 : Vec Ideal S1x128 .f32) (ix2 0 j) = A6 m c (ix1 j) := by
  show (StableHlo.after (List.flatten [hostOps0, hostOps0_1, hostOps0_2, hostOps0_3, hostOps0_4]) (fun b => m (c, b)) (Proc.devRef .tc main_v56) : Vec Ideal S1x128 .f32) _ = _
  simp only [List.flatten_cons, List.flatten_nil, List.append_nil, StableHlo.after_append]
  after_results_simp
  pointwise [] <;> rfl

theorem V_lam0 (d : Fin 64) : (V m c main_v55 : Vec Ideal S4x64 .f32) (ix2 0 d) = A2 m c (ix1 d) := by
  show (StableHlo.after (List.flatten [hostOps0, hostOps0_1, hostOps0_2, hostOps0_3, hostOps0_4]) (fun b => m (c, b)) (Proc.devRef .tc main_v55) : Vec Ideal S4x64 .f32) _ = _
  simp only [List.flatten_cons, List.flatten_nil, List.append_nil, StableHlo.after_append]
  after_results_simp
  (try dsimp only [Matrix.cons_val])
  (try after_results_simp)
  pointwise [] <;> rfl

theorem V_lam1 (d : Fin 64) : (V m c main_v55 : Vec Ideal S4x64 .f32) (ix2 1 d) = A3 m c (ix1 d) := by
  show (StableHlo.after (List.flatten [hostOps0, hostOps0_1, hostOps0_2, hostOps0_3, hostOps0_4]) (fun b => m (c, b)) (Proc.devRef .tc main_v55) : Vec Ideal S4x64 .f32) _ = _
  simp only [List.flatten_cons, List.flatten_nil, List.append_nil, StableHlo.after_append]
  after_results_simp
  (try dsimp only [Matrix.cons_val])
  (try after_results_simp)
  pointwise [] <;> rfl

theorem V_lam2 (d : Fin 64) : (V m c main_v55 : Vec Ideal S4x64 .f32) (ix2 2 d) = A4 m c (ix1 d) := by
  show (StableHlo.after (List.flatten [hostOps0, hostOps0_1, hostOps0_2, hostOps0_3, hostOps0_4]) (fun b => m (c, b)) (Proc.devRef .tc main_v55) : Vec Ideal S4x64 .f32) _ = _
  simp only [List.flatten_cons, List.flatten_nil, List.append_nil, StableHlo.after_append]
  after_results_simp
  (try dsimp only [Matrix.cons_val])
  (try after_results_simp)
  pointwise [] <;> rfl

theorem V_lam3 (d : Fin 64) : (V m c main_v55 : Vec Ideal S4x64 .f32) (ix2 3 d) = A5 m c (ix1 d) := by
  show (StableHlo.after (List.flatten [hostOps0, hostOps0_1, hostOps0_2, hostOps0_3, hostOps0_4]) (fun b => m (c, b)) (Proc.devRef .tc main_v55) : Vec Ideal S4x64 .f32) _ = _
  simp only [List.flatten_cons, List.flatten_nil, List.append_nil, StableHlo.after_append]
  after_results_simp
  (try dsimp only [Matrix.cons_val])
  (try after_results_simp)
  pointwise [] <;> rfl

/-- The distances of the strip's positions. -/
def relV : IVec S512x768 32 :=
  subi (addi (broadcastInDim S512x768 ![] bcast_S_S512x768 (constantI S_ 32 256#32)) (iotaInDim S512x768 32 0)) (iotaInDim S512x768 32 1)
/-- Their buckets. -/
def posV (R : IVec S512x768 32) : IVec S512x768x1 32 :=
  let k (x : BitVec 32) : IVec S512x768 32 := broadcastInDim S512x768 ![] bcast_S_S512x768 (constantI S_ 32 x)
  let f (x : BitVec 32) : FVec Ideal S512x768 .f32 := broadcastInDim S512x768 ![] bcast_S_S512x768 (constant (F := Ideal) S_ .f32 x)
  let n := maxsi R (k 0#32)
  let b := select (cmpi .slt n (k 16#32)) n
    (minsi (addi (k 16#32) (fptosi 32 (mulf (Host.divf (Host.log (Host.divf (sitofp (F := Ideal) .f32 (maxsi n (k 1#32))) (f 0x41800000#32))) (f 0x40051592#32)) (f 0x41800000#32)))) (k 31#32))
  broadcastInDim S512x768x1 ![0, 1] bcast_S512x768_S512x768x1_0_1 (select (cmpi .slt b (k 0#32)) (addi b (k 32#32)) b)
/-- The strip of biases. -/
def stripV (R : IVec S512x768 32) (P : IVec S512x768x1 32) (T : Vec Ideal S16x32 .f32) : Vec Ideal S16x512x768 .f32 :=
  select (broadcastInDim S16x512x768 ![0, 1, 2] bcast_S1x512x768_S16x512x768_0_1_2 (broadcastInDim S1x512x768 ![1, 2] bcast_S512x768_S1x512x768_1_2 (cmpi .sge R (broadcastInDim S512x768 ![] bcast_S_S512x768 (constantI S_ 32 0#32)))))
    (mulf (subf (Host.gather gather_S16x32_S512x768x1_S16x512x768_0_1_n_n_1_2_161 T P)
        (broadcastInDim S16x512x768 ![0, 1, 2] bcast_S16x1x1_S16x512x768_0_1_2 (broadcastInDim S16x1x1 ![0] bcast_S16_S16x1x1_0 (shapeCast S16 (extractStridedSlice S16x1 ![0, 31] T slices_S16x32_S16x1_0_31) shapeCasts_S16x1_S16))))
      (broadcastInDim S16x512x768 ![] bcast_S_S16x512x768 (Host.divf (constant (F := Ideal) S_ .f32 0x3F800000#32) (Host.log (constant (F := Ideal) S_ .f32 0x40000000#32)))))
    (broadcastInDim S16x512x768 ![] bcast_S_S16x512x768 (constant (F := Ideal) S_ .f32 0xFF800000#32))

theorem relV_at (r : Fin 512) (s : Fin 768) : relV (ix2 r s) = BitVec.ofNat 32 (256 + r.val) - BitVec.ofNat 32 s.val := by
  rw [BitVec.ofNat_add]
  pointwise [relV] <;> rfl

theorem posV_at (R : IVec S512x768 32) (r : Fin 512) (s : Fin 768) : posV R (ix3 r s 0) = bkt (R (ix2 r s)) := by
  unfold posV
  pointwise []
  rfl

theorem gather_row {wf} (T : Vec Ideal S16x32 .f32) (P : Vec Ideal S512x768x1 .i32) (h : Fin 16) (r : Fin 512) (s : Fin 768) (z : BitVec 32) (hz : P (ix3 r s 0) = z) :
    Host.gather (colDims 16 512 768 wf) T P (ix3 h r s) = T (ix2 h ⟨min z.toInt.toNat 31, by omega⟩) := by
  subst hz
  exact gather_cols wf T P h r s

/-- A bias of the strip. -/
theorem stripV_at (R : IVec S512x768 32) (P : IVec S512x768x1 32) (T : Vec Ideal S16x32 .f32) (h : Fin 16) (r : Fin 512) (s : Fin 768) (z : BitVec 32) (hz : P (ix3 r s 0) = z) :
    stripV R P T (ix3 h r s) = Scalar.select (IntOp.cmpi .sge (R (ix2 r s)) 0#32) ((T (ix2 h ⟨min z.toInt.toNat 31, by omega⟩) - T (ix2 h 31)) * ((1 / Real.log 2 : ℝ) : EReal)) ⊥ := by
  have hg : Host.gather gather_S16x32_S512x768x1_S16x512x768_0_1_n_n_1_2_161 T P (ix3 h r s) = T (ix2 h ⟨min z.toInt.toNat 31, by omega⟩) := gather_row T P h r s z hz
  unfold stripV
  generalize Host.gather gather_S16x32_S512x768x1_S16x512x768_0_1_n_n_1_2_161 T P = U at *
  rw [← hg, ← Cert.DiffInt.invlog2]
  pointwise []
  have hn : (Ideal.ofBits .f32 0xFF800000#32 : EReal) = ⊥ := by simp [Ideal.ofBits, Ideal.ieee]
  rw [hn]

theorem V_strip (h : Fin 16) (r : Fin 512) (s : Fin 768) : (V m c main_v50 : Vec Ideal S16x512x768 .f32) (ix3 h r s)
    = if s.val ≤ 256 + r.val then (A1 m c (ix2 (row (BitVec.ofNat 32 (256 + r.val) - BitVec.ofNat 32 s.val)) h) - A1 m c (ix2 31 h)) * ((1 / Real.log 2 : ℝ) : EReal) else ⊥ := by
  show (StableHlo.after (List.flatten [hostOps0, hostOps0_1, hostOps0_2, hostOps0_3, hostOps0_4]) (fun b => m (c, b)) (Proc.devRef .tc main_v50) : Vec Ideal S16x512x768 .f32) _ = _
  simp only [List.flatten_cons, List.flatten_nil, List.append_nil, StableHlo.after_append]
  after_results_simp
  show stripV relV (posV relV) (transpose S16x32 [1, 0] (A1 m c) transposes_S32x16_S16x32_1_0) (ix3 h r s) = _
  have hT : ∀ u : Fin 32, (transpose S16x32 [1, 0] (A1 m c) transposes_S32x16_S16x32_1_0 : Vec Ideal S16x32 .f32) (ix2 h u) = A1 m c (ix2 u h) := fun u => by pointwise [] <;> rfl
  rw [stripV_at _ _ _ h r s _ (posV_at relV r s), relV_at, Cert.DiffInt.sub_sge _ _ (by omega) (by omega), Cert.DiffInt.pick, hT, hT]
  rfl

end Cert.KernelIdeal.Dif
-- ==== Proof.DiffV.lean ====
/- The result of the differential attention as the kernel computes it. -/
module

public import proofs.«01_k».proof.Proof.DiffRow
public import proofs.«01_k».proof.Proof.DiffHost

@[expose] public section

set_option maxRecDepth 16384

noncomputable section

namespace Cert.KernelIdeal.Dif

open Cert.KernelIdeal Cert.KernelIdeal.Gen Idealize.ShloMosaic Idealize.ShloMosaic.TcCoe Idealize.SL.Sem
open Cert.DiffMath Cert.DiffReal Cert.DiffSpec
open Cert.Proj (wide)

variable (m : (ℓ : Loc nD τ sig) → Buf (Elt Ideal) ℓ) (ρ : Dev nD → PrngReg) (c : Dev nD)

/-- The printed index maps, decided over the grid. -/
theorem idx_qkv : ∀ t : Fin cfg0.N,
    (win0_0.index t (0 : Fin 2) = 16 * (t.val / 64) + t.val % 16 ∧ win0_0.index t (1 : Fin 2) = 8 + t.val / 16 % 4)
    ∧ (win0_1.index t (0 : Fin 2) = t.val / 64 ∧ win0_1.index t (1 : Fin 2) = 12 + t.val / 16 % 4)
    ∧ (win0_2.index t (0 : Fin 2) = t.val / 64 ∧ win0_2.index t (1 : Fin 2) = 16 + t.val / 16 % 4) := by
  decide +kernel
theorem idx_rest : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 8 + t.val / 16 % 4 ∧ win0_5.index t (1 : Fin 3) = 0 ∧ win0_5.index t (2 : Fin 3) = 0)
    ∧ (win0_6.index t (0 : Fin 2) = 16 * (t.val / 64) + t.val % 16 ∧ win0_6.index t (1 : Fin 2) = t.val / 16 % 4) := by
  decide +kernel
theorem pos_val : ∀ t : Fin cfg0.N, (grid0.coords t 2).val = t.val % 16 :=
  (by decide +kernel : ∀ t : Fin grid0.N, (grid0.coords t 2).val = t.val % 16)

theorem lt128 (t : Fin cfg0.N) : t.val < 128 := lt_of_lt_of_eq t.isLt N_0

/-! Each window's block, read from the argument arrays. -/
theorem A0_eq {r r' : Fin 16384} {j j' : Fin 2840} (hr : r.val = r'.val) (hj : j.val = j'.val) : A0 m c (ix2 r j) = A0 m c (ix2 r' j') := by
  rw [Fin.ext hr, Fin.ext hj]

theorem blk0 (t : Fin cfg0.N) (r : Fin 512) (j : Fin 128) : (iblk m c 0 t : Vec Ideal S512x128 .bf16) (ix2 r j)
    = A0 m c (ix2 ⟨8192 * (t.val / 64) + (512 * (t.val % 16) + r.val), by have := lt128 t; omega⟩ ⟨1304 + 128 * (t.val / 16 % 4) + j.val, by omega⟩) := by
  obtain ⟨e0, e1⟩ := (idx_qkv t).1
  have ht := lt128 t
  refine Eq.trans (congrArg (V m c main_v4) (a₂ := (ix2 ⟨8192 * (t.val / 64) + (512 * (t.val % 16) + r.val), by omega⟩ ⟨1024 + 128 * (t.val / 16 % 4) + j.val, by omega⟩ : S16384x2560.Idx)) ?_) ?_
  · funext a
    refine Fin.ext ?_
    match a with
    | ⟨0, _⟩ => show win0_0.index t (0 : Fin 2) * 512 + 1 * r.val = _; rw [e0]; show _ = 8192 * (t.val / 64) + (512 * (t.val % 16) + r.val); omega
    | ⟨1, _⟩ => show win0_0.index t (1 : Fin 2) * 128 + 1 * j.val = _; rw [e1]; show _ = 1024 + 128 * (t.val / 16 % 4) + j.val; omega
  · refine (V_w m c _ _).trans (A0_eq m c rfl ?_)
    unfold wide
    dsimp only
    rw [if_neg (by omega), if_neg (by omega)]
    omega

theorem blk1 (t : Fin cfg0.N) (r : Fin 8192) (j : Fin 128) : (iblk m c 1 t : Vec Ideal S8192x128 .bf16) (ix2 r j)
    = A0 m c (ix2 ⟨8192 * (t.val / 64) + r.val, by have := lt128 t; omega⟩ ⟨1816 + 128 * (t.val / 16 % 4) + j.val, by omega⟩) := by
  obtain ⟨e0, e1⟩ := (idx_qkv t).2.1
  have ht := lt128 t
  refine Eq.trans (congrArg (V m c main_v4) (a₂ := (ix2 ⟨8192 * (t.val / 64) + r.val, by omega⟩ ⟨1536 + 128 * (t.val / 16 % 4) + j.val, by omega⟩ : S16384x2560.Idx)) ?_) ?_
  · funext a
    refine Fin.ext ?_
    match a with
    | ⟨0, _⟩ => show win0_1.index t (0 : Fin 2) * 8192 + 1 * r.val = _; rw [e0]; show _ = 8192 * (t.val / 64) + r.val; omega
    | ⟨1, _⟩ => show win0_1.index t (1 : Fin 2) * 128 + 1 * j.val = _; rw [e1]; show _ = 1536 + 128 * (t.val / 16 % 4) + j.val; omega
  · refine (V_w m c _ _).trans (A0_eq m c rfl ?_)
    unfold wide
    dsimp only
    rw [if_neg (by omega), if_neg (by omega)]
    omega

theorem blk2 (t : Fin cfg0.N) (r : Fin 8192) (j : Fin 128) : (iblk m c 2 t : Vec Ideal S8192x128 .bf16) (ix2 r j)
    = A0 m c (ix2 ⟨8192 * (t.val / 64) + r.val, by have := lt128 t; omega⟩ ⟨2328 + 128 * (t.val / 16 % 4) + j.val, by omega⟩) := by
  obtain ⟨e0, e1⟩ := (idx_qkv t).2.2
  have ht := lt128 t
  refine Eq.trans (congrArg (V m c main_v4) (a₂ := (ix2 ⟨8192 * (t.val / 64) + r.val, by omega⟩ ⟨2048 + 128 * (t.val / 16 % 4) + j.val, by omega⟩ : S16384x2560.Idx)) ?_) ?_
  · funext a
    refine Fin.ext ?_
    match a with
    | ⟨0, _⟩ => show win0_2.index t (0 : Fin 2) * 8192 + 1 * r.val = _; rw [e0]; show _ = 8192 * (t.val / 64) + r.val; omega
    | ⟨1, _⟩ => show win0_2.index t (1 : Fin 2) * 128 + 1 * j.val = _; rw [e1]; show _ = 2048 + 128 * (t.val / 16 % 4) + j.val; omega
  · refine (V_w m c _ _).trans (A0_eq m c rfl ?_)
    unfold wide
    dsimp only
    rw [if_neg (by omega), if_neg (by omega)]
    omega

theorem blk3 (t : Fin cfg0.N) (u : Fin 4) (d : Fin 64) : (iblk m c 3 t : Vec Ideal S4x64 .f32) (ix2 u d) = (V m c main_v55 : Vec Ideal S4x64 .f32) (ix2 u d) := by
  obtain ⟨e0, e1⟩ := (idx_rest t).1
  refine congrArg (V m c main_v55) (a₂ := (ix2 u d : S4x64.Idx)) ?_
  funext a
  refine Fin.ext ?_
  match a with
  | ⟨0, _⟩ => show win0_3.index t (0 : Fin 2) * 4 + 1 * u.val = _; rw [e0]; show _ = u.val; omega
  | ⟨1, _⟩ => show win0_3.index t (1 : Fin 2) * 64 + 1 * d.val = _; rw [e1]; show _ = d.val; omega

theorem blk4 (t : Fin cfg0.N) (d : Fin 128) : (iblk m c 4 t : Vec Ideal S1x128 .f32) (ix2 0 d) = A6 m c (ix1 d) := by
  obtain ⟨e0, e1⟩ := (idx_rest t).2.1
  refine Eq.trans (congrArg (V m c main_v56) (a₂ := (ix2 0 d : S1x128.Idx)) ?_) (V_sub m c d)
  funext a
  refine Fin.ext ?_
  match a with
  | ⟨0, _⟩ => show win0_4.index t (0 : Fin 2) * 1 + 1 * 0 = _; rw [e0]; rfl
  | ⟨1, _⟩ => show win0_4.index t (1 : Fin 2) * 128 + 1 * d.val = _; rw [e1]; show _ = d.val; omega

theorem blk5 (t : Fin cfg0.N) (r : Fin 512) (s : Fin 768) : (iblk m c 5 t : Vec Ideal S1x512x768 .f32) (ix3 0 r s)
    = (V m c main_v50 : Vec Ideal S16x512x768 .f32) (ix3 ⟨8 + t.val / 16 % 4, by omega⟩ r s) := by
  obtain ⟨e0, e1, e2⟩ := (idx_rest t).2.2.1
  refine congrArg (V m c main_v50) (a₂ := (ix3 ⟨8 + t.val / 16 % 4, by omega⟩ r s : S16x512x768.Idx)) ?_
  funext a
  refine Fin.ext ?_
  match a with
  | ⟨0, _⟩ => show win0_5.index t (0 : Fin 3) * 1 + 1 * 0 = _; rw [e0]; show _ = 8 + t.val / 16 % 4; omega
  | ⟨1, _⟩ => show win0_5.index t (1 : Fin 3) * 512 + 1 * r.val = _; rw [e1]; show _ = r.val; omega
  | ⟨2, _⟩ => show win0_5.index t (2 : Fin 3) * 768 + 1 * s.val = _; rw [e2]; show _ = s.val; omega

/-! ## The arguments as reals -/

/-- The arguments of device `c`, as reals. -/
def Xr (r : Fin 16384) (k : Fin 2840) : ℝ := (A0 m c (ix2 r k)).toReal
def Tr (u : Fin 32) (k : Fin 16) : ℝ := (A1 m c (ix2 u k)).toReal
def Lr : Fin 4 → Fin 64 → ℝ := ![fun d => (A2 m c (ix1 d)).toReal, fun d => (A3 m c (ix1 d)).toReal, fun d => (A4 m c (ix1 d)).toReal, fun d => (A5 m c (ix1 d)).toReal]

/-- The arguments of device `c` are reals: of the projection and of the bias table, the columns that the attention reads. -/
structure Real : Prop where
  h0 : ∀ r (k : Fin 2840), 1304 ≤ k.val → A0 m c (ix2 r k) = ((Xr m c r k : ℝ) : EReal)
  h1 : ∀ u (k : Fin 16), 8 ≤ k.val → k.val < 12 → A1 m c (ix2 u k) = ((Tr m c u k : ℝ) : EReal)
  h2 : ∀ d, A2 m c (ix1 d) = ((Lr m c 0 d : ℝ) : EReal)
  h3 : ∀ d, A3 m c (ix1 d) = ((Lr m c 1 d : ℝ) : EReal)
  h4 : ∀ d, A4 m c (ix1 d) = ((Lr m c 2 d : ℝ) : EReal)
  h5 : ∀ d, A5 m c (ix1 d) = ((Lr m c 3 d : ℝ) : EReal)

/-- The result. -/
def res (r : Fin 16384) (k : Fin 512) : EReal :=
  rms (fun c' => ((dif (Xr m c) (Tr m c) (Lr m c) ⟨r.val / 8192, by omega⟩ ⟨k.val / 128, by omega⟩ ⟨r.val % 8192, by omega⟩ c' : ℝ) : EReal))
    (A6 m c (ix1 ⟨k.val % 128, by omega⟩)) ⟨k.val % 128, by omega⟩

/-- The row of the result that row `r` of the block of point `t` is. -/
def orow (t : Fin cfg0.N) (r : Fin 512) : Fin 16384 := ⟨512 * (16 * (t.val / 64) + t.val % 16) + r.val, by have := lt128 t; omega⟩
/-- The column of the result that column `k` of the block of point `t` is. -/
def ocol (t : Fin cfg0.N) (k : Fin 128) : Fin 512 := ⟨128 * (t.val / 16 % 4) + k.val, by omega⟩

theorem o6_apply (hR : Real m c) (t : Fin cfg0.N) (r : Fin 512) (k : Fin 128) :
    o6 m c t (ix2 r k) = res m c (orow t r) (ocol t k) := by
  have ht := lt128 t
  have hv : (ev t).val = 16 * (t.val / 16) := rfl
  unfold o6 keys vals
  refine (out_at (grid0.coords t) (t.val % 16) (pos_val t) (by omega) (iblk m c 0 t) (iblk m c 1 (ev t)) (iblk m c 2 (ev t)) (iblk m c 3 t) (iblk m c 4 t) (iblk m c 5 t)
    (Xr m c) (Tr m c) (Lr m c) ⟨t.val / 64, by omega⟩ ⟨t.val / 16 % 4, by omega⟩ r ⟨512 * (t.val % 16) + r.val, by omega⟩ rfl
    (fun e d => ?_) (fun e j d => ?_) (fun j d => ?_) (fun u s => ?_) (fun d => ?_) (fun d => ?_) (fun d => ?_) (fun d => ?_) k).trans ?_
  · rw [blk0]
    refine (A0_eq m c rfl ?_).trans (hR.h0 _ _ (by show 1304 ≤ 1304 + 128 * (t.val / 16 % 4) + 64 * e.val + d.val; omega))
    show 1304 + 128 * (t.val / 16 % 4) + (64 * e.val + d.val) = 1304 + 128 * (t.val / 16 % 4) + 64 * e.val + d.val
    omega
  · rw [blk1]
    refine (A0_eq m c ?_ ?_).trans (hR.h0 _ _ (by show 1304 ≤ 1816 + 128 * (t.val / 16 % 4) + 64 * e.val + d.val; omega))
    · show 8192 * ((ev t).val / 64) + j.val = 8192 * (t.val / 64) + j.val
      omega
    · show 1816 + 128 * ((ev t).val / 16 % 4) + (64 * e.val + d.val) = 1816 + 128 * (t.val / 16 % 4) + 64 * e.val + d.val
      omega
  · rw [blk2]
    refine (A0_eq m c ?_ ?_).trans (hR.h0 _ _ (by show 1304 ≤ 2328 + 128 * (t.val / 16 % 4) + d.val; omega))
    · show 8192 * ((ev t).val / 64) + j.val = 8192 * (t.val / 64) + j.val
      omega
    · show 2328 + 128 * ((ev t).val / 16 % 4) + d.val = 2328 + 128 * (t.val / 16 % 4) + d.val
      omega
  · rw [blk5, V_strip, hR.h1 _ ⟨8 + t.val / 16 % 4, by omega⟩ (by show 8 ≤ 8 + t.val / 16 % 4; omega) (by show 8 + t.val / 16 % 4 < 12; omega),
      hR.h1 31 ⟨8 + t.val / 16 % 4, by omega⟩ (by show 8 ≤ 8 + t.val / 16 % 4; omega) (by show 8 + t.val / 16 % 4 < 12; omega), ← EReal.coe_sub, ← EReal.coe_mul]
  · rw [blk3, V_lam0, hR.h2]
  · rw [blk3, V_lam1, hR.h3]
  · rw [blk3, V_lam2, hR.h4]
  · rw [blk3, V_lam3, hR.h5]
  · rw [blk4]
    unfold res
    have e1 : (⟨(orow t r).val / 8192, by omega⟩ : Fin 2) = ⟨t.val / 64, by omega⟩ := Fin.ext (by
      show (512 * (16 * (t.val / 64) + t.val % 16) + r.val) / 8192 = t.val / 64; omega)
    have e2 : (⟨(orow t r).val % 8192, by omega⟩ : Fin 8192) = ⟨512 * (t.val % 16) + r.val, by omega⟩ := Fin.ext (by
      show (512 * (16 * (t.val / 64) + t.val % 16) + r.val) % 8192 = 512 * (t.val % 16) + r.val; omega)
    have e3 : (⟨(ocol t k).val / 128, by omega⟩ : Fin 4) = ⟨t.val / 16 % 4, by omega⟩ := Fin.ext (by
      show (128 * (t.val / 16 % 4) + k.val) / 128 = t.val / 16 % 4; omega)
    have e4 : (⟨(ocol t k).val % 128, by omega⟩ : Fin 128) = k := Fin.ext (by
      show (128 * (t.val / 16 % 4) + k.val) % 128 = k.val; omega)
    rw [e1, e2, e3, e4]

/-! ## The array the kernel leaves -/

/-- The result. -/
def G6 : Buf (Elt Ideal) ((c : Thread nD τ).loc main_v57) := fun i => res m c (i 0) (i 1)

theorem flushed_6 (hR : Real m c) (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after_6]
  obtain ⟨e0, e1⟩ := (idx_rest t).2.2.2
  funext y
  have hy0 : (y 0).val < 512 := (y 0).isLt
  have hy1 : (y 1).val < 128 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 128 + 1 * (y 1).val := rfl
  have hl : (cfg0.win 6).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show o6 m c t ((cfg0.win 6).xinj (grid0.coords t) y) = G6 m c (((cfg0.win 6).blk t).view.emb y)
  rw [hl, o6_apply m c hR]
  refine congrArg₂ (fun (a : Fin 16384) (b : Fin 512) => res m c a b) (Fin.ext ?_) (Fin.ext ?_)
  · rw [hb0, e0]; show 512 * (16 * (t.val / 64) + t.val % 16) + (y 0).val = _; omega
  · rw [hb1, e1]; show 128 * (t.val / 16 % 4) + (y 1).val = _; omega

/-- The point that leaves an entry of the result. -/
def pt (a b : ℕ) : ℕ := 64 * (a / 8192) + 16 * (b / 128) + a / 512 % 16

theorem final_6 (hR : Real m c) : (dats m 0 c).arrAt 6 cfg0.N = G6 m c :=
  (dats m 0 c).arrAt_eq_of_cover 6 _ (fun t hf => flushed_6 m c hR t hf) (fun i => by
    have h0 : (i 0).val < 16384 := (i 0).isLt
    have h1 : (i 1).val < 512 := (i 1).isLt
    have hp : pt (i 0).val (i 1).val = 64 * ((i 0).val / 8192) + 16 * ((i 1).val / 128) + (i 0).val / 512 % 16 := rfl
    have hN : pt (i 0).val (i 1).val < cfg0.N := lt_of_lt_of_eq (by omega) N_0.symm
    obtain ⟨e0, e1⟩ := (idx_rest ⟨pt (i 0).val (i 1).val, hN⟩).2.2.2
    refine ⟨⟨pt (i 0).val (i 1).val, hN⟩, flush0_6 _, ?_⟩
    show i ∈ ((View.whole main_v57).slice (win0_6.rect ⟨pt (i 0).val (i 1).val, hN⟩)).set
    rw [View.set_slice_whole, Rect.mem_set_unit]
    intro a
    match a with
    | ⟨0, _⟩ =>
      show win0_6.index ⟨pt (i 0).val (i 1).val, hN⟩ (0 : Fin 2) * 512 ≤ (i 0).val ∧ (i 0).val < win0_6.index ⟨pt (i 0).val (i 1).val, hN⟩ (0 : Fin 2) * 512 + 512
      rw [e0]
      show (16 * (pt (i 0).val (i 1).val / 64) + pt (i 0).val (i 1).val % 16) * 512 ≤ (i 0).val ∧ (i 0).val < (16 * (pt (i 0).val (i 1).val / 64) + pt (i 0).val (i 1).val % 16) * 512 + 512
      omega
    | ⟨1, _⟩ =>
      show win0_6.index ⟨pt (i 0).val (i 1).val, hN⟩ (1 : Fin 2) * 128 ≤ (i 1).val ∧ (i 1).val < win0_6.index ⟨pt (i 0).val (i 1).val, hN⟩ (1 : Fin 2) * 128 + 128
      rw [e1]
      show (pt (i 0).val (i 1).val / 16 % 4) * 128 ≤ (i 1).val ∧ (i 1).val < (pt (i 0).val (i 1).val / 16 % 4) * 128 + 128
      omega)

/-- From real arguments the kernel leaves the result, and its arguments as they were. -/
theorem run (hR : ∀ c, Real m c) : θ_run defs (onTc (τ := τ) (main (F := Ideal))) ⟨m, fun _ => 0, ρ⟩ (fun r => ∀ c : Dev nD,
      r.2.mem ((c.tc : Thread nD τ).loc main_v57) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 6).trans (final_6 m c (hR c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Dif
-- ==== Proof.DiffRefA.lean ====
/- The reference of the differential attention, read at an index. -/
module

public import proofs.«01_k».proof.Proof.Gen.ReferenceIdeal.Read
public import proofs.«01_k».proof.Proof.DiffReal

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

theorem rel_at : val_main_v34 (F := Ideal) (ix2 t j) = BitVec.ofNat 32 t.val - BitVec.ofNat 32 j.val := by
  unfold val_main_v34 val_main_v33 val_main_v32 val_main_v31 val_main_v30 val_main_v29 val_main_v28
  pointwise [] <;> rfl

/-- The bucket of two positions. -/
theorem pos_at : val_main_v63 (F := Ideal) (ix3 t j 0) = bkt (BitVec.ofNat 32 t.val - BitVec.ofNat 32 j.val) := by
  rw [← rel_at]
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38
  generalize val_main_v34 (F := Ideal) = R
  unfold val_main_c val_main_c_3 val_main_c_7 val_main_c_8 val_main_c_9 val_main_c_10 val_main_c_11 val_main_cst_4 val_main_cst_5 val_main_cst_6
  pointwise []
  rfl

theorem gather_row {wf} (x : Vec Ideal S4x32 .f32) (idx : Vec Ideal S8192x8192x1 .i32) (z : BitVec 32) (hz : idx (ix3 t j 0) = z) :
    Host.gather (colDims 4 8192 8192 wf) x idx (ix3 h t j) = x (ix2 h ⟨min z.toInt.toNat 31, by omega⟩) := by
  subst hz
  exact gather_cols wf x idx h t j

/-- The bias table's columns of the four heads. -/
theorem cols_at (u : Fin 32) : val_main_v24 x1 (ix2 h u) = x1 (ix2 u ⟨8 + h.val, by omega⟩) := by
  unfold val_main_v24 val_main_v23
  pointwise [] <;> rfl

/-- The bias of two positions. -/
theorem tab_at : val_main_v64 x1 (ix3 h t j) = x1 (ix2 (row (BitVec.ofNat 32 t.val - BitVec.ofNat 32 j.val)) ⟨8 + h.val, by omega⟩) := by
  have hz := pos_at t j
  have hc := fun u => cols_at x1 h u
  unfold val_main_v64
  generalize val_main_v63 (F := Ideal) = I at *
  generalize val_main_v24 x1 = T at *
  exact (gather_row h t j T I _ hz).trans (hc _)

end Cert.ReferenceIdeal.Dif
-- ==== Proof.DiffRefB.lean ====
/- The reference of the differential attention, read at an index. -/
module

public import proofs.«01_k».proof.Proof.Gen.ReferenceIdeal.Read
public import proofs.«01_k».proof.Proof.DiffReal

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

theorem x0_at {r r' : Fin 16384} {k k' : Fin 2840} (hr : r.val = r'.val) (hk : k.val = k'.val) : x0 (ix2 r k) = x0 (ix2 r' k') := by
  rw [Fin.ext hr, Fin.ext hk]

/-- A query. -/
theorem q_at : val_main_v25 x0 (ix5 b e h t d) = x0 (ix2 ⟨8192 * b.val + t.val, by omega⟩ ⟨1304 + 128 * h.val + 64 * e.val + d.val, by omega⟩) := by
  unfold val_main_v25 val_main_v20 val_main_v9 val_main_v0
  pointwise []
  exact x0_at x0 (by show b.val * 8192 + t.val = 8192 * b.val + t.val; omega) (by show 1304 + (h.val * 128 + e.val * 64 + d.val) = 1304 + 128 * h.val + 64 * e.val + d.val; omega)

/-- A key. -/
theorem k_at : val_main_v26 x0 (ix5 b e h t d) = x0 (ix2 ⟨8192 * b.val + t.val, by omega⟩ ⟨1816 + 128 * h.val + 64 * e.val + d.val, by omega⟩) := by
  unfold val_main_v26 val_main_v21 val_main_v10 val_main_v0
  pointwise []
  exact x0_at x0 (by show b.val * 8192 + t.val = 8192 * b.val + t.val; omega) (by show 1816 + (h.val * 128 + e.val * 64 + d.val) = 1816 + 128 * h.val + 64 * e.val + d.val; omega)

/-- A value. -/
theorem v_at : val_main_v27 x0 (ix4 b h t c) = x0 (ix2 ⟨8192 * b.val + t.val, by omega⟩ ⟨2328 + 128 * h.val + c.val, by omega⟩) := by
  unfold val_main_v27 val_main_v22 val_main_v11 val_main_v0
  pointwise []
  exact x0_at x0 (by show b.val * 8192 + t.val = 8192 * b.val + t.val; omega) (by show 2328 + (h.val * 128 + c.val) = 2328 + 128 * h.val + c.val; omega)

/-- The weight of the second map. -/
theorem lam_at (i : S_.Idx) : val_main_v19 x2 x3 x4 x5 i = Ideal.exp (∑ d : Fin 64, x2 (ix1 d) * x3 (ix1 d)) - Ideal.exp (∑ d : Fin 64, x4 (ix1 d) * x5 (ix1 d)) + Ideal.ofBits .f32 0x3E4CCCCD#32 := by
  unfold val_main_v19 val_main_v18 val_main_v17 val_main_v16 val_main_v15 val_main_v14 val_main_v13 val_main_v12 val_main_cst val_main_cst_0 val_main_cst_1
  pointwise []
  try rfl

end Cert.ReferenceIdeal.Dif
-- ==== Proof.DiffRefL.lean ====
/- The reference of the differential attention, read at an index. -/
module

public import proofs.«01_k».proof.Proof.Gen.ReferenceIdeal.Read
public import proofs.«01_k».proof.Proof.DiffReal

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

/-- A logit. -/
theorem logit_at : val_main_v67 x0 x1 (ix5 b e h t j)
    = (∑ d : Fin 64, val_main_v25 x0 (ix5 b e h t d) * val_main_v26 x0 (ix5 b e h j d))
        * Ideal.ofBits .f32 0x3E000000#32
      + val_main_v64 x1 (ix3 h t j) := by
  unfold val_main_v67 val_main_v66 val_main_v65 val_main_v37 val_main_v36 val_main_v35 val_main_cst_2
  generalize val_main_v25 x0 = Q
  generalize val_main_v26 x0 = K
  generalize val_main_v64 x1 = T
  pointwise []

end Cert.ReferenceIdeal.Dif
-- ==== Proof.DiffRefC.lean ====
/- The reference of the differential attention, read at an index. -/
module

public import proofs.«01_k».proof.Proof.Gen.ReferenceIdeal.Read
public import proofs.«01_k».proof.Proof.DiffInt

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

theorem ninf : (Ideal.ofBits .f32 0xFF800000#32 : EReal) = ⊥ := by simp [Ideal.ofBits, Ideal.ieee]
theorem zero : (Ideal.ofBits .f32 0x00000000#32 : EReal) = 0 := by simp [Ideal.ofBits, Ideal.ieee]

/-- Which positions are seen. -/
theorem seen_at (hr : val_main_v34 (F := Ideal) (ix2 t j) = BitVec.ofNat 32 t.val - BitVec.ofNat 32 j.val) : val_main_v69 (F := Ideal) (ix2 t j) = BitVec.ofBool (decide (j.val ≤ t.val)) := by
  unfold val_main_v69 val_main_v68 val_main_c_12
  generalize val_main_v34 (F := Ideal) = R at *
  pointwise []
  rw [hr]
  exact Cert.DiffInt.sub_sge _ _ (by omega) (by omega)

theorem where_at (hs : val_main_v69 (F := Ideal) (ix2 t j) = BitVec.ofBool (decide (j.val ≤ t.val))) : val_main_v70 x0 x1 (ix5 b e h t j) = if j.val ≤ t.val then val_main_v67 x0 x1 (ix5 b e h t j) else ⊥ := by
  unfold val_main_v70
  unfold val_main_call1_v2 val_main_call1_v1 val_main_call1_v0 val_main_cst_13
  generalize val_main_v69 (F := Ideal) = R at *
  generalize val_main_v67 x0 x1 = L at *
  pointwise []
  rw [hs, Cert.DiffInt.pick]
  exact if_congr Iff.rfl rfl ninf

theorem max_at : val_main_v71 x0 x1 (ix4 b e h t) = Finset.univ.fold max ⊥ fun j : Fin 8192 => val_main_v70 x0 x1 (ix5 b e h t j) := by
  unfold val_main_v71 val_main_cst_14
  generalize val_main_v70 x0 x1 = L at *
  pointwise []
  rw [ninf]

theorem exp_at (hs : val_main_v69 (F := Ideal) (ix2 t j) = BitVec.ofBool (decide (j.val ≤ t.val))) : val_main_v76 x0 x1 (ix5 b e h t j) = if j.val ≤ t.val then Ideal.exp (val_main_v70 x0 x1 (ix5 b e h t j) - val_main_v71 x0 x1 (ix4 b e h t)) else 0 := by
  unfold val_main_v76 val_main_v75 val_main_v74 val_main_v73 val_main_v72
  unfold val_main_call2_v2 val_main_call2_v1 val_main_call2_v0 val_main_cst_15
  generalize val_main_v69 (F := Ideal) = R at *
  generalize val_main_v70 x0 x1 = L at *
  generalize val_main_v71 x0 x1 = L at *
  pointwise []
  rw [hs, Cert.DiffInt.pick]
  exact if_congr Iff.rfl rfl zero

end Cert.ReferenceIdeal.Dif
-- ==== Proof.DiffRefD0.lean ====
/- The reference of the differential attention, read at an index. -/
module

public import proofs.«01_k».proof.Proof.Gen.ReferenceIdeal.Read
public import proofs.«01_k».proof.Proof.DiffInt

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

theorem p_at : val_main_v82 x0 x1 (ix5 b e h t j) = Ideal.div (val_main_v76 x0 x1 (ix5 b e h t j)) (max (∑ k : Fin 8192, val_main_v76 x0 x1 (ix5 b e h t k)) (Ideal.ofBits .f32 0x0DA24260#32)) := by
  unfold val_main_v82 val_main_v81 val_main_v80 val_main_v79 val_main_v78 val_main_v77 val_main_cst_16 val_main_cst_17
  generalize val_main_v76 x0 x1 = L at *
  pointwise []

end Cert.ReferenceIdeal.Dif
-- ==== Proof.DiffRefD1.lean ====
/- The reference of the differential attention, read at an index. -/
module

public import proofs.«01_k».proof.Proof.Gen.ReferenceIdeal.Read
public import proofs.«01_k».proof.Proof.DiffInt

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

/-- The first map. -/
theorem map0_at : val_main_v84 x0 x1 (ix4 b h t j) = val_main_v82 x0 x1 (ix5 b 0 h t j) := by
  rw [val_main_v84_apply, val_main_v83_apply]
  generalize val_main_v82 x0 x1 = L
  refine congrArg L (funext fun a => Fin.ext ?_)
  have hb := b.isLt; have hh := h.isLt; have ht := t.isLt; have hj := j.isLt
  have hz : (((b.val * 4 + h.val) * 8192 + t.val) * 8192 + j.val) / 8192 = (b.val * 4 + h.val) * 8192 + t.val := by omega
  have hy : (((b.val * 4 + h.val) * 8192 + t.val) * 8192 + j.val) / 67108864 = b.val * 4 + h.val := by omega
  match a with
  | ⟨0, _⟩ => show (((b.val * 4 + h.val) * 8192 + t.val) * 8192 + j.val) / 268435456 = b.val; omega
  | ⟨1, _⟩ => rfl
  | ⟨2, _⟩ => show (((b.val * 4 + h.val) * 8192 + t.val) * 8192 + j.val) / 67108864 % 4 = h.val; omega
  | ⟨3, _⟩ => show (((b.val * 4 + h.val) * 8192 + t.val) * 8192 + j.val) / 8192 % 8192 = t.val; omega
  | ⟨4, _⟩ => show (((b.val * 4 + h.val) * 8192 + t.val) * 8192 + j.val) % 8192 = j.val; omega

/-- The second map. -/
theorem map1_at : val_main_v86 x0 x1 (ix4 b h t j) = val_main_v82 x0 x1 (ix5 b 1 h t j) := by
  rw [val_main_v86_apply, val_main_v85_apply]
  generalize val_main_v82 x0 x1 = L
  refine congrArg L (funext fun a => Fin.ext ?_)
  have hb := b.isLt; have hh := h.isLt; have ht := t.isLt; have hj := j.isLt
  have hz : (((b.val * 4 + h.val) * 8192 + t.val) * 8192 + j.val) / 8192 = (b.val * 4 + h.val) * 8192 + t.val := by omega
  have hy : (((b.val * 4 + h.val) * 8192 + t.val) * 8192 + j.val) / 67108864 = b.val * 4 + h.val := by omega
  match a with
  | ⟨0, _⟩ => show (((b.val * 4 + h.val) * 8192 + t.val) * 8192 + j.val) / 268435456 = b.val; omega
  | ⟨1, _⟩ => rfl
  | ⟨2, _⟩ => show (((b.val * 4 + h.val) * 8192 + t.val) * 8192 + j.val) / 67108864 % 4 = h.val; omega
  | ⟨3, _⟩ => show (((b.val * 4 + h.val) * 8192 + t.val) * 8192 + j.val) / 8192 % 8192 = t.val; omega
  | ⟨4, _⟩ => show (((b.val * 4 + h.val) * 8192 + t.val) * 8192 + j.val) % 8192 = j.val; omega

/-- The difference of the two maps. -/
theorem map_at : val_main_v89 x0 x1 x2 x3 x4 x5 (ix4 b h t j) = val_main_v82 x0 x1 (ix5 b 0 h t j) - val_main_v19 x2 x3 x4 x5 ix0 * val_main_v82 x0 x1 (ix5 b 1 h t j) := by
  rw [← map0_at, ← map1_at, val_main_v89_apply, val_main_v88_apply, val_main_v87_apply]
  generalize val_main_v84 x0 x1 (ix4 b h t j) = L
  generalize val_main_v86 x0 x1 (ix4 b h t j) = L'
  generalize val_main_v19 x2 x3 x4 x5 = M
  have e : (idx_main_v87 (ix4 b h t j) : S_.Idx) = ix0 := funext fun a => a.elim0
  rw [e]
  rfl

end Cert.ReferenceIdeal.Dif
-- ==== Proof.DiffRefD2.lean ====
/- The reference of the differential attention, read at an index. -/
module

public import proofs.«01_k».proof.Proof.Gen.ReferenceIdeal.Read
public import proofs.«01_k».proof.Proof.DiffInt

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

theorem diff_at : val_main_v90 x0 x1 x2 x3 x4 x5 (ix4 b h t c) = ∑ j : Fin 8192, val_main_v89 x0 x1 x2 x3 x4 x5 (ix4 b h t j) * val_main_v27 x0 (ix4 b h j c) := by
  unfold val_main_v90
  generalize val_main_v89 x0 x1 x2 x3 x4 x5 = L at *
  generalize val_main_v27 x0 = M at *
  pointwise []

end Cert.ReferenceIdeal.Dif
-- ==== Proof.DiffRefD3.lean ====
/- The reference of the differential attention, read at an index. -/
module

public import proofs.«01_k».proof.Proof.Gen.ReferenceIdeal.Read
public import proofs.«01_k».proof.Proof.DiffInt

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

/-- The difference, transposed. -/
theorem turn_at : val_main_v91 x0 x1 x2 x3 x4 x5 (ix4 b t h c) = val_main_v90 x0 x1 x2 x3 x4 x5 (ix4 b h t c) := by
  rw [val_main_v91_apply]
  generalize val_main_v90 x0 x1 x2 x3 x4 x5 = L
  refine congrArg L (funext fun a => Fin.ext ?_)
  match a with
  | ⟨0, _⟩ => rfl
  | ⟨1, _⟩ => rfl
  | ⟨2, _⟩ => rfl
  | ⟨3, _⟩ => rfl

/-- The sum of squares of a row. -/
theorem squares_at : val_main_v93 x0 x1 x2 x3 x4 x5 (ix3 b t h) = ∑ x : Fin 128, val_main_v90 x0 x1 x2 x3 x4 x5 (ix4 b h t x) * val_main_v90 x0 x1 x2 x3 x4 x5 (ix4 b h t x) := by
  rw [val_main_v93_apply]
  have e0 : val_main_cst_18 (F := Ideal) (Shape.Idx.first h_S_) = (0 : EReal) := by
    rw [val_main_cst_18_apply]
    show (Ideal.ofBits .f32 0x00000000#32 : EReal) = 0
    simp [Ideal.ofBits, Ideal.ieee]
  rw [e0, zero_add]
  refine Finset.sum_congr rfl fun k _ => ?_
  have e : idx_main_v93 (ix3 b t h) k = (ix4 b t h k : S2x8192x4x128.Idx) := by
    funext a
    refine Fin.ext ?_
    match a with
    | ⟨0, _⟩ => rfl
    | ⟨1, _⟩ => rfl
    | ⟨2, _⟩ => rfl
    | ⟨3, _⟩ => rfl
  rw [e, val_main_v92_apply, turn_at]
  rfl

/-- The normalised rows. -/
theorem norm_at : val_main_v106 x0 x1 x2 x3 x4 x5 x6 (ix4 b t h c) = rms (fun x => val_main_v90 x0 x1 x2 x3 x4 x5 (ix4 b h t x)) (x6 (ix1 c)) c := by
  rw [val_main_v106_apply, val_main_v104_apply, val_main_v101_apply, val_main_v105_apply, val_main_v103_apply, val_main_v102_apply, val_main_v100_apply, val_main_v99_apply,
    val_main_v98_apply, val_main_v97_apply, val_main_v96_apply, val_main_v95_apply, val_main_v94_apply, turn_at]
  have e3 : idx_main_v94 (idx_main_v100 (ix4 b t h c)) = (ix3 b t h : S2x8192x4.Idx) := by
    funext a
    refine Fin.ext ?_
    match a with
    | ⟨0, _⟩ => rfl
    | ⟨1, _⟩ => rfl
    | ⟨2, _⟩ => rfl
  have e1 : idx_main_v102 (idx_main_v103 (ix4 b t h c)) = (ix1 c : S128.Idx) := by
    funext a
    refine Fin.ext ?_
    match a with
    | ⟨0, _⟩ => rfl
  rw [e3, e1, squares_at, val_main_cst_19_apply, val_main_cst_20_apply, val_main_cst_21_apply]
  unfold rms
  generalize val_main_v90 x0 x1 x2 x3 x4 x5 = L
  rfl

end Cert.ReferenceIdeal.Dif
-- ==== Proof.DiffRefD4.lean ====
/- The reference of the differential attention, read at an index. -/
module

public import proofs.«01_k».proof.Proof.Gen.ReferenceIdeal.Read
public import proofs.«01_k».proof.Proof.DiffInt

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal

variable (x0 : Vec Ideal S16384x2840 .f32) (x1 : Vec Ideal S32x16 .f32) (x2 x3 x4 x5 : Vec Ideal S64 .f32) (x6 : Vec Ideal S128 .f32)
  (b : Fin 2) (e : Fin 2) (h : Fin 4) (t j : Fin 8192) (d : Fin 64) (c : Fin 128)

theorem flat_at (r : Fin 16384) (k : Fin 512) : val_main_v109 x0 x1 x2 x3 x4 x5 x6 (ix2 r k)
    = val_main_v106 x0 x1 x2 x3 x4 x5 x6 (ix4 ⟨r.val / 8192, by omega⟩ ⟨r.val % 8192, by omega⟩ ⟨k.val / 128, by omega⟩ ⟨k.val % 128, by omega⟩) := by
  unfold val_main_v109 val_main_v108 val_main_v107
  generalize val_main_v106 x0 x1 x2 x3 x4 x5 x6 = L at *
  pointwise []
  try rfl

end Cert.ReferenceIdeal.Dif
-- ==== Proof.DiffRef.lean ====
/- The reference of the differential attention, on real arguments. -/
module

public import proofs.«01_k».proof.Proof.DiffRefA
public import proofs.«01_k».proof.Proof.DiffRefB
public import proofs.«01_k».proof.Proof.DiffRefL
public import proofs.«01_k».proof.Proof.DiffRefC
public import proofs.«01_k».proof.Proof.DiffRefD0
public import proofs.«01_k».proof.Proof.DiffRefD1
public import proofs.«01_k».proof.Proof.DiffRefD2
public import proofs.«01_k».proof.Proof.DiffRefD3
public import proofs.«01_k».proof.Proof.DiffRefD4

@[expose] public section

set_option maxRecDepth 16384

noncomputable section

namespace Cert.ReferenceIdeal.Dif

open Cert.ReferenceIdeal Cert.ReferenceIdeal.Gen Cert.ReferenceIdeal.Read Idealize.ShloMosaic Idealize.ShloMosaic.TcCoe Idealize.SL.Sem
open Cert.DiffSpec Cert.DiffReal Cert.DiffMath

variable (x0 : Vec Ideal S16384x2840 .f32) (x1 : Vec Ideal S32x16 .f32) (x2 x3 x4 x5 : Vec Ideal S64 .f32) (x6 : Vec Ideal S128 .f32)
  (X : Fin 16384 → Fin 2840 → ℝ) (Tb : Fin 32 → Fin 16 → ℝ) (L : Fin 4 → Fin 64 → ℝ)
  (hx0 : ∀ r (k : Fin 2840), 1304 ≤ k.val → x0 (ix2 r k) = ((X r k : ℝ) : EReal)) (hx1 : ∀ u (k : Fin 16), 8 ≤ k.val → k.val < 12 → x1 (ix2 u k) = ((Tb u k : ℝ) : EReal))
  (hx2 : ∀ d, x2 (ix1 d) = ((L 0 d : ℝ) : EReal)) (hx3 : ∀ d, x3 (ix1 d) = ((L 1 d : ℝ) : EReal))
  (hx4 : ∀ d, x4 (ix1 d) = ((L 2 d : ℝ) : EReal)) (hx5 : ∀ d, x5 (ix1 d) = ((L 3 d : ℝ) : EReal))
  (b : Fin 2) (e : Fin 2) (h : Fin 4) (t j : Fin 8192) (c : Fin 128)

include hx0 hx1 in
/-- A logit is a real. -/
theorem logit_real : val_main_v67 x0 x1 (ix5 b e h t j) = ((lg X Tb b e h t j : ℝ) : EReal) := by
  have s : ∑ d : Fin 64, val_main_v25 x0 (ix5 b e h t d) * val_main_v26 x0 (ix5 b e h j d) = ((qk X b e h t j : ℝ) : EReal) := by
    unfold qk
    rw [← sum_coe]
    refine Finset.sum_congr rfl fun d _ => ?_
    rw [q_at, k_at, EReal.coe_mul]
    exact congrArg₂ (· * ·) (hx0 _ _ (by show 1304 ≤ 1304 + 128 * h.val + 64 * e.val + d.val; omega))
      (hx0 _ _ (by show 1304 ≤ 1816 + 128 * h.val + 64 * e.val + d.val; omega))
  rw [logit_at, s, tab_at, hx1 _ ⟨8 + h.val, by omega⟩ (by show 8 ≤ 8 + h.val; omega) (by show 8 + h.val < 12; omega), c18, ← EReal.coe_mul, ← EReal.coe_add]
  rfl

include hx0 hx1 in
/-- A map is the softmax of its logits. -/
theorem map_real : val_main_v82 x0 x1 (ix5 b e h t j)
    = ((ew t.val (lg X Tb b e h t) j / ∑ k, ew t.val (lg X Tb b e h t) k : ℝ) : EReal) := by
  have hs := fun j => seen_at t j (rel_at t j)
  obtain ⟨r, hr, hc⟩ := c30
  have hw : ∀ j, val_main_v70 x0 x1 (ix5 b e h t j) = if j.val ≤ t.val then ((lg X Tb b e h t j : ℝ) : EReal) else ⊥ := fun j => by
    rw [where_at x0 x1 b e h t j (hs j), logit_real x0 x1 X Tb hx0 hx1]
  rw [p_at, hc]
  refine softmax t (lg X Tb b e h t) r hr (val_main_v71 x0 x1 (ix4 b e h t)) ?_ (fun j => val_main_v76 x0 x1 (ix5 b e h t j)) (fun j => ?_) j
  · rw [max_at]
    simp only [hw]
  · show val_main_v76 x0 x1 (ix5 b e h t j) = _
    rw [exp_at x0 x1 b e h t j (hs j)]
    by_cases hj : j.val ≤ t.val
    · rw [if_pos hj, if_pos hj, hw, if_pos hj]
    · rw [if_neg hj, if_neg hj]

include hx0 hx1 hx2 hx3 hx4 hx5 in
/-- The difference of the maps applied to the values. -/
theorem dif_real : val_main_v90 x0 x1 x2 x3 x4 x5 (ix4 b h t c) = ((dif X Tb L b h t c : ℝ) : EReal) := by
  have s : ∀ j, val_main_v89 x0 x1 x2 x3 x4 x5 (ix4 b h t j) * val_main_v27 x0 (ix4 b h j c)
      = (((ew t.val (lg X Tb b 0 h t) j / (∑ k, ew t.val (lg X Tb b 0 h t) k)
          - lam L * (ew t.val (lg X Tb b 1 h t) j / ∑ k, ew t.val (lg X Tb b 1 h t) k)) * W X b h j c : ℝ) : EReal) := fun j => by
    rw [map_at, map_real x0 x1 X Tb hx0 hx1, map_real x0 x1 X Tb hx0 hx1, lam_at,
      lam_eq L (fun d => x2 (ix1 d)) (fun d => x3 (ix1 d)) (fun d => x4 (ix1 d)) (fun d => x5 (ix1 d)) hx2 hx3 hx4 hx5,
      v_at, hx0 ⟨8192 * b.val + j.val, by omega⟩ ⟨2328 + 128 * h.val + c.val, by omega⟩ (by show 1304 ≤ 2328 + 128 * h.val + c.val; omega), EReal.coe_mul, EReal.coe_sub, EReal.coe_mul]
    rfl
  rw [diff_at, Finset.sum_congr rfl (fun j _ => s j), sum_coe]
  congr 1
  unfold dif att
  rw [Finset.sum_div, Finset.sum_div, Finset.mul_sum, ← Finset.sum_sub_distrib]
  refine Finset.sum_congr rfl fun j _ => ?_
  ring

include hx0 hx1 hx2 hx3 hx4 hx5 in
/-- The result of the reference. -/
theorem result_at (r : Fin 16384) (k : Fin 512) : val_main_v109 x0 x1 x2 x3 x4 x5 x6 (ix2 r k)
    = rms (fun c => ((dif X Tb L ⟨r.val / 8192, by omega⟩ ⟨k.val / 128, by omega⟩ ⟨r.val % 8192, by omega⟩ c : ℝ) : EReal))
        (x6 (ix1 ⟨k.val % 128, by omega⟩)) ⟨k.val % 128, by omega⟩ := by
  rw [flat_at, norm_at]
  simp only [dif_real x0 x1 x2 x3 x4 x5 X Tb L hx0 hx1 hx2 hx3 hx4 hx5]

end Cert.ReferenceIdeal.Dif
-- ==== Proof.DiffAlg.lean ====
/- The differential attention: the frames of its programs, what the rewrites of its constants state, and the kernel's array
   is the reference's array. -/
module

public import proofs.«01_k».proof.Defs
public import proofs.«01_k».proof.Proof.DiffRun
public import proofs.«01_k».proof.Proof.DiffRunI
public import proofs.«01_k».proof.Proof.DiffV
public import proofs.«01_k».proof.Proof.DiffRef
public import proofs.«01_k».proof.Proof.Gen.ReferenceIdeal.Run

@[expose] public section

set_option maxRecDepth 16384

noncomputable section

namespace Cert.DiffAlg

open Idealize.ShloMosaic Idealize.ShloMosaic.TcCoe Idealize.SL.Sem

/-- The kernel runs, and its arguments end as they began. -/
theorem frame_k : Cert.quiescent_Kernel := fun m ρ _ => Cert.Kernel.Dif.frame m ρ
/-- The same of its idealization. -/
theorem frame_ki : Cert.quiescent_KernelIdeal := fun m ρ _ => Cert.KernelIdeal.Dif.frame m ρ
/-- The same of the reference. -/
theorem frame_r : Cert.quiescent_ReferenceIdeal := fun m ρ _ =>
  (θ_run _ _ _).mono (fun r h => ⟨fun c => (h c).2, Idealize.ShloMosaic.sem_eq_zero_of_no_sems (by decide) r.2⟩) (Cert.ReferenceIdeal.Value.run (F := Ideal) m ρ)
/-- Each constant named stands, in the kernel, at the value nearest to what it names. -/
theorem preserves : Cert.preserves_Kernel_KernelIdeal :=
  ⟨IdealRules.named_const.statement Cert.KernelIdeal.κ "qscale" .f32 0x3E38AA3B#32 _ rfl,
    IdealRules.named_const.statement Cert.KernelIdeal.κ "mask" .f32 0xF149F2CA#32 _ rfl⟩

/-- The side conditions of the precondition. -/
theorem pre_facts : Cert.Pre_finite.Facts := ⟨by decide, by decide, by decide, by decide, by decide⟩

/-- The frame of the idealization, from finite arguments. -/
theorem frame_ki_pre [Cert.Pre_finite.Facts] : Cert.quiescent_KernelIdeal_pre_finite := fun m ρ _ => Cert.KernelIdeal.Dif.frame m ρ
/-- The frame of the reference, from finite arguments. -/
theorem frame_r_pre [Cert.Pre_finite.Facts] : Cert.quiescent_ReferenceIdeal_pre_finite := fun m ρ _ => frame_r m ρ trivial

/-- What is less than infinity in size is a real. -/
theorem real_of (x : EReal) (h : Ideal.cmp .olt (max x (-x)) (Ideal.ofBits .f32 0x7F800000#32) = 1#1) : x = ((x.toReal : ℝ) : EReal) := by
  have ht : (Ideal.ofBits .f32 0x7F800000#32 : EReal) = ⊤ := by simp [Ideal.ofBits, Ideal.ieee]
  rw [ht] at h
  induction x using EReal.rec with
  | bot => simp [Ideal.cmp] at h
  | coe r => rfl
  | top => simp [Ideal.cmp] at h

/-- The entry of a slice of columns that starts at column `o`. -/
theorem slice_at {R C D : Nat} (o : Nat) (x : Vec Ideal ⟨2, ![R, C]⟩ .f32) (hs : (⟨2, ![R, C]⟩ : Shape).Slices ![0, o] ⟨2, ![R, D]⟩)
    (r : Fin R) (q : Fin D) (k : Fin C) (hk : k.val = o + q.val) :
    (extractStridedSlice ⟨2, ![R, D]⟩ ![0, o] x hs : Vec Ideal ⟨2, ![R, D]⟩ .f32) (ix2 r q) = x (ix2 r k) :=
  congrArg x (funext fun a => match a with
    | ⟨0, _⟩ => Fin.ext (by show 0 + r.val = r.val; omega)
    | ⟨1, _⟩ => Fin.ext (by show o + q.val = k.val; omega))

/-- The arguments are reals where the precondition holds. -/
theorem reals [Cert.Pre_finite.Facts] (m : (ℓ : Loc Cert.KernelIdeal.nD Cert.KernelIdeal.τ Cert.KernelIdeal.sig) → Buf (Elt Ideal) ℓ) (h : Cert.Pre_KernelIdeal_finite m) (c : Dev Cert.KernelIdeal.nD) : Cert.KernelIdeal.Dif.Real m c := by
  obtain ⟨h0, h1, h2, h3, h4, h5⟩ := h c
  refine ⟨fun r k hk => ?_, fun u k hk hk' => ?_, fun d => real_of _ (congrFun h2 (ix1 d)),
    fun d => real_of _ (congrFun h3 (ix1 d)), fun d => real_of _ (congrFun h4 (ix1 d)), fun d => real_of _ (congrFun h5 (ix1 d))⟩
  · have e := slice_at 1304 (Cert.KernelIdeal.Dif.A0 m c) Cert.Pre_finite.Facts.slices_S16384x2840_S16384x1536_0_1304 r ⟨k.val - 1304, by omega⟩ k (by show k.val = 1304 + (k.val - 1304); omega)
    have z := real_of _ (congrFun h0 (ix2 r ⟨k.val - 1304, by omega⟩))
    exact e.symm.trans (z.trans (congrArg (fun y : EReal => ((y.toReal : ℝ) : EReal)) e))
  · have e := slice_at 8 (Cert.KernelIdeal.Dif.A1 m c) Cert.Pre_finite.Facts.slices_S32x16_S32x4_0_8 u ⟨k.val - 8, by omega⟩ k (by show k.val = 8 + (k.val - 8); omega)
    have z := real_of _ (congrFun h1 (ix2 u ⟨k.val - 8, by omega⟩))
    exact e.symm.trans (z.trans (congrArg (fun y : EReal => ((y.toReal : ℝ) : EReal)) e))

/-- The two memories hold the same arguments on device `c`. -/
abbrev Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- From memories that agree on the arguments the result of the reference is the array the kernel leaves. -/
theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hR : Cert.KernelIdeal.Dif.Real m c) (h : Same m m' c) :
    (Cert.ReferenceIdeal.Read.val_main_v109 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) : Vec Ideal Cert.KernelIdeal.S16384x512 .bf16) = Cert.KernelIdeal.Dif.G6 m c := by
  obtain ⟨h0, h1, h2, h3, h4, h5, h6⟩ := h
  rw [h0, h1, h2, h3, h4, h5, h6]
  funext i
  idx_vars i
  exact Cert.ReferenceIdeal.Dif.result_at _ _ _ _ _ _ _ _ _ _ hR.h0 hR.h1 hR.h2 hR.h3 hR.h4 hR.h5 _ _

/-- The two programs leave equal results and unchanged arguments, from finite arguments. -/
theorem algebraic [Cert.Pre_finite.Facts] : Cert.algebraic_KernelIdeal_ReferenceIdeal_pre_finite := fun m ρ m' ρ' hpre hag =>
  ⟨fun c => Cert.KernelIdeal.Dif.G6 m c, Cert.KernelIdeal.Dif.run m ρ (reals m hpre),
    (θ_run _ _ _).mono (fun r h c => by
      obtain ⟨h0, ha⟩ := h c
      exact ⟨h0.trans ((Cert.ReferenceIdeal.Read.val_main_v109_eq (F := Ideal) _).trans (result m m' c (reals m hpre c) (hag c))), ha⟩)
      (Cert.ReferenceIdeal.Value.run m' ρ')⟩

end Cert.DiffAlg
-- ==== Proof.PostSpec.lean ====
/- One row of the block that closes a layer, over the extended reals: the output projection added to the residual
   stream, a root-mean-square normalization, the squared-ReLU multilayer perceptron added to it, and the sum of the
   4096 hidden units taken in four blocks of 1024. -/
module

public import Idealize.ShloMosaic.Lib.Pointwise
public import Idealize.ShloMosaic.Lib.Tactic

@[expose] public section

noncomputable section

namespace Cert.Post

open Idealize.ShloMosaic

/-- Hidden unit `k` of block `f`. -/
def unit (f : Fin 4) (k : Fin 1024) : Fin 4096 := ⟨1024 * f.val + k.val, by have := f.isLt; have := k.isLt; omega⟩
/-- Column `k` of the first half of 1024. -/
def lo (k : Fin 512) : Fin 1024 := ⟨k.val, by have := k.isLt; omega⟩
/-- Column `k` of the second half of 1024. -/
def hi (k : Fin 512) : Fin 1024 := ⟨512 + k.val, by have := k.isLt; omega⟩
/-- Row `r` of the block of 1024 rows that grid point `t` (of 16 × 4) works on. -/
def row (t : ℕ) (ht : t < 64) (r : Fin 1024) : Fin 16384 := ⟨1024 * (t / 4) + r.val, by have := r.isLt; omega⟩

/-- The residual row after the output projection. -/
def mid (x o : Fin 1024 → EReal) (wo : Fin 1024 → Fin 1024 → EReal) (j : Fin 1024) : EReal :=
  x j + ∑ k, o k * wo k j
/-- A row divided by the root of the mean of its squares, times the gain. -/
def norm (y g : Fin 1024 → EReal) (j : Fin 1024) : EReal :=
  y j * Ideal.rsqrt (Ideal.div (∑ k, y k * y k) (Ideal.ofBits FTy.f32 1149239296#32) + Ideal.ofBits FTy.f32 897988541#32) * g j
/-- Hidden unit `k`: the square of the rectified product. -/
def hid (n : Fin 1024 → EReal) (w1 : Fin 1024 → Fin 4096 → EReal) (k : Fin 4096) : EReal :=
  max (∑ i, n i * w1 i k) 0 * max (∑ i, n i * w1 i k) 0
/-- The residual row after the perceptron. -/
def out (y g : Fin 1024 → EReal) (w1 : Fin 1024 → Fin 4096 → EReal) (w2 : Fin 4096 → Fin 1024 → EReal) (j : Fin 1024) : EReal :=
  y j + ∑ k, hid (norm y g) w1 k * w2 k j

/-- A sum over 1024 columns is the sum over its two halves. -/
theorem sum_halves (f : Fin 1024 → EReal) : ∑ k, f k = ∑ k, f (lo k) + ∑ k, f (hi k) :=
  Fin.sum_univ_two_halves 512 512 rfl f

/-- A sum over the 4096 hidden units is the sum over its four blocks. -/
theorem sum_units (f : Fin 4096 → EReal) :
    ∑ k, f k = ∑ k, f (unit 0 k) + (∑ k, f (unit 1 k) + (∑ k, f (unit 2 k) + ∑ k, f (unit 3 k))) := by
  rw [Fin.sum_univ_two_halves 1024 3072 rfl f, Fin.sum_univ_two_halves 1024 2048 rfl, Fin.sum_univ_two_halves 1024 1024 rfl]
  rfl

end Cert.Post
-- ==== Proof.Post2.lean ====
/- The values of the final layer-closing block as the kernel computes them: grid point `t` works on the
   1024 rows of block `t / 4` and on the hidden units of block `t % 4`; the residual row and its normalization are formed at
   the first of the four points, each point adds its share of the perceptron, the last writes the rows out. -/
module

public import proofs.«01_k».proof.Proof.Gen.Kernel2Ideal.Value
public import proofs.«01_k».proof.Proof.PostSpec

@[expose] public section

set_option maxRecDepth 16384

noncomputable section

namespace Cert.Kernel2Ideal.Post

open Cert.Kernel2Ideal Cert.Kernel2Ideal.Gen Idealize.ShloMosaic Idealize.ShloMosaic.TcCoe Idealize.SL.Sem
open Cert.Post (unit lo hi row mid norm hid)

section Cases
variable {F : FTy → Type} [FloatOps F] (m : (ℓ : Loc nD τ sig) → Buf (Elt F) ℓ) (c : Dev nD)

theorem hz : (![0, 0] : Fin 2 → Nat) = fun _ => 0 := by
  funext a
  match a with
  | 0 => rfl
  | 1 => rfl

/-- The normalized rows formed from point `t`'s blocks. -/
def xnAt (t : Fin cfg0.N) : Vec F S1024x1024 .bf16 :=
  k0_pay3 (iblk m c 0 t) (iblk m c 1 t) (iblk m c 3 t) (iblk m c 2 t) (iblk m c 4 t) (iblk m c 5 t)
/-- The residual rows formed from point `t`'s blocks. -/
def midAt (t : Fin cfg0.N) : Vec F S1024x1024 .f32 :=
  k0_pay2 (iblk m c 0 t) (iblk m c 1 t) (iblk m c 3 t) (iblk m c 2 t) (iblk m c 4 t)

/-- At the first of a block's four points the normalized rows are stored. -/
theorem xn_A (t : Fin cfg0.N) (h0 : t.val % 4 = 0) (h1 : ¬t.val % 4 = 3) :
    (outsAt0 m c t.val t.isLt).2.2 = xnAt m c t := by
  rw [outsAt0_A m c t h0 h1]
  unfold sout0_A_1
  dsimp only
  rw [View.read_writes_eq_canon _ _ _ (fun y => scover0_A_1 (y := y) ..)]
  unfold kernelRun0_A
  dsimp only
  sl_unfold_words
  refine (View.canon_unit_zero hz _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  rfl
/-- At the first of a block's four points the residual rows and the first share of the perceptron are stored. -/
theorem acc_A (t : Fin cfg0.N) (h0 : t.val % 4 = 0) (h1 : ¬t.val % 4 = 3) :
    (outsAt0 m c t.val t.isLt).2.1 = k0_pay4 (xnAt m c t) (iblk m c 6 t) (midAt m c t) (iblk m c 7 t) := by
  rw [outsAt0_A m c t h0 h1]
  unfold sout0_A_0
  dsimp only
  rw [View.read_writes_eq_canon _ _ _ (fun y => scover0_A_0 (y := y) ..)]
  unfold kernelRun0_A
  dsimp only
  sl_unfold_words
  refine (View.canon_cons_unit_zero hz _ _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  rw [View.readCov_unit_zero _ hz, View.readCov_unit_zero _ hz]
  rfl
/-- A later point keeps the normalized rows. -/
theorem xn_B (t : Fin cfg0.N) (h0 : ¬t.val % 4 = 0) (h1 : ¬t.val % 4 = 3) :
    (outsAt0 m c t.val t.isLt).2.2 = (outsAt0 m c (t.val - 1) (Nat.lt_of_le_of_lt (Nat.sub_le _ _) t.isLt)).2.2 := by
  rw [outsAt0_B m c t h0 h1]
  rfl

/-- A later point adds its share of the perceptron. -/
theorem acc_B (t : Fin cfg0.N) (h0 : ¬t.val % 4 = 0) (h1 : ¬t.val % 4 = 3) :
    (outsAt0 m c t.val t.isLt).2.1 = k0_pay4 (outsAt0 m c (t.val - 1) (Nat.lt_of_le_of_lt (Nat.sub_le _ _) t.isLt)).2.2 (iblk m c 6 t) (outsAt0 m c (t.val - 1) (Nat.lt_of_le_of_lt (Nat.sub_le _ _) t.isLt)).2.1 (iblk m c 7 t) := by
  rw [outsAt0_B m c t h0 h1]
  unfold sout0_B_0
  dsimp only
  rw [View.read_writes_eq_canon _ _ _ (fun y => scover0_B_0 (y := y) ..)]
  unfold kernelRun0_B
  dsimp only
  sl_unfold_words
  refine (View.canon_unit_zero hz _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  exact congrArg₂ (fun a b => k0_pay4 a (iblk m c 6 t) b (iblk m c 7 t)) ((Memref.isWhole_whole cc0_scratch1).read_unread _) ((Memref.isWhole_whole cc0_scratch0).read_unread _)
/-- A later point keeps the normalized rows. -/
theorem xn_C (t : Fin cfg0.N) (h0 : ¬t.val % 4 = 0) (h1 : t.val % 4 = 3) :
    (outsAt0 m c t.val t.isLt).2.2 = (outsAt0 m c (t.val - 1) (Nat.lt_of_le_of_lt (Nat.sub_le _ _) t.isLt)).2.2 := by
  rw [outsAt0_C m c t h0 h1]
  rfl

/-- A later point adds its share of the perceptron. -/
theorem acc_C (t : Fin cfg0.N) (h0 : ¬t.val % 4 = 0) (h1 : t.val % 4 = 3) :
    (outsAt0 m c t.val t.isLt).2.1 = k0_pay4 (outsAt0 m c (t.val - 1) (Nat.lt_of_le_of_lt (Nat.sub_le _ _) t.isLt)).2.2 (iblk m c 6 t) (outsAt0 m c (t.val - 1) (Nat.lt_of_le_of_lt (Nat.sub_le _ _) t.isLt)).2.1 (iblk m c 7 t) := by
  rw [outsAt0_C m c t h0 h1]
  unfold sout0_C_0
  dsimp only
  rw [View.read_writes_eq_canon _ _ _ (fun y => scover0_C_0 (y := y) ..)]
  unfold kernelRun0_C
  dsimp only
  sl_unfold_words
  refine (View.canon_unit_zero hz _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  exact congrArg₂ (fun a b => k0_pay4 a (iblk m c 6 t) b (iblk m c 7 t)) ((Memref.isWhole_whole cc0_scratch1).read_unread _) ((Memref.isWhole_whole cc0_scratch0).read_unread _)
/-- The last point writes the rows out. -/
theorem out_C (t : Fin cfg0.N) (h0 : ¬t.val % 4 = 0) (h1 : t.val % 4 = 3) :
    (outsAt0 m c t.val t.isLt).1 = k0_pay5 (k0_pay4 (outsAt0 m c (t.val - 1) (Nat.lt_of_le_of_lt (Nat.sub_le _ _) t.isLt)).2.2 (iblk m c 6 t) (outsAt0 m c (t.val - 1) (Nat.lt_of_le_of_lt (Nat.sub_le _ _) t.isLt)).2.1 (iblk m c 7 t)) (iblk m c 8 t) := by
  rw [outsAt0_C m c t h0 h1]
  unfold out0_C_9
  dsimp only
  rw [View.read_writes_eq_canon _ _ _ (fun y => cover0_C_9 (y := y) ..)]
  unfold kernelRun0_C
  dsimp only
  sl_unfold_words
  refine (View.canon_unit_zero hz _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  rw [View.readCov_unit_zero _ hz]
  exact congrArg₂ (fun a b => k0_pay5 (k0_pay4 a (iblk m c 6 t) b (iblk m c 7 t)) (iblk m c 8 t)) ((Memref.isWhole_whole cc0_scratch1).read_unread _) ((Memref.isWhole_whole cc0_scratch0).read_unread _)
end Cases

section AtIdeal
variable (m : (ℓ : Loc nD τ sig) → Buf (Elt Ideal) ℓ) (c : Dev nD)

/-- The argument arrays of device `c`. -/
abbrev X : Fin 16384 → Fin 1024 → EReal := fun r j => m ((c : Thread nD τ).loc main_arg0) (ix2 r j)
abbrev O : Fin 16384 → Fin 1024 → EReal := fun r j => m ((c : Thread nD τ).loc main_arg1) (ix2 r j)
abbrev WO : Fin 1024 → Fin 1024 → EReal := fun k j => m ((c : Thread nD τ).loc main_arg2) (ix3 0 k j)
abbrev G : Fin 1024 → EReal := fun j => m ((c : Thread nD τ).loc main_arg3) (ix2 1 j)
abbrev W1 : Fin 1024 → Fin 4096 → EReal := fun k j => m ((c : Thread nD τ).loc main_arg4) (ix3 1 k j)
abbrev W2 : Fin 4096 → Fin 1024 → EReal := fun k j => m ((c : Thread nD τ).loc main_arg5) (ix3 1 k j)
abbrev GF : Fin 1024 → EReal := fun j => m ((c : Thread nD τ).loc main_arg6) (ix1 j)

/-! What the host prepares. -/
theorem V_wo_lo (k : Fin 512) (j : Fin 1024) : (V m c main_v2 : Vec Ideal S512x1024 .bf16) (ix2 k j) = WO m c (lo k) j := by
  show (StableHlo.after hostOps0 (fun b => m (c, b)) (Proc.devRef .tc main_v2) : Vec Ideal S512x1024 .bf16) _ = _
  after_results_simp
  pointwise [] <;> rfl

theorem V_wo_hi (k : Fin 512) (j : Fin 1024) : (V m c main_v3 : Vec Ideal S512x1024 .bf16) (ix2 k j) = WO m c (hi k) j := by
  show (StableHlo.after hostOps0 (fun b => m (c, b)) (Proc.devRef .tc main_v3) : Vec Ideal S512x1024 .bf16) _ = _
  after_results_simp
  pointwise [] <;> rfl

theorem V_w1 (k : Fin 1024) (j : Fin 4096) : (V m c main_v8 : Vec Ideal S1024x4096 .bf16) (ix2 k j) = W1 m c k j := by
  show (StableHlo.after hostOps0 (fun b => m (c, b)) (Proc.devRef .tc main_v8) : Vec Ideal S1024x4096 .bf16) _ = _
  after_results_simp
  pointwise [] <;> rfl

theorem V_w2 (k : Fin 4096) (j : Fin 1024) : (V m c main_v11 : Vec Ideal S4096x1024 .bf16) (ix2 k j) = W2 m c k j := by
  show (StableHlo.after hostOps0 (fun b => m (c, b)) (Proc.devRef .tc main_v11) : Vec Ideal S4096x1024 .bf16) _ = _
  after_results_simp
  pointwise [] <;> rfl

theorem V_g (j : Fin 1024) : (V m c main_v12 : Vec Ideal S1x1024 .f32) (ix2 0 j) = G m c j := by
  show (StableHlo.after hostOps0 (fun b => m (c, b)) (Proc.devRef .tc main_v12) : Vec Ideal S1x1024 .f32) _ = _
  after_results_simp
  pointwise [] <;> rfl

theorem V_gf (j : Fin 1024) : (V m c main_v13 : Vec Ideal S1x1024 .f32) (ix2 0 j) = GF m c j := by
  show (StableHlo.after hostOps0 (fun b => m (c, b)) (Proc.devRef .tc main_v13) : Vec Ideal S1x1024 .f32) _ = _
  after_results_simp
  pointwise [] <;> rfl

/-- The printed index maps, decided over the grid. -/
theorem idx_facts : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 1)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = t.val % 4)
    ∧ (win0_7.index t (0 : Fin 2) = t.val % 4 ∧ win0_7.index t (1 : Fin 2) = 0)
    ∧ (win0_8.index t (0 : Fin 2) = 0 ∧ win0_8.index t (1 : Fin 2) = 0) := by
  decide +kernel

theorem lt64 (t : Fin cfg0.N) : t.val < 64 := lt_of_lt_of_eq t.isLt N_0

/-- The block of hidden units of point `t`. -/
def fb (t : ℕ) : Fin 4 := ⟨t % 4, Nat.mod_lt _ (by decide)⟩

/-! Each window's block, read from the argument arrays. -/
theorem blk0 (t : Fin cfg0.N) (r j : Fin 1024) : (iblk m c 0 t : Vec Ideal S1024x1024 .f32) (ix2 r j) = X m c (row t.val (lt64 t) r) j := by
  obtain ⟨e0, e1⟩ := (idx_facts t).1
  refine Eq.trans (congrArg (V m c main_arg0) (a₂ := (ix2 (row t.val (lt64 t) r) j : S16384x1024.Idx)) ?_) (congrFun (V_main_arg0 m c) _)
  funext a
  refine Fin.ext ?_
  match a with
  | ⟨0, _⟩ => show win0_0.index t (0 : Fin 2) * 1024 + 1 * r.val = _; rw [e0]; show _ = 1024 * (t.val / 4) + r.val; omega
  | ⟨1, _⟩ => show win0_0.index t (1 : Fin 2) * 1024 + 1 * j.val = _; rw [e1]; show _ = j.val; omega

theorem blk1 (t : Fin cfg0.N) (r : Fin 1024) (k : Fin 512) : (iblk m c 1 t : Vec Ideal S1024x512 .bf16) (ix2 r k) = O m c (row t.val (lt64 t) r) (lo k) := by
  obtain ⟨e0, e1⟩ := (idx_facts t).2.1
  refine Eq.trans (congrArg (V m c main_arg1) (a₂ := (ix2 (row t.val (lt64 t) r) (lo k) : S16384x1024.Idx)) ?_) (congrFun (V_main_arg1 m c) _)
  funext a
  refine Fin.ext ?_
  match a with
  | ⟨0, _⟩ => show win0_1.index t (0 : Fin 2) * 1024 + 1 * r.val = _; rw [e0]; show _ = 1024 * (t.val / 4) + r.val; omega
  | ⟨1, _⟩ => show win0_1.index t (1 : Fin 2) * 512 + 1 * k.val = _; rw [e1]; show _ = k.val; omega

theorem blk2 (t : Fin cfg0.N) (r : Fin 1024) (k : Fin 512) : (iblk m c 2 t : Vec Ideal S1024x512 .bf16) (ix2 r k) = O m c (row t.val (lt64 t) r) (hi k) := by
  obtain ⟨e0, e1⟩ := (idx_facts t).2.2.1
  refine Eq.trans (congrArg (V m c main_arg1) (a₂ := (ix2 (row t.val (lt64 t) r) (hi k) : S16384x1024.Idx)) ?_) (congrFun (V_main_arg1 m c) _)
  funext a
  refine Fin.ext ?_
  match a with
  | ⟨0, _⟩ => show win0_2.index t (0 : Fin 2) * 1024 + 1 * r.val = _; rw [e0]; show _ = 1024 * (t.val / 4) + r.val; omega
  | ⟨1, _⟩ => show win0_2.index t (1 : Fin 2) * 512 + 1 * k.val = _; rw [e1]; show _ = 512 + k.val; omega

theorem blk3 (t : Fin cfg0.N) (k : Fin 512) (j : Fin 1024) : (iblk m c 3 t : Vec Ideal S512x1024 .bf16) (ix2 k j) = WO m c (lo k) j := by
  obtain ⟨e0, e1⟩ := (idx_facts t).2.2.2.1
  refine Eq.trans (congrArg (V m c main_v2) (a₂ := (ix2 k j : S512x1024.Idx)) ?_) (V_wo_lo m c k j)
  funext a
  refine Fin.ext ?_
  match a with
  | ⟨0, _⟩ => show win0_3.index t (0 : Fin 2) * 512 + 1 * k.val = _; rw [e0]; show _ = k.val; omega
  | ⟨1, _⟩ => show win0_3.index t (1 : Fin 2) * 1024 + 1 * j.val = _; rw [e1]; show _ = j.val; omega

theorem blk4 (t : Fin cfg0.N) (k : Fin 512) (j : Fin 1024) : (iblk m c 4 t : Vec Ideal S512x1024 .bf16) (ix2 k j) = WO m c (hi k) j := by
  obtain ⟨e0, e1⟩ := (idx_facts t).2.2.2.2.1
  refine Eq.trans (congrArg (V m c main_v3) (a₂ := (ix2 k j : S512x1024.Idx)) ?_) (V_wo_hi m c k j)
  funext a
  refine Fin.ext ?_
  match a with
  | ⟨0, _⟩ => show win0_4.index t (0 : Fin 2) * 512 + 1 * k.val = _; rw [e0]; show _ = k.val; omega
  | ⟨1, _⟩ => show win0_4.index t (1 : Fin 2) * 1024 + 1 * j.val = _; rw [e1]; show _ = j.val; omega

theorem blk5 (t : Fin cfg0.N) (j : Fin 1024) : (iblk m c 5 t : Vec Ideal S1x1024 .f32) (ix2 0 j) = G m c j := by
  obtain ⟨e0, e1⟩ := (idx_facts t).2.2.2.2.2.1
  refine Eq.trans (congrArg (V m c main_v12) (a₂ := (ix2 0 j : S1x1024.Idx)) ?_) (V_g m c j)
  funext a
  refine Fin.ext ?_
  match a with
  | ⟨0, _⟩ => show win0_5.index t (0 : Fin 2) * 1 + 1 * 0 = _; rw [e0]; rfl
  | ⟨1, _⟩ => show win0_5.index t (1 : Fin 2) * 1024 + 1 * j.val = _; rw [e1]; show _ = j.val; omega

theorem blk8 (t : Fin cfg0.N) (j : Fin 1024) : (iblk m c 8 t : Vec Ideal S1x1024 .f32) (ix2 0 j) = GF m c j := by
  obtain ⟨e0, e1⟩ := (idx_facts t).2.2.2.2.2.2.2.2
  refine Eq.trans (congrArg (V m c main_v13) (a₂ := (ix2 0 j : S1x1024.Idx)) ?_) (V_gf m c j)
  funext a
  refine Fin.ext ?_
  match a with
  | ⟨0, _⟩ => show win0_8.index t (0 : Fin 2) * 1 + 1 * 0 = _; rw [e0]; rfl
  | ⟨1, _⟩ => show win0_8.index t (1 : Fin 2) * 1024 + 1 * j.val = _; rw [e1]; show _ = j.val; omega

theorem blk6 (t : Fin cfg0.N) (i k : Fin 1024) : (iblk m c 6 t : Vec Ideal S1024x1024 .bf16) (ix2 i k) = W1 m c i (unit (fb t.val) k) := by
  obtain ⟨e0, e1⟩ := (idx_facts t).2.2.2.2.2.2.1
  refine Eq.trans (congrArg (V m c main_v8) (a₂ := (ix2 i (unit (fb t.val) k) : S1024x4096.Idx)) ?_) (V_w1 m c i _)
  funext a
  refine Fin.ext ?_
  match a with
  | ⟨0, _⟩ => show win0_6.index t (0 : Fin 2) * 1024 + 1 * i.val = _; rw [e0]; show _ = i.val; omega
  | ⟨1, _⟩ => show win0_6.index t (1 : Fin 2) * 1024 + 1 * k.val = _; rw [e1]; show _ = 1024 * (t.val % 4) + k.val; omega

theorem blk7 (t : Fin cfg0.N) (k j : Fin 1024) : (iblk m c 7 t : Vec Ideal S1024x1024 .bf16) (ix2 k j) = W2 m c (unit (fb t.val) k) j := by
  obtain ⟨e0, e1⟩ := (idx_facts t).2.2.2.2.2.2.2.1
  refine Eq.trans (congrArg (V m c main_v11) (a₂ := (ix2 (unit (fb t.val) k) j : S4096x1024.Idx)) ?_) (V_w2 m c _ j)
  funext a
  refine Fin.ext ?_
  match a with
  | ⟨0, _⟩ => show win0_7.index t (0 : Fin 2) * 1024 + 1 * k.val = _; rw [e0]; show _ = 1024 * (t.val % 4) + k.val; omega
  | ⟨1, _⟩ => show win0_7.index t (1 : Fin 2) * 1024 + 1 * j.val = _; rw [e1]; show _ = j.val; omega

/-- The residual row `q`. -/
abbrev M (q : Fin 16384) : Fin 1024 → EReal := mid (X m c q) (O m c q) (WO m c)
/-- Block `f`'s share of the perceptron on row `q`. -/
def share (q : Fin 16384) (f : Fin 4) (j : Fin 1024) : EReal :=
  ∑ k : Fin 1024, hid (norm (M m c q) (G m c)) (W1 m c) (unit f k) * W2 m c (unit f k) j

/-- The residual rows at an index. -/
theorem pay1_apply (t : Fin cfg0.N) (r j : Fin 1024) :
    (k0_pay1 (iblk m c 0 t) (iblk m c 1 t) (iblk m c 3 t) (iblk m c 2 t) (iblk m c 4 t) : Vec Ideal S1024x1024 .f32) (ix2 r j)
      = M m c (row t.val (lt64 t) r) j := by
  pointwise [k0_pay1]
  rw [blk0]
  simp only [blk1, blk2, blk3, blk4]
  rw [add_assoc]
  exact congrArg (X m c (row t.val (lt64 t) r) j + ·) (Cert.Post.sum_halves fun k => O m c (row t.val (lt64 t) r) k * WO m c k j).symm

theorem midAt_apply (t : Fin cfg0.N) (r j : Fin 1024) : midAt m c t (ix2 r j) = M m c (row t.val (lt64 t) r) j := by
  unfold midAt
  pointwise [k0_pay2]
  exact pay1_apply m c t r j

theorem xnAt_apply (t : Fin cfg0.N) (r j : Fin 1024) :
    xnAt m c t (ix2 r j) = norm (M m c (row t.val (lt64 t) r)) (G m c) j := by
  unfold xnAt
  pointwise [k0_pay3]
  simp only [pay1_apply, blk5]
  rfl

/-- A point's step on a row: its share of the perceptron is added. -/
theorem step_apply (t : Fin cfg0.N) (n : Vec Ideal S1024x1024 .bf16) (a : Vec Ideal S1024x1024 .f32) (r j : Fin 1024)
    (hn : ∀ i, n (ix2 r i) = norm (M m c (row t.val (lt64 t) r)) (G m c) i) :
    (k0_pay4 n (iblk m c 6 t) a (iblk m c 7 t) : Vec Ideal S1024x1024 .f32) (ix2 r j)
      = a (ix2 r j) + share m c (row t.val (lt64 t) r) (fb t.val) j := by
  pointwise [k0_pay4]
  simp only [hn, blk6, blk7]
  rfl

/-- The accumulator after `f + 1` blocks of hidden units. -/
def accRow (q : Fin 16384) (j : Fin 1024) : ℕ → EReal
  | 0 => M m c q j + share m c q (fb 0) j
  | f + 1 => accRow q j f + share m c q (fb (f + 1)) j

/-- Over a block of rows: the normalized rows stay, and the accumulator holds the shares so far. -/
theorem sweep (I : ℕ) (hI : I < 16) (r : Fin 1024) : ∀ (f : ℕ) (hf : f < 4) (ht : 4 * I + f < cfg0.N),
    (∀ j, (outsAt0 m c (4 * I + f) ht).2.2 (ix2 r j) = norm (M m c (row (4 * I) (by omega) r)) (G m c) j)
    ∧ ∀ j, (outsAt0 m c (4 * I + f) ht).2.1 (ix2 r j) = accRow m c (row (4 * I) (by omega) r) j f := by
  intro f
  induction f with
  | zero =>
    intro _ ht
    have h0 : (4 * I) % 4 = 0 := by omega
    have h1 : ¬(4 * I) % 4 = 3 := by omega
    have e0 : fb (4 * I) = fb 0 := Fin.ext (by show (4 * I) % 4 = 0; omega)
    refine ⟨fun j => ?_, fun j => ?_⟩
    · exact (congrFun (xn_A m c ⟨4 * I, ht⟩ h0 h1) _).trans (xnAt_apply m c ⟨4 * I, ht⟩ r j)
    · refine (congrFun (acc_A m c ⟨4 * I, ht⟩ h0 h1) _).trans ?_
      rw [step_apply m c _ _ _ r j (fun i => xnAt_apply m c ⟨4 * I, ht⟩ r i), midAt_apply]
      show _ + share m c _ (fb (4 * I)) j = _ + share m c _ (fb 0) j
      rw [e0]
  | succ f ih =>
    intro hf ht
    have hlt : 4 * I + f < cfg0.N := Nat.lt_of_succ_lt ht
    obtain ⟨ihn, iha⟩ := ih (by omega) hlt
    have h0 : ¬(4 * I + (f + 1)) % 4 = 0 := by omega
    have hrow : ∀ h h', row (4 * I + (f + 1)) h r = row (4 * I) h' r := fun h h' =>
      Fin.ext (by show 1024 * ((4 * I + (f + 1)) / 4) + r.val = 1024 * ((4 * I) / 4) + r.val; rw [show (4 * I + (f + 1)) / 4 = (4 * I) / 4 by omega])
    have e0 : fb (4 * I + (f + 1)) = fb (f + 1) := Fin.ext (by show (4 * I + (f + 1)) % 4 = (f + 1) % 4; omega)
    have hxn : (outsAt0 m c (4 * I + (f + 1)) ht).2.2 = (outsAt0 m c (4 * I + f) hlt).2.2 := by
      by_cases h1 : (4 * I + (f + 1)) % 4 = 3
      · exact xn_C m c ⟨4 * I + (f + 1), ht⟩ h0 h1
      · exact xn_B m c ⟨4 * I + (f + 1), ht⟩ h0 h1
    have hac : (outsAt0 m c (4 * I + (f + 1)) ht).2.1 = k0_pay4 (outsAt0 m c (4 * I + f) hlt).2.2
        (iblk m c 6 ⟨4 * I + (f + 1), ht⟩) (outsAt0 m c (4 * I + f) hlt).2.1 (iblk m c 7 ⟨4 * I + (f + 1), ht⟩) := by
      by_cases h1 : (4 * I + (f + 1)) % 4 = 3
      · exact acc_C m c ⟨4 * I + (f + 1), ht⟩ h0 h1
      · exact acc_B m c ⟨4 * I + (f + 1), ht⟩ h0 h1
    refine ⟨fun j => by rw [hxn]; exact ihn j, fun j => ?_⟩
    rw [hac, step_apply m c _ _ _ r j (fun i => by rw [ihn i]; exact congrArg (fun q => norm (M m c q) (G m c) i) (hrow _ _).symm), iha j]
    show _ + share m c (row (4 * I + (f + 1)) _ r) (fb (4 * I + (f + 1))) j = _ + share m c _ (fb (f + 1)) j
    rw [e0, hrow]

/-- After the four points the accumulator is the residual row with the whole perceptron added. -/
theorem accRow_three (q : Fin 16384) (j : Fin 1024) :
    accRow m c q j 3 = Cert.Post.out (M m c q) (G m c) (W1 m c) (W2 m c) j := by
  show ((M m c q j + share m c q (fb 0) j + share m c q (fb 1) j) + share m c q (fb 2) j) + share m c q (fb 3) j = _
  unfold Cert.Post.out
  rw [Cert.Post.sum_units, add_assoc, add_assoc, add_assoc, ← add_assoc (share m c q (fb 1) j)]
  rw [add_assoc (share m c q (fb 1) j)]
  rfl

/-- The result row `q` of the kernel. -/
theorem result (q : Fin 16384) (j : Fin 1024) : (Value.G9 m c : Vec Ideal S16384x1024 .f32) (ix2 q j) = norm (Cert.Post.out (M m c q) (G m c) (W1 m c) (W2 m c)) (GF m c) j := by
  have hq := q.isLt
  have hj := j.isLt
  have hp : Value.pt9Of (ix2 q j) = 4 * (q.val / 1024) + 3 := by
    show 4 * (1 * (q.val / 1024 - 0) + 1 * (j.val / 1024 - 0)) + 3 = _
    omega
  have hN : 4 * (q.val / 1024) + 3 < cfg0.N := by rw [show cfg0.N = 64 from N_0]; omega
  have hr : q.val % 1024 < 1024 := Nat.mod_lt _ (by decide)
  have hl : Value.loc9Of (ix2 q j) = ix2 ⟨q.val % 1024, hr⟩ j := by
    funext a
    refine Fin.ext ?_
    match a with
    | ⟨0, _⟩ => rfl
    | ⟨1, _⟩ => exact Nat.mod_eq_of_lt hj
  unfold Value.G9
  rw [dif_pos (by rw [hp]; exact hN), Value.fold0_congr m c _ _ _ (by rw [Nat.zero_add]; exact hN) hp, hl,
    ← Value.outsAt0_sweep m c _ hN]
  have h0 : ¬(4 * (q.val / 1024) + 3) % 4 = 0 := by omega
  have h1 : (4 * (q.val / 1024) + 3) % 4 = 3 := by omega
  have hrow : ∀ h, row (4 * (q.val / 1024)) h ⟨q.val % 1024, hr⟩ = q := fun h =>
    Fin.ext (by show 1024 * (4 * (q.val / 1024) / 4) + q.val % 1024 = q.val; omega)
  have hs : ∀ j', (outsAt0 m c (4 * (q.val / 1024) + 3) hN).2.1 (ix2 ⟨q.val % 1024, hr⟩ j')
      = Cert.Post.out (M m c q) (G m c) (W1 m c) (W2 m c) j' := fun j' => by
    rw [(sweep m c (q.val / 1024) (by omega) ⟨q.val % 1024, hr⟩ 3 (by decide) hN).2 j', accRow_three, hrow]
  rw [acc_C m c ⟨4 * (q.val / 1024) + 3, hN⟩ h0 h1] at hs
  refine (congrFun (out_C m c ⟨4 * (q.val / 1024) + 3, hN⟩ h0 h1) _).trans ?_
  pointwise [k0_pay5]
  simp only [hs, blk8]
  rfl

end AtIdeal

end Cert.Kernel2Ideal.Post
-- ==== Proof.PostRef2.lean ====
/- The reference's rows: each operation of its program read at an index. -/
module

public import proofs.«01_k».proof.Proof.Gen.Reference2Ideal.Read
public import proofs.«01_k».proof.Proof.PostSpec

@[expose] public section

set_option maxRecDepth 16384

noncomputable section

namespace Cert.Reference2Ideal.Post

open Cert.Reference2Ideal Cert.Reference2Ideal.Gen Cert.Reference2Ideal.Read Idealize.ShloMosaic Idealize.ShloMosaic.TcCoe Idealize.SL.Sem
open Cert.Post (unit lo hi row mid norm hid)

variable (x0 : Vec Ideal S16384x1024 .f32) (x1 : Vec Ideal S16384x1024 .bf16) (x2 : Vec Ideal S1x1024x1024 .f32) (x3 : Vec Ideal S2x1024 .f32) (x4 : Vec Ideal S2x1024x4096 .f32) (x5 : Vec Ideal S2x4096x1024 .f32) (x6 : Vec Ideal S1024 .f32)

/-- The residual row `q`. -/
abbrev M (q : Fin 16384) : Fin 1024 → EReal := mid (fun j => x0 (ix2 q j)) (fun j => x1 (ix2 q j)) (fun k j => x2 (ix3 0 k j))

theorem mid_apply (q : Fin 16384) (j : Fin 1024) : val_main_v3 x0 x1 x2 (ix2 q j) = M x0 x1 x2 q j := by
  unfold val_main_v3 val_main_v2 val_main_v1 val_main_v0
  pointwise []
  rfl

theorem norm_apply (q : Fin 16384) (j : Fin 1024) :
    val_main_v18 x0 x1 x2 x3 (ix2 q j) = norm (M x0 x1 x2 q) (fun j => x3 (ix2 1 j)) j := by
  unfold val_main_v18 val_main_v17 val_main_v16 val_main_v15 val_main_v14 val_main_v13 val_main_v12 val_main_v11 val_main_v10 val_main_v9 val_main_v8 val_main_v7 val_main_v6 val_main_v5 val_main_v4 val_main_cst val_main_cst_0 val_main_cst_1
  pointwise []
  simp only [mid_apply]
  rfl

theorem hid_apply (q : Fin 16384) (k : Fin 4096) :
    val_main_v25 x0 x1 x2 x3 x4 (ix2 q k) = hid (norm (M x0 x1 x2 q) (fun j => x3 (ix2 1 j))) (fun k j => x4 (ix3 1 k j)) k := by
  unfold val_main_v25 val_main_v24 val_main_v23 val_main_v20 val_main_v19 val_main_call0_v0 val_main_call0_cst
  pointwise []
  simp only [norm_apply]
  rfl

theorem out_apply (q : Fin 16384) (j : Fin 1024) :
    val_main_v27 x0 x1 x2 x3 x4 x5 (ix2 q j) = Cert.Post.out (M x0 x1 x2 q) (fun j => x3 (ix2 1 j)) (fun k j => x4 (ix3 1 k j)) (fun k j => x5 (ix3 1 k j)) j := by
  unfold val_main_v27 val_main_v26 val_main_v22 val_main_v21
  pointwise []
  simp only [hid_apply, mid_apply]
  rfl

theorem final_apply (q : Fin 16384) (j : Fin 1024) :
    val_main_v40 x0 x1 x2 x3 x4 x5 x6 (ix2 q j) = norm (Cert.Post.out (M x0 x1 x2 q) (fun j => x3 (ix2 1 j)) (fun k j => x4 (ix3 1 k j)) (fun k j => x5 (ix3 1 k j))) (fun j => x6 (ix1 j)) j := by
  unfold val_main_v40 val_main_v39 val_main_v38 val_main_v37 val_main_v36 val_main_v35 val_main_v34 val_main_v33 val_main_v32 val_main_v31 val_main_v30 val_main_v29 val_main_v28 val_main_cst_2 val_main_cst_3 val_main_cst_4
  pointwise []
  simp only [out_apply]
  rfl

end Cert.Reference2Ideal.Post
-- ==== Proof.PostAlg2.lean ====
/- The kernel's rows are the reference's rows. -/
module

public import proofs.«01_k».proof.Defs
public import proofs.«01_k».proof.Proof.Post2
public import proofs.«01_k».proof.Proof.PostRef2

@[expose] public section

set_option maxRecDepth 16384

noncomputable section

namespace Cert.PostAlg2

open Idealize.ShloMosaic Idealize.ShloMosaic.TcCoe Idealize.SL.Sem

/-- From memories that agree on the arguments the reference's result is the array the kernel leaves. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    (Cert.Reference2Ideal.Value.res_main_v40 m' c : Vec Ideal Cert.Kernel2Ideal.S16384x1024 .f32) = Cert.Kernel2Ideal.Value.G9 m c := by
  obtain ⟨h0, h1, h2, h3, h4, h5, h6⟩ := h
  refine (Cert.Reference2Ideal.Read.val_main_v40_eq (F := Ideal) m' c).trans ?_
  rw [h0, h1, h2, h3, h4, h5, h6]
  funext i
  idx_vars i
  refine (Cert.Reference2Ideal.Post.final_apply _ _ _ _ _ _ _ _ _).trans ?_
  exact (Cert.Kernel2Ideal.Post.result m c _ _).symm

/-- The program runs, its arguments end unchanged, every counter at zero. -/
theorem frame_r : Cert.quiescent_Reference2Ideal := fun m ρ _ =>
  (θ_run _ _ _).mono (fun r h => ⟨fun c => (h c).2, Idealize.ShloMosaic.sem_eq_zero_of_no_sems (by decide) r.2⟩) (Cert.Reference2Ideal.Value.run (F := Ideal) m ρ)

/-- The two programs leave equal results and unchanged arguments. -/
theorem algebraic : Cert.algebraic_Kernel2Ideal_Reference2Ideal := fun m ρ m' ρ' _ hag =>
  ⟨fun c => Cert.Kernel2Ideal.Value.G9 m c, Cert.Kernel2Ideal.Value.run m ρ,
    (θ_run _ _ _).mono (fun r h c => ⟨((h c).1).trans (result_eq m m' c (hag c)), (h c).2⟩) (Cert.Reference2Ideal.Value.run m' ρ')⟩

end Cert.PostAlg2
-- ==== Proof.Post3.lean ====
/- The values of the layer-closing block as the kernel computes them: grid point `t` works on the
   1024 rows of block `t / 4` and on the hidden units of block `t % 4`; the residual row and its normalization are formed at
   the first of the four points, each point adds its share of the perceptron, the last writes the rows out. -/
module

public import proofs.«01_k».proof.Proof.Gen.Kernel3Ideal.Value
public import proofs.«01_k».proof.Proof.PostSpec

@[expose] public section

set_option maxRecDepth 16384

noncomputable section

namespace Cert.Kernel3Ideal.Post

open Cert.Kernel3Ideal Cert.Kernel3Ideal.Gen Idealize.ShloMosaic Idealize.ShloMosaic.TcCoe Idealize.SL.Sem
open Cert.Post (unit lo hi row mid norm hid)

section Cases
variable {F : FTy → Type} [FloatOps F] (m : (ℓ : Loc nD τ sig) → Buf (Elt F) ℓ) (c : Dev nD)

theorem hz : (![0, 0] : Fin 2 → Nat) = fun _ => 0 := by
  funext a
  match a with
  | 0 => rfl
  | 1 => rfl

/-- The normalized rows formed from point `t`'s blocks. -/
def xnAt (t : Fin cfg0.N) : Vec F S1024x1024 .bf16 :=
  k0_pay3 (iblk m c 0 t) (iblk m c 1 t) (iblk m c 3 t) (iblk m c 2 t) (iblk m c 4 t) (iblk m c 5 t)
/-- The residual rows formed from point `t`'s blocks. -/
def midAt (t : Fin cfg0.N) : Vec F S1024x1024 .f32 :=
  k0_pay2 (iblk m c 0 t) (iblk m c 1 t) (iblk m c 3 t) (iblk m c 2 t) (iblk m c 4 t)

/-- At the first of a block's four points the normalized rows are stored. -/
theorem xn_A (t : Fin cfg0.N) (h0 : t.val % 4 = 0) (h1 : ¬t.val % 4 = 3) :
    (outsAt0 m c t.val t.isLt).2.2 = xnAt m c t := by
  rw [outsAt0_A m c t h0 h1]
  unfold sout0_A_1
  dsimp only
  rw [View.read_writes_eq_canon _ _ _ (fun y => scover0_A_1 (y := y) ..)]
  unfold kernelRun0_A
  dsimp only
  sl_unfold_words
  refine (View.canon_unit_zero hz _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  rfl
/-- At the first of a block's four points the residual rows and the first share of the perceptron are stored. -/
theorem acc_A (t : Fin cfg0.N) (h0 : t.val % 4 = 0) (h1 : ¬t.val % 4 = 3) :
    (outsAt0 m c t.val t.isLt).2.1 = k0_pay4 (xnAt m c t) (iblk m c 6 t) (midAt m c t) (iblk m c 7 t) := by
  rw [outsAt0_A m c t h0 h1]
  unfold sout0_A_0
  dsimp only
  rw [View.read_writes_eq_canon _ _ _ (fun y => scover0_A_0 (y := y) ..)]
  unfold kernelRun0_A
  dsimp only
  sl_unfold_words
  refine (View.canon_cons_unit_zero hz _ _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  rw [View.readCov_unit_zero _ hz, View.readCov_unit_zero _ hz]
  rfl
/-- A later point keeps the normalized rows. -/
theorem xn_B (t : Fin cfg0.N) (h0 : ¬t.val % 4 = 0) (h1 : ¬t.val % 4 = 3) :
    (outsAt0 m c t.val t.isLt).2.2 = (outsAt0 m c (t.val - 1) (Nat.lt_of_le_of_lt (Nat.sub_le _ _) t.isLt)).2.2 := by
  rw [outsAt0_B m c t h0 h1]
  rfl

/-- A later point adds its share of the perceptron. -/
theorem acc_B (t : Fin cfg0.N) (h0 : ¬t.val % 4 = 0) (h1 : ¬t.val % 4 = 3) :
    (outsAt0 m c t.val t.isLt).2.1 = k0_pay4 (outsAt0 m c (t.val - 1) (Nat.lt_of_le_of_lt (Nat.sub_le _ _) t.isLt)).2.2 (iblk m c 6 t) (outsAt0 m c (t.val - 1) (Nat.lt_of_le_of_lt (Nat.sub_le _ _) t.isLt)).2.1 (iblk m c 7 t) := by
  rw [outsAt0_B m c t h0 h1]
  unfold sout0_B_0
  dsimp only
  rw [View.read_writes_eq_canon _ _ _ (fun y => scover0_B_0 (y := y) ..)]
  unfold kernelRun0_B
  dsimp only
  sl_unfold_words
  refine (View.canon_unit_zero hz _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  exact congrArg₂ (fun a b => k0_pay4 a (iblk m c 6 t) b (iblk m c 7 t)) ((Memref.isWhole_whole cc0_scratch1).read_unread _) ((Memref.isWhole_whole cc0_scratch0).read_unread _)
/-- A later point keeps the normalized rows. -/
theorem xn_C (t : Fin cfg0.N) (h0 : ¬t.val % 4 = 0) (h1 : t.val % 4 = 3) :
    (outsAt0 m c t.val t.isLt).2.2 = (outsAt0 m c (t.val - 1) (Nat.lt_of_le_of_lt (Nat.sub_le _ _) t.isLt)).2.2 := by
  rw [outsAt0_C m c t h0 h1]
  rfl

/-- A later point adds its share of the perceptron. -/
theorem acc_C (t : Fin cfg0.N) (h0 : ¬t.val % 4 = 0) (h1 : t.val % 4 = 3) :
    (outsAt0 m c t.val t.isLt).2.1 = k0_pay4 (outsAt0 m c (t.val - 1) (Nat.lt_of_le_of_lt (Nat.sub_le _ _) t.isLt)).2.2 (iblk m c 6 t) (outsAt0 m c (t.val - 1) (Nat.lt_of_le_of_lt (Nat.sub_le _ _) t.isLt)).2.1 (iblk m c 7 t) := by
  rw [outsAt0_C m c t h0 h1]
  unfold sout0_C_0
  dsimp only
  rw [View.read_writes_eq_canon _ _ _ (fun y => scover0_C_0 (y := y) ..)]
  unfold kernelRun0_C
  dsimp only
  sl_unfold_words
  refine (View.canon_unit_zero hz _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  exact congrArg₂ (fun a b => k0_pay4 a (iblk m c 6 t) b (iblk m c 7 t)) ((Memref.isWhole_whole cc0_scratch1).read_unread _) ((Memref.isWhole_whole cc0_scratch0).read_unread _)
/-- The last point writes the rows out. -/
theorem out_C (t : Fin cfg0.N) (h0 : ¬t.val % 4 = 0) (h1 : t.val % 4 = 3) :
    (outsAt0 m c t.val t.isLt).1 = k0_pay4 (outsAt0 m c (t.val - 1) (Nat.lt_of_le_of_lt (Nat.sub_le _ _) t.isLt)).2.2 (iblk m c 6 t) (outsAt0 m c (t.val - 1) (Nat.lt_of_le_of_lt (Nat.sub_le _ _) t.isLt)).2.1 (iblk m c 7 t) := by
  rw [outsAt0_C m c t h0 h1]
  unfold out0_C_9
  dsimp only
  rw [View.read_writes_eq_canon _ _ _ (fun y => cover0_C_9 (y := y) ..)]
  unfold kernelRun0_C
  dsimp only
  sl_unfold_words
  refine (View.canon_unit_zero hz _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S1024x512) hz, View.ld_unit_zero (S := S512x1024) hz,
    View.ld_unit_zero (S := S1x1024) hz, shapeCast_self]
  rw [View.readCov_unit_zero _ hz]
  exact congrArg₂ (fun a b => k0_pay4 a (iblk m c 6 t) b (iblk m c 7 t)) ((Memref.isWhole_whole cc0_scratch1).read_unread _) ((Memref.isWhole_whole cc0_scratch0).read_unread _)
end Cases

section AtIdeal
variable (m : (ℓ : Loc nD τ sig) → Buf (Elt Ideal) ℓ) (c : Dev nD)

/-- The argument arrays of device `c`. -/
abbrev X : Fin 16384 → Fin 1024 → EReal := fun r j => m ((c : Thread nD τ).loc main_arg0) (ix2 r j)
/-- The two halves side by side. -/
def O (r : Fin 16384) (j : Fin 1024) : EReal :=
  if h : j.val < 512 then (m ((c : Thread nD τ).loc main_arg1) (ix2 r ⟨j.val, h⟩) : EReal)
  else (m ((c : Thread nD τ).loc main_arg2) (ix2 r ⟨j.val - 512, by have := j.isLt; omega⟩) : EReal)
theorem O_lo (r : Fin 16384) (k : Fin 512) : O m c r (lo k) = m ((c : Thread nD τ).loc main_arg1) (ix2 r k) := by
  unfold O
  rw [dif_pos (show (lo k).val < 512 from k.isLt)]
  rfl
theorem O_hi (r : Fin 16384) (k : Fin 512) : O m c r (hi k) = m ((c : Thread nD τ).loc main_arg2) (ix2 r k) := by
  unfold O
  rw [dif_neg (show ¬ (hi k).val < 512 by show ¬ 512 + k.val < 512; omega)]
  exact congrArg (fun q => m ((c : Thread nD τ).loc main_arg2) (ix2 r q)) (Fin.ext (show 512 + k.val - 512 = k.val by omega))
abbrev WO : Fin 1024 → Fin 1024 → EReal := fun k j => m ((c : Thread nD τ).loc main_arg3) (ix3 0 k j)
abbrev G : Fin 1024 → EReal := fun j => m ((c : Thread nD τ).loc main_arg4) (ix2 0 j)
abbrev W1 : Fin 1024 → Fin 4096 → EReal := fun k j => m ((c : Thread nD τ).loc main_arg5) (ix3 0 k j)
abbrev W2 : Fin 4096 → Fin 1024 → EReal := fun k j => m ((c : Thread nD τ).loc main_arg6) (ix3 0 k j)
abbrev GF : Fin 1024 → EReal := fun j => m ((c : Thread nD τ).loc main_arg7) (ix1 j)

/-! What the host prepares. -/
theorem V_wo_lo (k : Fin 512) (j : Fin 1024) : (V m c main_v2 : Vec Ideal S512x1024 .bf16) (ix2 k j) = WO m c (lo k) j := by
  show (StableHlo.after hostOps0 (fun b => m (c, b)) (Proc.devRef .tc main_v2) : Vec Ideal S512x1024 .bf16) _ = _
  after_results_simp
  pointwise [] <;> rfl

theorem V_wo_hi (k : Fin 512) (j : Fin 1024) : (V m c main_v3 : Vec Ideal S512x1024 .bf16) (ix2 k j) = WO m c (hi k) j := by
  show (StableHlo.after hostOps0 (fun b => m (c, b)) (Proc.devRef .tc main_v3) : Vec Ideal S512x1024 .bf16) _ = _
  after_results_simp
  pointwise [] <;> rfl

theorem V_w1 (k : Fin 1024) (j : Fin 4096) : (V m c main_v8 : Vec Ideal S1024x4096 .bf16) (ix2 k j) = W1 m c k j := by
  show (StableHlo.after hostOps0 (fun b => m (c, b)) (Proc.devRef .tc main_v8) : Vec Ideal S1024x4096 .bf16) _ = _
  after_results_simp
  pointwise [] <;> rfl

theorem V_w2 (k : Fin 4096) (j : Fin 1024) : (V m c main_v11 : Vec Ideal S4096x1024 .bf16) (ix2 k j) = W2 m c k j := by
  show (StableHlo.after hostOps0 (fun b => m (c, b)) (Proc.devRef .tc main_v11) : Vec Ideal S4096x1024 .bf16) _ = _
  after_results_simp
  pointwise [] <;> rfl

theorem V_g (j : Fin 1024) : (V m c main_v12 : Vec Ideal S1x1024 .f32) (ix2 0 j) = G m c j := by
  show (StableHlo.after hostOps0 (fun b => m (c, b)) (Proc.devRef .tc main_v12) : Vec Ideal S1x1024 .f32) _ = _
  after_results_simp
  pointwise [] <;> rfl

theorem V_gf (j : Fin 1024) : (V m c main_v13 : Vec Ideal S1x1024 .f32) (ix2 0 j) = GF m c j := by
  show (StableHlo.after hostOps0 (fun b => m (c, b)) (Proc.devRef .tc main_v13) : Vec Ideal S1x1024 .f32) _ = _
  after_results_simp
  pointwise [] <;> rfl

/-- The printed index maps, decided over the grid. -/
theorem idx_facts : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = t.val % 4)
    ∧ (win0_7.index t (0 : Fin 2) = t.val % 4 ∧ win0_7.index t (1 : Fin 2) = 0)
    ∧ (win0_8.index t (0 : Fin 2) = 0 ∧ win0_8.index t (1 : Fin 2) = 0) := by
  decide +kernel

theorem lt64 (t : Fin cfg0.N) : t.val < 64 := lt_of_lt_of_eq t.isLt N_0

/-- The block of hidden units of point `t`. -/
def fb (t : ℕ) : Fin 4 := ⟨t % 4, Nat.mod_lt _ (by decide)⟩

/-! Each window's block, read from the argument arrays. -/
theorem blk0 (t : Fin cfg0.N) (r j : Fin 1024) : (iblk m c 0 t : Vec Ideal S1024x1024 .f32) (ix2 r j) = X m c (row t.val (lt64 t) r) j := by
  obtain ⟨e0, e1⟩ := (idx_facts t).1
  refine Eq.trans (congrArg (V m c main_arg0) (a₂ := (ix2 (row t.val (lt64 t) r) j : S16384x1024.Idx)) ?_) (congrFun (V_main_arg0 m c) _)
  funext a
  refine Fin.ext ?_
  match a with
  | ⟨0, _⟩ => show win0_0.index t (0 : Fin 2) * 1024 + 1 * r.val = _; rw [e0]; show _ = 1024 * (t.val / 4) + r.val; omega
  | ⟨1, _⟩ => show win0_0.index t (1 : Fin 2) * 1024 + 1 * j.val = _; rw [e1]; show _ = j.val; omega

theorem blk1 (t : Fin cfg0.N) (r : Fin 1024) (k : Fin 512) : (iblk m c 1 t : Vec Ideal S1024x512 .bf16) (ix2 r k) = O m c (row t.val (lt64 t) r) (lo k) := by
  obtain ⟨e0, e1⟩ := (idx_facts t).2.1
  refine Eq.trans (congrArg (V m c main_arg1) (a₂ := (ix2 (row t.val (lt64 t) r) k : S16384x512.Idx)) ?_) ((congrFun (V_main_arg1 m c) _).trans (O_lo m c _ _).symm)
  funext a
  refine Fin.ext ?_
  match a with
  | ⟨0, _⟩ => show win0_1.index t (0 : Fin 2) * 1024 + 1 * r.val = _; rw [e0]; show _ = 1024 * (t.val / 4) + r.val; omega
  | ⟨1, _⟩ => show win0_1.index t (1 : Fin 2) * 512 + 1 * k.val = _; rw [e1]; show _ = k.val; omega

theorem blk2 (t : Fin cfg0.N) (r : Fin 1024) (k : Fin 512) : (iblk m c 2 t : Vec Ideal S1024x512 .bf16) (ix2 r k) = O m c (row t.val (lt64 t) r) (hi k) := by
  obtain ⟨e0, e1⟩ := (idx_facts t).2.2.1
  refine Eq.trans (congrArg (V m c main_arg2) (a₂ := (ix2 (row t.val (lt64 t) r) k : S16384x512.Idx)) ?_) ((congrFun (V_main_arg2 m c) _).trans (O_hi m c _ _).symm)
  funext a
  refine Fin.ext ?_
  match a with
  | ⟨0, _⟩ => show win0_2.index t (0 : Fin 2) * 1024 + 1 * r.val = _; rw [e0]; show _ = 1024 * (t.val / 4) + r.val; omega
  | ⟨1, _⟩ => show win0_2.index t (1 : Fin 2) * 512 + 1 * k.val = _; rw [e1]; show _ = k.val; omega

theorem blk3 (t : Fin cfg0.N) (k : Fin 512) (j : Fin 1024) : (iblk m c 3 t : Vec Ideal S512x1024 .bf16) (ix2 k j) = WO m c (lo k) j := by
  obtain ⟨e0, e1⟩ := (idx_facts t).2.2.2.1
  refine Eq.trans (congrArg (V m c main_v2) (a₂ := (ix2 k j : S512x1024.Idx)) ?_) (V_wo_lo m c k j)
  funext a
  refine Fin.ext ?_
  match a with
  | ⟨0, _⟩ => show win0_3.index t (0 : Fin 2) * 512 + 1 * k.val = _; rw [e0]; show _ = k.val; omega
  | ⟨1, _⟩ => show win0_3.index t (1 : Fin 2) * 1024 + 1 * j.val = _; rw [e1]; show _ = j.val; omega

theorem blk4 (t : Fin cfg0.N) (k : Fin 512) (j : Fin 1024) : (iblk m c 4 t : Vec Ideal S512x1024 .bf16) (ix2 k j) = WO m c (hi k) j := by
  obtain ⟨e0, e1⟩ := (idx_facts t).2.2.2.2.1
  refine Eq.trans (congrArg (V m c main_v3) (a₂ := (ix2 k j : S512x1024.Idx)) ?_) (V_wo_hi m c k j)
  funext a
  refine Fin.ext ?_
  match a with
  | ⟨0, _⟩ => show win0_4.index t (0 : Fin 2) * 512 + 1 * k.val = _; rw [e0]; show _ = k.val; omega
  | ⟨1, _⟩ => show win0_4.index t (1 : Fin 2) * 1024 + 1 * j.val = _; rw [e1]; show _ = j.val; omega

theorem blk5 (t : Fin cfg0.N) (j : Fin 1024) : (iblk m c 5 t : Vec Ideal S1x1024 .f32) (ix2 0 j) = G m c j := by
  obtain ⟨e0, e1⟩ := (idx_facts t).2.2.2.2.2.1
  refine Eq.trans (congrArg (V m c main_v12) (a₂ := (ix2 0 j : S1x1024.Idx)) ?_) (V_g m c j)
  funext a
  refine Fin.ext ?_
  match a with
  | ⟨0, _⟩ => show win0_5.index t (0 : Fin 2) * 1 + 1 * 0 = _; rw [e0]; rfl
  | ⟨1, _⟩ => show win0_5.index t (1 : Fin 2) * 1024 + 1 * j.val = _; rw [e1]; show _ = j.val; omega

theorem blk8 (t : Fin cfg0.N) (j : Fin 1024) : (iblk m c 8 t : Vec Ideal S1x1024 .f32) (ix2 0 j) = GF m c j := by
  obtain ⟨e0, e1⟩ := (idx_facts t).2.2.2.2.2.2.2.2
  refine Eq.trans (congrArg (V m c main_v13) (a₂ := (ix2 0 j : S1x1024.Idx)) ?_) (V_gf m c j)
  funext a
  refine Fin.ext ?_
  match a with
  | ⟨0, _⟩ => show win0_8.index t (0 : Fin 2) * 1 + 1 * 0 = _; rw [e0]; rfl
  | ⟨1, _⟩ => show win0_8.index t (1 : Fin 2) * 1024 + 1 * j.val = _; rw [e1]; show _ = j.val; omega

theorem blk6 (t : Fin cfg0.N) (i k : Fin 1024) : (iblk m c 6 t : Vec Ideal S1024x1024 .bf16) (ix2 i k) = W1 m c i (unit (fb t.val) k) := by
  obtain ⟨e0, e1⟩ := (idx_facts t).2.2.2.2.2.2.1
  refine Eq.trans (congrArg (V m c main_v8) (a₂ := (ix2 i (unit (fb t.val) k) : S1024x4096.Idx)) ?_) (V_w1 m c i _)
  funext a
  refine Fin.ext ?_
  match a with
  | ⟨0, _⟩ => show win0_6.index t (0 : Fin 2) * 1024 + 1 * i.val = _; rw [e0]; show _ = i.val; omega
  | ⟨1, _⟩ => show win0_6.index t (1 : Fin 2) * 1024 + 1 * k.val = _; rw [e1]; show _ = 1024 * (t.val % 4) + k.val; omega

theorem blk7 (t : Fin cfg0.N) (k j : Fin 1024) : (iblk m c 7 t : Vec Ideal S1024x1024 .bf16) (ix2 k j) = W2 m c (unit (fb t.val) k) j := by
  obtain ⟨e0, e1⟩ := (idx_facts t).2.2.2.2.2.2.2.1
  refine Eq.trans (congrArg (V m c main_v11) (a₂ := (ix2 (unit (fb t.val) k) j : S4096x1024.Idx)) ?_) (V_w2 m c _ j)
  funext a
  refine Fin.ext ?_
  match a with
  | ⟨0, _⟩ => show win0_7.index t (0 : Fin 2) * 1024 + 1 * k.val = _; rw [e0]; show _ = 1024 * (t.val % 4) + k.val; omega
  | ⟨1, _⟩ => show win0_7.index t (1 : Fin 2) * 1024 + 1 * j.val = _; rw [e1]; show _ = j.val; omega

/-- The residual row `q`. -/
abbrev M (q : Fin 16384) : Fin 1024 → EReal := mid (X m c q) (O m c q) (WO m c)
/-- Block `f`'s share of the perceptron on row `q`. -/
def share (q : Fin 16384) (f : Fin 4) (j : Fin 1024) : EReal :=
  ∑ k : Fin 1024, hid (norm (M m c q) (G m c)) (W1 m c) (unit f k) * W2 m c (unit f k) j

/-- The residual rows at an index. -/
theorem pay1_apply (t : Fin cfg0.N) (r j : Fin 1024) :
    (k0_pay1 (iblk m c 0 t) (iblk m c 1 t) (iblk m c 3 t) (iblk m c 2 t) (iblk m c 4 t) : Vec Ideal S1024x1024 .f32) (ix2 r j)
      = M m c (row t.val (lt64 t) r) j := by
  pointwise [k0_pay1]
  rw [blk0]
  simp only [blk1, blk2, blk3, blk4]
  rw [add_assoc]
  exact congrArg (X m c (row t.val (lt64 t) r) j + ·) (Cert.Post.sum_halves fun k => O m c (row t.val (lt64 t) r) k * WO m c k j).symm

theorem midAt_apply (t : Fin cfg0.N) (r j : Fin 1024) : midAt m c t (ix2 r j) = M m c (row t.val (lt64 t) r) j := by
  unfold midAt
  pointwise [k0_pay2]
  exact pay1_apply m c t r j

theorem xnAt_apply (t : Fin cfg0.N) (r j : Fin 1024) :
    xnAt m c t (ix2 r j) = norm (M m c (row t.val (lt64 t) r)) (G m c) j := by
  unfold xnAt
  pointwise [k0_pay3]
  simp only [pay1_apply, blk5]
  rfl

/-- A point's step on a row: its share of the perceptron is added. -/
theorem step_apply (t : Fin cfg0.N) (n : Vec Ideal S1024x1024 .bf16) (a : Vec Ideal S1024x1024 .f32) (r j : Fin 1024)
    (hn : ∀ i, n (ix2 r i) = norm (M m c (row t.val (lt64 t) r)) (G m c) i) :
    (k0_pay4 n (iblk m c 6 t) a (iblk m c 7 t) : Vec Ideal S1024x1024 .f32) (ix2 r j)
      = a (ix2 r j) + share m c (row t.val (lt64 t) r) (fb t.val) j := by
  pointwise [k0_pay4]
  simp only [hn, blk6, blk7]
  rfl

/-- The accumulator after `f + 1` blocks of hidden units. -/
def accRow (q : Fin 16384) (j : Fin 1024) : ℕ → EReal
  | 0 => M m c q j + share m c q (fb 0) j
  | f + 1 => accRow q j f + share m c q (fb (f + 1)) j

/-- Over a block of rows: the normalized rows stay, and the accumulator holds the shares so far. -/
theorem sweep (I : ℕ) (hI : I < 16) (r : Fin 1024) : ∀ (f : ℕ) (hf : f < 4) (ht : 4 * I + f < cfg0.N),
    (∀ j, (outsAt0 m c (4 * I + f) ht).2.2 (ix2 r j) = norm (M m c (row (4 * I) (by omega) r)) (G m c) j)
    ∧ ∀ j, (outsAt0 m c (4 * I + f) ht).2.1 (ix2 r j) = accRow m c (row (4 * I) (by omega) r) j f := by
  intro f
  induction f with
  | zero =>
    intro _ ht
    have h0 : (4 * I) % 4 = 0 := by omega
    have h1 : ¬(4 * I) % 4 = 3 := by omega
    have e0 : fb (4 * I) = fb 0 := Fin.ext (by show (4 * I) % 4 = 0; omega)
    refine ⟨fun j => ?_, fun j => ?_⟩
    · exact (congrFun (xn_A m c ⟨4 * I, ht⟩ h0 h1) _).trans (xnAt_apply m c ⟨4 * I, ht⟩ r j)
    · refine (congrFun (acc_A m c ⟨4 * I, ht⟩ h0 h1) _).trans ?_
      rw [step_apply m c _ _ _ r j (fun i => xnAt_apply m c ⟨4 * I, ht⟩ r i), midAt_apply]
      show _ + share m c _ (fb (4 * I)) j = _ + share m c _ (fb 0) j
      rw [e0]
  | succ f ih =>
    intro hf ht
    have hlt : 4 * I + f < cfg0.N := Nat.lt_of_succ_lt ht
    obtain ⟨ihn, iha⟩ := ih (by omega) hlt
    have h0 : ¬(4 * I + (f + 1)) % 4 = 0 := by omega
    have hrow : ∀ h h', row (4 * I + (f + 1)) h r = row (4 * I) h' r := fun h h' =>
      Fin.ext (by show 1024 * ((4 * I + (f + 1)) / 4) + r.val = 1024 * ((4 * I) / 4) + r.val; rw [show (4 * I + (f + 1)) / 4 = (4 * I) / 4 by omega])
    have e0 : fb (4 * I + (f + 1)) = fb (f + 1) := Fin.ext (by show (4 * I + (f + 1)) % 4 = (f + 1) % 4; omega)
    have hxn : (outsAt0 m c (4 * I + (f + 1)) ht).2.2 = (outsAt0 m c (4 * I + f) hlt).2.2 := by
      by_cases h1 : (4 * I + (f + 1)) % 4 = 3
      · exact xn_C m c ⟨4 * I + (f + 1), ht⟩ h0 h1
      · exact xn_B m c ⟨4 * I + (f + 1), ht⟩ h0 h1
    have hac : (outsAt0 m c (4 * I + (f + 1)) ht).2.1 = k0_pay4 (outsAt0 m c (4 * I + f) hlt).2.2
        (iblk m c 6 ⟨4 * I + (f + 1), ht⟩) (outsAt0 m c (4 * I + f) hlt).2.1 (iblk m c 7 ⟨4 * I + (f + 1), ht⟩) := by
      by_cases h1 : (4 * I + (f + 1)) % 4 = 3
      · exact acc_C m c ⟨4 * I + (f + 1), ht⟩ h0 h1
      · exact acc_B m c ⟨4 * I + (f + 1), ht⟩ h0 h1
    refine ⟨fun j => by rw [hxn]; exact ihn j, fun j => ?_⟩
    rw [hac, step_apply m c _ _ _ r j (fun i => by rw [ihn i]; exact congrArg (fun q => norm (M m c q) (G m c) i) (hrow _ _).symm), iha j]
    show _ + share m c (row (4 * I + (f + 1)) _ r) (fb (4 * I + (f + 1))) j = _ + share m c _ (fb (f + 1)) j
    rw [e0, hrow]

/-- After the four points the accumulator is the residual row with the whole perceptron added. -/
theorem accRow_three (q : Fin 16384) (j : Fin 1024) :
    accRow m c q j 3 = Cert.Post.out (M m c q) (G m c) (W1 m c) (W2 m c) j := by
  show ((M m c q j + share m c q (fb 0) j + share m c q (fb 1) j) + share m c q (fb 2) j) + share m c q (fb 3) j = _
  unfold Cert.Post.out
  rw [Cert.Post.sum_units, add_assoc, add_assoc, add_assoc, ← add_assoc (share m c q (fb 1) j)]
  rw [add_assoc (share m c q (fb 1) j)]
  rfl

/-- The result row `q` of the kernel. -/
theorem result (q : Fin 16384) (j : Fin 1024) : (Value.G9 m c : Vec Ideal S16384x1024 .f32) (ix2 q j) = Cert.Post.out (M m c q) (G m c) (W1 m c) (W2 m c) j := by
  have hq := q.isLt
  have hj := j.isLt
  have hp : Value.pt9Of (ix2 q j) = 4 * (q.val / 1024) + 3 := by
    show 4 * (1 * (q.val / 1024 - 0) + 1 * (j.val / 1024 - 0)) + 3 = _
    omega
  have hN : 4 * (q.val / 1024) + 3 < cfg0.N := by rw [show cfg0.N = 64 from N_0]; omega
  have hr : q.val % 1024 < 1024 := Nat.mod_lt _ (by decide)
  have hl : Value.loc9Of (ix2 q j) = ix2 ⟨q.val % 1024, hr⟩ j := by
    funext a
    refine Fin.ext ?_
    match a with
    | ⟨0, _⟩ => rfl
    | ⟨1, _⟩ => exact Nat.mod_eq_of_lt hj
  unfold Value.G9
  rw [dif_pos (by rw [hp]; exact hN), Value.fold0_congr m c _ _ _ (by rw [Nat.zero_add]; exact hN) hp, hl,
    ← Value.outsAt0_sweep m c _ hN]
  have h0 : ¬(4 * (q.val / 1024) + 3) % 4 = 0 := by omega
  have h1 : (4 * (q.val / 1024) + 3) % 4 = 3 := by omega
  have hrow : ∀ h, row (4 * (q.val / 1024)) h ⟨q.val % 1024, hr⟩ = q := fun h =>
    Fin.ext (by show 1024 * (4 * (q.val / 1024) / 4) + q.val % 1024 = q.val; omega)
  have hs : ∀ j', (outsAt0 m c (4 * (q.val / 1024) + 3) hN).2.1 (ix2 ⟨q.val % 1024, hr⟩ j')
      = Cert.Post.out (M m c q) (G m c) (W1 m c) (W2 m c) j' := fun j' => by
    rw [(sweep m c (q.val / 1024) (by omega) ⟨q.val % 1024, hr⟩ 3 (by decide) hN).2 j', accRow_three, hrow]
  rw [acc_C m c ⟨4 * (q.val / 1024) + 3, hN⟩ h0 h1] at hs
  refine (congrFun (out_C m c ⟨4 * (q.val / 1024) + 3, hN⟩ h0 h1) _).trans ?_
  exact hs j

end AtIdeal

end Cert.Kernel3Ideal.Post
-- ==== Proof.PostRef3.lean ====
/- The reference's rows: each operation of its program read at an index. -/
module

public import proofs.«01_k».proof.Proof.Gen.Reference3Ideal.Read
public import proofs.«01_k».proof.Proof.PostSpec

@[expose] public section

set_option maxRecDepth 16384

noncomputable section

namespace Cert.Reference3Ideal.Post

open Cert.Reference3Ideal Cert.Reference3Ideal.Gen Cert.Reference3Ideal.Read Idealize.ShloMosaic Idealize.ShloMosaic.TcCoe Idealize.SL.Sem
open Cert.Post (unit lo hi row mid norm hid)

variable (x0 : Vec Ideal S16384x1024 .f32) (x1 x2 : Vec Ideal S16384x512 .bf16) (x3 : Vec Ideal S1x1024x1024 .f32) (x4 : Vec Ideal S2x1024 .f32) (x5 : Vec Ideal S2x1024x4096 .f32) (x6 : Vec Ideal S2x4096x1024 .f32)

/-- The two halves side by side. -/
def O (r : Fin 16384) (j : Fin 1024) : EReal :=
  if h : j.val < 512 then (x1 (ix2 r ⟨j.val, h⟩) : EReal)
  else (x2 (ix2 r ⟨j.val - 512, by have := j.isLt; omega⟩) : EReal)
theorem O_lo (r : Fin 16384) (k : Fin 512) : O x1 x2 r (lo k) = x1 (ix2 r k) := by
  unfold O
  rw [dif_pos (show (lo k).val < 512 from k.isLt)]
  rfl
theorem O_hi (r : Fin 16384) (k : Fin 512) : O x1 x2 r (hi k) = x2 (ix2 r k) := by
  unfold O
  rw [dif_neg (show ¬ (hi k).val < 512 by show ¬ 512 + k.val < 512; omega)]
  exact congrArg (fun q => x2 (ix2 r q)) (Fin.ext (show 512 + k.val - 512 = k.val by omega))

/-- The residual row `q`. -/
abbrev M (q : Fin 16384) : Fin 1024 → EReal := mid (fun j => x0 (ix2 q j)) (O x1 x2 q) (fun k j => x3 (ix3 0 k j))

theorem mid_apply (q : Fin 16384) (j : Fin 1024) : val_main_v4 x0 x1 x2 x3 (ix2 q j) = M x0 x1 x2 x3 q j := by
  unfold val_main_v4 val_main_v3 val_main_v2 val_main_v1 val_main_v0
  pointwise []
  refine Eq.trans ?_ (congrArg (x0 (ix2 q j) + ·) (Cert.Post.sum_halves fun k => O x1 x2 q k * x3 (ix3 0 k j)).symm)
  simp only [O_lo, O_hi]
  rfl

theorem norm_apply (q : Fin 16384) (j : Fin 1024) :
    val_main_v19 x0 x1 x2 x3 x4 (ix2 q j) = norm (M x0 x1 x2 x3 q) (fun j => x4 (ix2 0 j)) j := by
  unfold val_main_v19 val_main_v18 val_main_v17 val_main_v16 val_main_v15 val_main_v14 val_main_v13 val_main_v12 val_main_v11 val_main_v10 val_main_v9 val_main_v8 val_main_v7 val_main_v6 val_main_v5 val_main_cst val_main_cst_0 val_main_cst_1
  pointwise []
  simp only [mid_apply]
  rfl

theorem hid_apply (q : Fin 16384) (k : Fin 4096) :
    val_main_v26 x0 x1 x2 x3 x4 x5 (ix2 q k) = hid (norm (M x0 x1 x2 x3 q) (fun j => x4 (ix2 0 j))) (fun k j => x5 (ix3 0 k j)) k := by
  unfold val_main_v26 val_main_v25 val_main_v24 val_main_v21 val_main_v20 val_main_call0_v0 val_main_call0_cst
  pointwise []
  simp only [norm_apply]
  rfl

theorem out_apply (q : Fin 16384) (j : Fin 1024) :
    val_main_v28 x0 x1 x2 x3 x4 x5 x6 (ix2 q j) = Cert.Post.out (M x0 x1 x2 x3 q) (fun j => x4 (ix2 0 j)) (fun k j => x5 (ix3 0 k j)) (fun k j => x6 (ix3 0 k j)) j := by
  unfold val_main_v28 val_main_v27 val_main_v23 val_main_v22
  pointwise []
  simp only [hid_apply, mid_apply]
  rfl

end Cert.Reference3Ideal.Post
-- ==== Proof.PostAlg3.lean ====
/- The kernel's rows are the reference's rows. -/
module

public import proofs.«01_k».proof.Defs
public import proofs.«01_k».proof.Proof.Post3
public import proofs.«01_k».proof.Proof.PostRef3

@[expose] public section

set_option maxRecDepth 16384

noncomputable section

namespace Cert.PostAlg3

open Idealize.ShloMosaic Idealize.ShloMosaic.TcCoe Idealize.SL.Sem

/-- From memories that agree on the arguments the reference's result is the array the kernel leaves. -/
theorem result_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    (Cert.Reference3Ideal.Value.res_main_v28 m' c : Vec Ideal Cert.Kernel3Ideal.S16384x1024 .f32) = Cert.Kernel3Ideal.Value.G9 m c := by
  obtain ⟨h0, h1, h2, h3, h4, h5, h6, h7⟩ := h
  refine (Cert.Reference3Ideal.Read.val_main_v28_eq (F := Ideal) m' c).trans ?_
  rw [h0, h1, h2, h3, h4, h5, h6]
  funext i
  idx_vars i
  refine (Cert.Reference3Ideal.Post.out_apply _ _ _ _ _ _ _ _ _).trans ?_
  exact (Cert.Kernel3Ideal.Post.result m c _ _).symm

/-- The program runs, its arguments end unchanged, every counter at zero. -/
theorem frame_r : Cert.quiescent_Reference3Ideal := fun m ρ _ =>
  (θ_run _ _ _).mono (fun r h => ⟨fun c => (h c).2, Idealize.ShloMosaic.sem_eq_zero_of_no_sems (by decide) r.2⟩) (Cert.Reference3Ideal.Value.run (F := Ideal) m ρ)

/-- The two programs leave equal results and unchanged arguments. -/
theorem algebraic : Cert.algebraic_Kernel3Ideal_Reference3Ideal := fun m ρ m' ρ' _ hag =>
  ⟨fun c => Cert.Kernel3Ideal.Value.G9 m c, Cert.Kernel3Ideal.Value.run m ρ,
    (θ_run _ _ _).mono (fun r h c => ⟨((h c).1).trans (result_eq m m' c (hag c)), (h c).2⟩) (Cert.Reference3Ideal.Value.run m' ρ')⟩

end Cert.PostAlg3
-- ==== Proof.Proj4.lean ====
/- The values of the odd layer's input projection as the kernel computes them: grid point `t` works on the 1024 rows of
   block `t / 2` and on the 1536 columns of block `t % 2`; the rows are normalized at the first of the two points and kept
   for the second. -/
module

public import proofs.«01_k».proof.Proof.Gen.Kernel4Ideal.Value
public import proofs.«01_k».proof.Proof.ProjSpec

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Cert.Proj (norm out)

section Cases
variable {F : FTy → Type} [FloatOps F] (m : (ℓ : Loc nD τ sig) → Buf (Elt F) ℓ) (c : Dev nD)

theorem hz : (![0, 0] : Fin 2 → Nat) = fun _ => 0 := by
  funext a
  match a with
  | 0 => rfl
  | 1 => rfl

/-- At the first of a block's two points the normalized rows are stored. -/
theorem xn_A (t : Fin cfg0.N) (h0 : t.val % 2 = 0) :
    (outsAt0 m c t.val t.isLt).2 = k0_pay1 (iblk m c 0 t) (iblk m c 1 t) := by
  rw [outsAt0_A m c t h0]
  unfold sout0_A_0
  dsimp only
  rw [View.read_writes_eq_canon _ _ _ (fun y => scover0_A_0 (y := y) ..)]
  unfold kernelRun0_A
  dsimp only
  sl_unfold_words
  refine (View.canon_unit_zero hz _ _).trans ?_
  simp only [View.readAt_eq_ld, (hs0_0 t).read_unread, (hs0_1 t).read_unread,
    View.ld_unit_zero (S := S1024x1024) hz, View.ld_unit_zero (S := S1x1024) hz, shapeCast_self]

/-- Its first half of the columns is written out. -/
theorem out_A (t : Fin cfg0.N) (h0 : t.val % 2 = 0) :
    (outsAt0 m c t.val t.isLt).1 = k0_pay2 (k0_pay1 (iblk m c 0 t) (iblk m c 1 t)) (iblk m c 2 t) := by
  rw [outsAt0_A m c t h0]
  unfold out0_A_3
  dsimp only
  rw [View.read_writes_eq_canon _ _ _ (fun y => cover0_A_3 (y := y) ..)]
  unfold kernelRun0_A
  dsimp only
  sl_unfold_words
  refine (View.canon_unit_zero hz _ _).trans ?_
  simp only [View.readAt_eq_ld, (hs0_0 t).read_unread, (hs0_1 t).read_unread, (hs0_2 t).read_unread,
    View.ld_unit_zero (S := S1024x1024) hz, View.ld_unit_zero (S := S1x1024) hz, View.ld_unit_zero (S := S1024x1536) hz, shapeCast_self]
  rw [View.readCov_unit_zero _ hz]

/-- At the second point the rows are still there and the second half of the columns is written out. -/
theorem out_B (t : Fin cfg0.N) (h0 : ¬t.val % 2 = 0) :
    (outsAt0 m c t.val t.isLt).1 = k0_pay2 (outsAt0 m c (t.val - 1) (Nat.lt_of_le_of_lt (Nat.sub_le _ _) t.isLt)).2 (iblk m c 2 t) := by
  rw [outsAt0_B m c t h0]
  unfold out0_B_3
  dsimp only
  rw [View.read_writes_eq_canon _ _ _ (fun y => cover0_B_3 (y := y) ..)]
  unfold kernelRun0_B
  dsimp only
  sl_unfold_words
  refine (View.canon_unit_zero hz _ _).trans ?_
  simp only [View.readAt_eq_ld, (hs0_2 t).read_unread,
    View.ld_unit_zero (S := S1024x1024) hz, View.ld_unit_zero (S := S1024x1536) hz, shapeCast_self]
  exact congrArg (fun a => k0_pay2 a (iblk m c 2 t)) ((Memref.isWhole_whole cc0_scratch0).read_unread _)
end Cases

section AtIdeal
variable (m : (ℓ : Loc nD τ sig) → Buf (Elt Ideal) ℓ) (c : Dev nD)

/-- The argument arrays of device `c`. -/
abbrev X : Fin 16384 → Fin 1024 → EReal := fun r j => m ((c : Thread nD τ).loc main_arg0) (ix2 r j)
abbrev G : Fin 1024 → EReal := fun j => m ((c : Thread nD τ).loc main_arg1) (ix2 1 j)
abbrev W : Fin 1024 → Fin 3072 → EReal := fun k j => m ((c : Thread nD τ).loc main_arg2) (ix3 0 k j)

/-! What the host prepares. -/
theorem V_g (j : Fin 1024) : (V m c main_v4 : Vec Ideal S1x1024 .f32) (ix2 0 j) = G m c j := by
  show (StableHlo.after hostOps0 (fun b => m (c, b)) (Proc.devRef .tc main_v4) : Vec Ideal S1x1024 .f32) _ = _
  after_results_simp
  pointwise [] <;> rfl
theorem V_w (k : Fin 1024) (j : Fin 3072) : (V m c main_v3 : Vec Ideal S1024x3072 .bf16) (ix2 k j) = W m c k j := by
  show (StableHlo.after hostOps0 (fun b => m (c, b)) (Proc.devRef .tc main_v3) : Vec Ideal S1024x3072 .bf16) _ = _
  after_results_simp
  pointwise [] <;> rfl

/-- The printed index maps, decided over the grid. -/
theorem idx_facts : ∀ t : Fin cfg0.N,
    (win0_0.index t (0 : Fin 2) = t.val / 2 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 2) := by
  decide +kernel

theorem lt32 (t : Fin cfg0.N) : t.val < 32 := lt_of_lt_of_eq t.isLt N_0

/-- Row `r` of the block of rows of point `t`. -/
def row (t : ℕ) (ht : t < 32) (r : Fin 1024) : Fin 16384 := ⟨1024 * (t / 2) + r.val, by have := r.isLt; omega⟩
/-- Column `j` of the block of columns of point `t`. -/
def col (t : ℕ) (j : Fin 1536) : Fin 3072 := ⟨1536 * (t % 2) + j.val, by have := j.isLt; omega⟩

/-! Each window's block, read from the argument arrays. -/
theorem blk0 (t : Fin cfg0.N) (r j : Fin 1024) : (iblk m c 0 t : Vec Ideal S1024x1024 .f32) (ix2 r j) = X m c (row t.val (lt32 t) r) j := by
  obtain ⟨e0, e1⟩ := (idx_facts t).1
  refine Eq.trans (congrArg (V m c main_arg0) (a₂ := (ix2 (row t.val (lt32 t) r) j : S16384x1024.Idx)) ?_) (congrFun (V_main_arg0 m c) _)
  funext a
  refine Fin.ext ?_
  match a with
  | ⟨0, _⟩ => show win0_0.index t (0 : Fin 2) * 1024 + 1 * r.val = _; rw [e0]; show _ = 1024 * (t.val / 2) + r.val; omega
  | ⟨1, _⟩ => show win0_0.index t (1 : Fin 2) * 1024 + 1 * j.val = _; rw [e1]; show _ = j.val; omega

theorem blk1 (t : Fin cfg0.N) (j : Fin 1024) : (iblk m c 1 t : Vec Ideal S1x1024 .f32) (ix2 0 j) = G m c j := by
  obtain ⟨e0, e1⟩ := (idx_facts t).2.1
  refine Eq.trans (congrArg (V m c main_v4) (a₂ := (ix2 0 j : S1x1024.Idx)) ?_) (V_g m c j)
  funext a
  refine Fin.ext ?_
  match a with
  | ⟨0, _⟩ => show win0_1.index t (0 : Fin 2) * 1 + 1 * 0 = _; rw [e0]; rfl
  | ⟨1, _⟩ => show win0_1.index t (1 : Fin 2) * 1024 + 1 * j.val = _; rw [e1]; show _ = j.val; omega

theorem blk2 (t : Fin cfg0.N) (k : Fin 1024) (j : Fin 1536) : (iblk m c 2 t : Vec Ideal S1024x1536 .bf16) (ix2 k j) = W m c k (col t.val j) := by
  obtain ⟨e0, e1⟩ := (idx_facts t).2.2
  refine Eq.trans (congrArg (V m c main_v3) (a₂ := (ix2 k (col t.val j) : S1024x3072.Idx)) ?_) (V_w m c k _)
  funext a
  refine Fin.ext ?_
  match a with
  | ⟨0, _⟩ => show win0_2.index t (0 : Fin 2) * 1024 + 1 * k.val = _; rw [e0]; show _ = k.val; omega
  | ⟨1, _⟩ => show win0_2.index t (1 : Fin 2) * 1536 + 1 * j.val = _; rw [e1]; show _ = 1536 * (t.val % 2) + j.val; omega

theorem xn_apply (t : Fin cfg0.N) (r j : Fin 1024) :
    (k0_pay1 (iblk m c 0 t) (iblk m c 1 t) : Vec Ideal S1024x1024 .bf16) (ix2 r j) = norm (X m c (row t.val (lt32 t) r)) (G m c) j := by
  pointwise [k0_pay1]
  simp only [blk0, blk1]
  rfl

/-- The columns a point writes, from normalized rows. -/
theorem out_apply (t : Fin cfg0.N) (n : Vec Ideal S1024x1024 .bf16) (q : Fin 16384) (r : Fin 1024) (j : Fin 1536)
    (hn : ∀ i, n (ix2 r i) = norm (X m c q) (G m c) i) :
    (k0_pay2 n (iblk m c 2 t) : Vec Ideal S1024x1536 .bf16) (ix2 r j) = out (X m c q) (G m c) (fun k => W m c k (col t.val j)) := by
  pointwise [k0_pay2]
  simp only [hn, blk2]
  rfl

/-- What every point writes out. -/
theorem point (t : Fin cfg0.N) (r : Fin 1024) (j : Fin 1536) :
    (outsAt0 m c t.val t.isLt).1 (ix2 r j) = out (X m c (row t.val (lt32 t) r)) (G m c) (fun k => W m c k (col t.val j)) := by
  by_cases h0 : t.val % 2 = 0
  · exact (congrFun (out_A m c t h0) _).trans (out_apply m c t _ _ r j fun i => xn_apply m c t r i)
  · have ht := t.isLt
    have hl : t.val - 1 < cfg0.N := Nat.lt_of_le_of_lt (Nat.sub_le _ _) t.isLt
    refine (congrFun (out_B m c t h0) _).trans (out_apply m c t _ _ r j fun i => ?_)
    refine (congrFun (xn_A m c ⟨t.val - 1, hl⟩ (show (t.val - 1) % 2 = 0 by omega)) _).trans ?_
    refine (xn_apply m c ⟨t.val - 1, hl⟩ r i).trans ?_
    refine congrArg (fun q => norm (X m c q) (G m c) i) (Fin.ext ?_)
    show 1024 * ((t.val - 1) / 2) + r.val = 1024 * (t.val / 2) + r.val
    omega

/-- The result at row `q`, column `j` of the kernel. -/
theorem result (q : Fin 16384) (j : Fin 3072) : (Value.G3 m c : Vec Ideal S16384x3072 .bf16) (ix2 q j) = out (X m c q) (G m c) (fun k => W m c k j) := by
  have hq := q.isLt
  have hj := j.isLt
  have hp : Value.pt3Of (ix2 q j) = 2 * (q.val / 1024) + j.val / 1536 := by
    show 2 * (q.val / 1024 - 0) + 1 * (j.val / 1536 - 0) = _
    omega
  have hN : 2 * (q.val / 1024) + j.val / 1536 < cfg0.N := by rw [show cfg0.N = 32 from N_0]; omega
  have hr : q.val % 1024 < 1024 := Nat.mod_lt _ (by decide)
  have hc : j.val % 1536 < 1536 := Nat.mod_lt _ (by decide)
  have hl : Value.loc3Of (ix2 q j) = ix2 ⟨q.val % 1024, hr⟩ ⟨j.val % 1536, hc⟩ := by
    funext a
    refine Fin.ext ?_
    match a with
    | ⟨0, _⟩ => rfl
    | ⟨1, _⟩ => rfl
  unfold Value.G3
  rw [dif_pos (by rw [hp]; exact hN), Value.fold0_congr m c _ _ _ (by rw [Nat.zero_add]; exact hN) hp, hl,
    ← Value.outsAt0_sweep m c _ hN]
  refine (point m c ⟨2 * (q.val / 1024) + j.val / 1536, hN⟩ ⟨q.val % 1024, hr⟩ ⟨j.val % 1536, hc⟩).trans ?_
  refine congrArg₂ (fun a b => out (X m c a) (G m c) (fun k => W m c k b)) (Fin.ext ?_) (Fin.ext ?_)
  · show 1024 * ((2 * (q.val / 1024) + j.val / 1536) / 2) + q.val % 1024 = q.val
    omega
  · show 1536 * ((2 * (q.val / 1024) + j.val / 1536) % 2) + j.val % 1536 = j.val
    omega

end AtIdeal

end Cert.Kernel4Ideal.Proj
-- ==== Proof.ProjRef4.lean ====
/- The reference's rows: each operation of its program read at an index. -/
module

public import proofs.«01_k».proof.Proof.Gen.Reference4Ideal.Read
public import proofs.«01_k».proof.Proof.ProjSpec

@[expose] public section

set_option maxRecDepth 16384

noncomputable section

namespace Cert.Reference4Ideal.Proj

open Cert.Reference4Ideal Cert.Reference4Ideal.Gen Cert.Reference4Ideal.Read Idealize.ShloMosaic Idealize.ShloMosaic.TcCoe Idealize.SL.Sem
open Cert.Proj (norm out)

variable (x0 : Vec Ideal S16384x1024 .f32) (x1 : Vec Ideal S2x1024 .f32) (x2 : Vec Ideal S1x1024x3072 .f32)

theorem norm_apply (q : Fin 16384) (j : Fin 1024) :
    val_main_v14 x0 x1 (ix2 q j) = norm (fun j => x0 (ix2 q j)) (fun j => x1 (ix2 1 j)) j := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [] <;> rfl

theorem out_apply (q : Fin 16384) (j : Fin 3072) :
    val_main_v17 x0 x1 x2 (ix2 q j) = out (fun j => x0 (ix2 q j)) (fun j => x1 (ix2 1 j)) (fun k => x2 (ix3 0 k j)) := by
  unfold val_main_v17 val_main_v16 val_main_v15
  pointwise []
  simp only [norm_apply]
  rfl

end Cert.Reference4Ideal.Proj
-- ==== Proof.ProjAlg4.lean ====
/- The kernel's rows are the reference's rows. -/
module

public import proofs.«01_k».proof.Defs
public import proofs.«01_k».proof.Proof.Proj4
public import proofs.«01_k».proof.Proof.ProjRef4

@[expose] public section

set_option maxRecDepth 16384

noncomputable section

namespace Cert.ProjAlg4

open Idealize.ShloMosaic Idealize.ShloMosaic.TcCoe Idealize.SL.Sem

/-- From memories that agree on the arguments the reference's result is the array the kernel leaves. -/
theorem result_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    (Cert.Reference4Ideal.Read.val_main_v17 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) : Vec Ideal Cert.Kernel4Ideal.S16384x3072 .bf16) = Cert.Kernel4Ideal.Value.G3 m c := by
  obtain ⟨h0, h1, h2⟩ := h
  rw [h0, h1, h2]
  funext i
  idx_vars i
  exact (Cert.Reference4Ideal.Proj.out_apply _ _ _ _ _).trans (Cert.Kernel4Ideal.Proj.result m c _ _).symm

/-- The program runs, its arguments end unchanged, every counter at zero. -/
theorem frame_r : Cert.quiescent_Reference4Ideal := fun m ρ _ =>
  (θ_run _ _ _).mono (fun r h => ⟨fun c => (h c).2, Idealize.ShloMosaic.sem_eq_zero_of_no_sems (by decide) r.2⟩) (Cert.Reference4Ideal.Value.run (F := Ideal) m ρ)

/-- The two programs leave equal results and unchanged arguments. -/
theorem algebraic : Cert.algebraic_Kernel4Ideal_Reference4Ideal := fun m ρ m' ρ' _ hag =>
  ⟨fun c => Cert.Kernel4Ideal.Value.G3 m c, Cert.Kernel4Ideal.Value.run m ρ,
    (θ_run _ _ _).mono (fun r h c => ⟨((h c).1).trans ((Cert.Reference4Ideal.Read.val_main_v17_eq (F := Ideal) _ _ _).trans (result_eq m m' c (hag c))), (h c).2⟩) (Cert.Reference4Ideal.Value.run m' ρ')⟩

end Cert.ProjAlg4
-- ==== Proof.Even5I.lean ====
/- The run of the even layer's input projection: grid point `t` works on the 1024 rows of block `t / 2` and on the
   1280 columns of block `t % 2` of the wide result. At the first of a block's two points the rows are normalized and
   kept, and the five narrow results are written into their buffers; they leave for memory after the second. -/
module

public import proofs.«01_k».proof.Proof.Gen.Kernel5Ideal.Skeleton
public import proofs.«01_k».proof.Proof.Gen.Kernel5Ideal.Frame
public import Idealize.ShloMosaic.Lib.Claim
public import Idealize.ShloMosaic.Lib.Pipeline.Value

@[expose] public section

set_option maxRecDepth 16384

noncomputable section

namespace Cert.Kernel5Ideal.Even

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := by
  funext a
  match a with
  | 0 => rfl
  | 1 => rfl

/-- The points at which the rows are normalized are the even ones. -/
theorem first_iff : ∀ t : Fin cfg0.N, k0_cond1 (grid0.coords t) = 1#1 ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [k0_cond1, e0, e1]
    word_cmp : ∀ t : Fin grid0.N, k0_cond1 (grid0.coords t) = 1#1 ↔ t.val % 2 = 0)

/-- One store of a whole buffer leaves its payload, whatever the buffer held. -/
theorem read_store {S : Shape} {e : EltTy} {off : Fin S.rank → Nat} (h : off = fun _ => 0)
    (inb : ∀ a, off a + S.size a ≤ S.size a) {sp : Space} (v : View sig .tc sp S e) (f : v.ty.Contents (Elt F)) (w : S.Idx → Elt F e) :
    v.read (Elt F) (v.writes (Elt F) f [⟨Rect.unit off S.size inb, w⟩]) = w := by
  subst h
  exact View.read_writes_whole v f w

/-! A load of a whole buffer reads what it holds. -/
theorem ld_a {e : EltTy} (X : Vec F S1024x1024 e) (h) : View.ld (Val := Elt F) X (Rect.unit (s := S1024x1024) ![0, 0] ![1024, 1024] h) = X :=
  View.ld_unit_zero (S := S1024x1024) hz h X
theorem ld_b {e : EltTy} (X : Vec F S1x1024 e) (h) : View.ld (Val := Elt F) X (Rect.unit (s := S1x1024) ![0, 0] ![1, 1024] h) = X :=
  View.ld_unit_zero (S := S1x1024) hz h X
theorem ld_c {e : EltTy} (X : Vec F S1024x1280 e) (h) : View.ld (Val := Elt F) X (Rect.unit (s := S1024x1280) ![0, 0] ![1024, 1280] h) = X :=
  View.ld_unit_zero (S := S1024x1280) hz h X
theorem ld_d {e : EltTy} (X : Vec F S1024x384 e) (h) : View.ld (Val := Elt F) X (Rect.unit (s := S1024x384) ![0, 0] ![1024, 384] h) = X :=
  View.ld_unit_zero (S := S1024x384) hz h X

set_option maxHeartbeats 1000000 in
/-- The body at the first of a block's two points. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1280 .bf16) (harg4 : arg4.IsWhole) (arg5 : Memref sig .tc .vmem S1024x384 .bf16) (harg5 : arg5.IsWhole) (arg6 : Memref sig .tc .vmem S1024x1280 .bf16) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x128 .f32) (harg11 : arg11.IsWhole) (arg12 : Memref sig .tc .vmem S1024x1024 .bf16) (harg12 : arg12.IsWhole)
    (hc : k0_cond1 i = 1#1) (x0 : Vec F S1024x1024 .f32) (x1 : Vec F S1x1024 .f32) (x2 : Vec F S1024x1280 .bf16) (x3 : Vec F S1024x384 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 (k0_pay3 x0 x1) x2) ∗ owns (c : Thread nD τ) arg7 fullShare (k0_pay5 x0 x1 x3)
            ∗ owns (c : Thread nD τ) arg8 fullShare (k0_pay6 x0 x1 x3) ∗ owns (c : Thread nD τ) arg9 fullShare (k0_pay7 x0 x1 x3)
            ∗ owns (c : Thread nD τ) arg10 fullShare (k0_pay8 x0 x1 x3) ∗ owns (c : Thread nD τ) arg11 fullShare (k0_pay9 x0 x1 x3)
            ∗ owns (c : Thread nD τ) arg12 fullShare (k0_pay3 x0 x1)) -∗ K ⟨⟩))
      ⊢ wp frame (wpE (defs₀ (F := F)) Variants.none c none) E (cc0_in_proj_even i arg2 harg2 arg3 harg3 arg4 harg4 arg5 harg5 arg6 harg6 arg7 harg7 arg8 harg8 arg9 harg9 arg10 harg10 arg11 harg11 arg12 harg12) K := by
  simp only [cc0_in_proj_even_eq_skeleton]; unfold cc0_in_proj_even_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (read_store hz _ _ _ _).trans ?_
    simp only [View.readAt_eq_ld, harg2.read_unread, harg3.read_unread, harg4.read_unread, harg5.read_unread,
      ld_a, ld_b, ld_c, ld_d]
    rw [View.readCov_unit_zero _ hz]
  isplitl [H5]
  · iexists _; isplitr
    swap; · iexact H5
    ipureintro
    sl_unfold_words
    refine (read_store hz _ _ _ _).trans ?_
    simp only [View.readAt_eq_ld, harg2.read_unread, harg3.read_unread, harg4.read_unread, harg5.read_unread,
      ld_a, ld_b, ld_c, ld_d]
  isplitl [H6]
  · iexists _; isplitr
    swap; · iexact H6
    ipureintro
    sl_unfold_words
    refine (read_store hz _ _ _ _).trans ?_
    simp only [View.readAt_eq_ld, harg2.read_unread, harg3.read_unread, harg4.read_unread, harg5.read_unread,
      ld_a, ld_b, ld_c, ld_d]
  isplitl [H7]
  · iexists _; isplitr
    swap; · iexact H7
    ipureintro
    sl_unfold_words
    refine (read_store hz _ _ _ _).trans ?_
    simp only [View.readAt_eq_ld, harg2.read_unread, harg3.read_unread, harg4.read_unread, harg5.read_unread,
      ld_a, ld_b, ld_c, ld_d]
  isplitl [H8]
  · iexists _; isplitr
    swap; · iexact H8
    ipureintro
    sl_unfold_words
    refine (read_store hz _ _ _ _).trans ?_
    simp only [View.readAt_eq_ld, harg2.read_unread, harg3.read_unread, harg4.read_unread, harg5.read_unread,
      ld_a, ld_b, ld_c, ld_d]
  isplitl [H9]
  · iexists _; isplitr
    swap; · iexact H9
    ipureintro
    sl_unfold_words
    refine (read_store hz _ _ _ _).trans ?_
    simp only [View.readAt_eq_ld, harg2.read_unread, harg3.read_unread, harg4.read_unread, harg5.read_unread,
      ld_a, ld_b, ld_c, ld_d]
  iexists _; isplitr
  swap; · iexact HS
  ipureintro
  sl_unfold_words
  refine (read_store hz _ _ _ _).trans ?_
  simp only [View.readAt_eq_ld, harg2.read_unread, harg3.read_unread,
    ld_a, ld_b]

set_option maxHeartbeats 1000000 in
/-- The body at the second of a block's two points. -/
theorem run_second (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1280 .bf16) (harg4 : arg4.IsWhole) (arg5 : Memref sig .tc .vmem S1024x384 .bf16) (harg5 : arg5.IsWhole) (arg6 : Memref sig .tc .vmem S1024x1280 .bf16) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x128 .f32) (harg11 : arg11.IsWhole) (arg12 : Memref sig .tc .vmem S1024x1024 .bf16) (harg12 : arg12.IsWhole)
    (hc : ¬k0_cond1 i = 1#1) (x0 : Vec F S1024x1024 .f32) (x1 : Vec F S1x1024 .f32) (x2 : Vec F S1024x1280 .bf16) (x3 : Vec F S1024x384 .bf16)
    (x5 x6 x7 x8 : Vec F S1024x64 .f32) (x9 : Vec F S1024x128 .f32) (xs : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare x5 ∗ owns (c : Thread nD τ) arg8 fullShare x6
        ∗ owns (c : Thread nD τ) arg9 fullShare x7 ∗ owns (c : Thread nD τ) arg10 fullShare x8 ∗ owns (c : Thread nD τ) arg11 fullShare x9
        ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 xs x2) ∗ owns (c : Thread nD τ) arg7 fullShare x5
            ∗ owns (c : Thread nD τ) arg8 fullShare x6 ∗ owns (c : Thread nD τ) arg9 fullShare x7
            ∗ owns (c : Thread nD τ) arg10 fullShare x8 ∗ owns (c : Thread nD τ) arg11 fullShare x9
            ∗ owns (c : Thread nD τ) arg12 fullShare xs) -∗ K ⟨⟩))
      ⊢ wp frame (wpE (defs₀ (F := F)) Variants.none c none) E (cc0_in_proj_even i arg2 harg2 arg3 harg3 arg4 harg4 arg5 harg5 arg6 harg6 arg7 harg7 arg8 harg8 arg9 harg9 arg10 harg10 arg11 harg11 arg12 harg12) K := by
  simp only [cc0_in_proj_even_eq_skeleton]; unfold cc0_in_proj_even_skel
  unfold owns
  iintro ⟨H0, H1, ⟨%f2, %hf2, H2⟩, H3, ⟨%d4, %f4, -, H4⟩, H5, H6, H7, H8, H9, ⟨%fs, %hfs, HS⟩, Hk⟩
  obtain rfl := harg4.eq_unread hf2; obtain rfl := harg12.eq_unread hfs
  sl_exec (disch := first | sl_exact hc)
  sl_step
  iapply Hk
  isplitl [H0]; · iexact H0
  isplitl [H1]; · iexact H1
  isplitl [H2]
  · iexists _; isplitr; · ipureintro; exact harg4.read_unread _
    iexact H2
  isplitl [H3]; · iexact H3
  isplitl [H4]
  · iexists _; isplitr
    swap; · iexact H4
    ipureintro
    sl_unfold_words
    refine (read_store hz _ _ _ _).trans ?_
    simp only [View.readAt_eq_ld, harg4.read_unread, harg12.read_unread,
      ld_a, ld_c]
  isplitl [H5]; · iexact H5
  isplitl [H6]; · iexact H6
  isplitl [H7]; · iexact H7
  isplitl [H8]; · iexact H8
  isplitl [H9]; · iexact H9
  iexists _; isplitr; · ipureintro; exact harg12.read_unread _
  iexact HS

/-! ## The proof data -/

/-- The first point of the pair that point `t` belongs to. -/
def ev (t : Fin cfg0.N) : Fin cfg0.N := ⟨2 * (t.val / 2), by have := t.isLt; omega⟩
theorem ev_even (t : Fin cfg0.N) (h : t.val % 2 = 0) : ev t = t := Fin.ext (show 2 * (t.val / 2) = t.val by omega)
theorem ev_pred (t : Fin cfg0.N) (h : ¬t.val % 2 = 0) : ev ⟨t.val - 1, Nat.lt_of_le_of_lt (Nat.sub_le _ _) t.isLt⟩ = ev t :=
  Fin.ext (show 2 * ((t.val - 1) / 2) = 2 * (t.val / 2) by omega)

/-- The rows kept after point `t`, and what each result's buffer holds then. -/
def rows (c : Dev nD) (t : Fin cfg0.N) : Vec F S1024x1024 .bf16 := k0_pay3 (iblk m c 0 (ev t)) (iblk m c 1 (ev t))
def o4 (c : Dev nD) (t : Fin cfg0.N) : Vec F S1024x1280 .bf16 := k0_pay1 (rows m c t) (iblk m c 2 t)
def o5 (c : Dev nD) (t : Fin cfg0.N) : Vec F S1024x64 .f32 := k0_pay5 (iblk m c 0 (ev t)) (iblk m c 1 (ev t)) (iblk m c 3 (ev t))
def o6 (c : Dev nD) (t : Fin cfg0.N) : Vec F S1024x64 .f32 := k0_pay6 (iblk m c 0 (ev t)) (iblk m c 1 (ev t)) (iblk m c 3 (ev t))
def o7 (c : Dev nD) (t : Fin cfg0.N) : Vec F S1024x64 .f32 := k0_pay7 (iblk m c 0 (ev t)) (iblk m c 1 (ev t)) (iblk m c 3 (ev t))
def o8 (c : Dev nD) (t : Fin cfg0.N) : Vec F S1024x64 .f32 := k0_pay8 (iblk m c 0 (ev t)) (iblk m c 1 (ev t)) (iblk m c 3 (ev t))
def o9 (c : Dev nD) (t : Fin cfg0.N) : Vec F S1024x128 .f32 := k0_pay9 (iblk m c 0 (ev t)) (iblk m c 1 (ev t)) (iblk m c 3 (ev t))

/-- The scratch between points: at anything at first, then at the rows kept. -/
def kept (c : Dev nD) : (n : ℕ) → n ≤ cfg0.N → sProp 𝕄
  | 0, _ => Pipeline.ΦA spec0 c
  | n + 1, hn => iprop(iprop(owns (c : Thread nD τ) (Memref.whole cc0_scratch0) fullShare (rows m c ⟨n, hn⟩)) ∗ (∃ r, prngReg c r))

theorem kept_zero (c : Dev nD) (n : ℕ) (h : n ≤ cfg0.N) (hz : n = 0) : kept m c n h = Pipeline.ΦA spec0 c := by
  subst hz; rfl
theorem kept_succ (c : Dev nD) (t : Fin cfg0.N) :
    kept m c (t.val + 1) t.isLt = iprop(iprop(owns (c : Thread nD τ) (Memref.whole cc0_scratch0) fullShare (rows m c t)) ∗ (∃ r, prngReg c r)) := rfl
theorem kept_pos (c : Dev nD) (n : ℕ) (h : n ≤ cfg0.N) (hz : n ≠ 0) :
    kept m c n h = iprop(iprop(owns (c : Thread nD τ) (Memref.whole cc0_scratch0) fullShare (rows m c ⟨n - 1, by omega⟩)) ∗ (∃ r, prngReg c r)) := by
  cases n with
  | zero => exact absurd rfl hz
  | succ n => rfl
theorem rest_eq (c : Dev nD) : (Pipeline.ΦA spec0 c : sProp 𝕄)
    = iprop(iprop((∃ d, owns (c : Thread nD τ) (Memref.whole cc0_scratch0) fullShare d)) ∗ (∃ r, prngReg c r)) := by
  unfold Pipeline.ΦA; rw [scopedRest0_eq]; simp only [owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => o4 m c t
    | ⟨5, _⟩ => o5 m c t
    | ⟨6, _⟩ => o6 m c t
    | ⟨7, _⟩ => o7 m c t
    | ⟨8, _⟩ => o8 m c t
    | ⟨9, _⟩ => o9 m c t
  Φ t := kept m c t.val (Nat.le_of_lt_succ t.isLt)
  q _ := fullShare
  owed _ := 0

theorem A_eq (c : Dev nD) (w : Fin cfg0.W) : (dats m 0 c).A w = V m c (Pipeline.arrRef spec0 w) := by
  dsimp only [dats]
theorem kept_castSucc (c : Dev nD) (t : Fin cfg0.N) : (dats m 0 c).Φ t.castSucc = kept m c t.val (Nat.le_of_lt t.isLt) := by
  dsimp only [dats]; exact Pipeline.Dat.Φ_castSucc (kept m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = o4 m c t := by dsimp only [dats]
theorem after_5 (c : Dev nD) (t : Fin cfg0.N) : (dats m 0 c).after 5 t = o5 m c t := by dsimp only [dats]
theorem after_6 (c : Dev nD) (t : Fin cfg0.N) : (dats m 0 c).after 6 t = o6 m c t := by dsimp only [dats]
theorem after_7 (c : Dev nD) (t : Fin cfg0.N) : (dats m 0 c).after 7 t = o7 m c t := by dsimp only [dats]
theorem after_8 (c : Dev nD) (t : Fin cfg0.N) : (dats m 0 c).after 8 t = o8 m c t := by dsimp only [dats]
theorem after_9 (c : Dev nD) (t : Fin cfg0.N) : (dats m 0 c).after 9 t = o9 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- A window whose block leaves, or whose buffer the body writes, ends the point at the proof data's contents. -/
theorem leaves_eq (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [show cfg0.idle w (cfg0.grid.coords t) = false from h]
  · cases hi : cfg0.idle w (cfg0.grid.coords t)
    · rfl
    · simp only [h]

theorem busy (t : Fin cfg0.N) (h : t.val % 2 = 0) : (!(k0_cond1 (grid0.coords t) == 1#1)) = false := by
  rw [(first_iff t).mpr h]; rfl

theorem leaves_5 (c : Dev nD) (t : Fin cfg0.N) : (dats m 0 c).leavesExact 5 t = owns (c : Thread nD τ) (st0_5 t) fullShare (o5 m c t) := by
  refine (leaves_eq m c 5 t ?_).trans (congrArg _ (after_5 m c t))
  by_cases h : t.val % 2 = 0
  · exact Or.inl (busy t h)
  · exact Or.inr ((flush0_5 t).mpr (by omega))
/-- At the second point the buffer still holds what the first left. -/
theorem before_5 (c : Dev nD) (t : Fin cfg0.N) (h : ¬t.val % 2 = 0) (d) : (dats m 0 c).before 5 t d = o5 m c t := by
  have hp : (cfg0.win 5).flush ⟨t.val - 1, Nat.lt_of_le_of_lt (Nat.sub_le _ _) t.isLt⟩ = false :=
    Bool.eq_false_iff.mpr fun e => by have := (flush0_5 _).mp e; simp only at this; omega
  rw [(dats m 0 c).before_of_pos 5 t (fun e => h (by rw [e])) rfl, hp, if_neg Bool.false_ne_true]
  unfold Dat.left
  rw [show cfg0.idle 5 (cfg0.grid.coords ⟨t.val - 1, Nat.lt_of_le_of_lt (Nat.sub_le _ _) t.isLt⟩) = false from
    busy ⟨t.val - 1, Nat.lt_of_le_of_lt (Nat.sub_le _ _) t.isLt⟩ (show (t.val - 1) % 2 = 0 by omega)]
  show (dats m 0 c).after 5 ⟨t.val - 1, Nat.lt_of_le_of_lt (Nat.sub_le _ _) t.isLt⟩ = _
  rw [after_5]
  unfold o5
  rw [ev_pred t h]
theorem leaves_6 (c : Dev nD) (t : Fin cfg0.N) : (dats m 0 c).leavesExact 6 t = owns (c : Thread nD τ) (st0_6 t) fullShare (o6 m c t) := by
  refine (leaves_eq m c 6 t ?_).trans (congrArg _ (after_6 m c t))
  by_cases h : t.val % 2 = 0
  · exact Or.inl (busy t h)
  · exact Or.inr ((flush0_6 t).mpr (by omega))
/-- At the second point the buffer still holds what the first left. -/
theorem before_6 (c : Dev nD) (t : Fin cfg0.N) (h : ¬t.val % 2 = 0) (d) : (dats m 0 c).before 6 t d = o6 m c t := by
  have hp : (cfg0.win 6).flush ⟨t.val - 1, Nat.lt_of_le_of_lt (Nat.sub_le _ _) t.isLt⟩ = false :=
    Bool.eq_false_iff.mpr fun e => by have := (flush0_6 _).mp e; simp only at this; omega
  rw [(dats m 0 c).before_of_pos 6 t (fun e => h (by rw [e])) rfl, hp, if_neg Bool.false_ne_true]
  unfold Dat.left
  rw [show cfg0.idle 6 (cfg0.grid.coords ⟨t.val - 1, Nat.lt_of_le_of_lt (Nat.sub_le _ _) t.isLt⟩) = false from
    busy ⟨t.val - 1, Nat.lt_of_le_of_lt (Nat.sub_le _ _) t.isLt⟩ (show (t.val - 1) % 2 = 0 by omega)]
  show (dats m 0 c).after 6 ⟨t.val - 1, Nat.lt_of_le_of_lt (Nat.sub_le _ _) t.isLt⟩ = _
  rw [after_6]
  unfold o6
  rw [ev_pred t h]
theorem leaves_7 (c : Dev nD) (t : Fin cfg0.N) : (dats m 0 c).leavesExact 7 t = owns (c : Thread nD τ) (st0_7 t) fullShare (o7 m c t) := by
  refine (leaves_eq m c 7 t ?_).trans (congrArg _ (after_7 m c t))
  by_cases h : t.val % 2 = 0
  · exact Or.inl (busy t h)
  · exact Or.inr ((flush0_7 t).mpr (by omega))
/-- At the second point the buffer still holds what the first left. -/
theorem before_7 (c : Dev nD) (t : Fin cfg0.N) (h : ¬t.val % 2 = 0) (d) : (dats m 0 c).before 7 t d = o7 m c t := by
  have hp : (cfg0.win 7).flush ⟨t.val - 1, Nat.lt_of_le_of_lt (Nat.sub_le _ _) t.isLt⟩ = false :=
    Bool.eq_false_iff.mpr fun e => by have := (flush0_7 _).mp e; simp only at this; omega
  rw [(dats m 0 c).before_of_pos 7 t (fun e => h (by rw [e])) rfl, hp, if_neg Bool.false_ne_true]
  unfold Dat.left
  rw [show cfg0.idle 7 (cfg0.grid.coords ⟨t.val - 1, Nat.lt_of_le_of_lt (Nat.sub_le _ _) t.isLt⟩) = false from
    busy ⟨t.val - 1, Nat.lt_of_le_of_lt (Nat.sub_le _ _) t.isLt⟩ (show (t.val - 1) % 2 = 0 by omega)]
  show (dats m 0 c).after 7 ⟨t.val - 1, Nat.lt_of_le_of_lt (Nat.sub_le _ _) t.isLt⟩ = _
  rw [after_7]
  unfold o7
  rw [ev_pred t h]
theorem leaves_8 (c : Dev nD) (t : Fin cfg0.N) : (dats m 0 c).leavesExact 8 t = owns (c : Thread nD τ) (st0_8 t) fullShare (o8 m c t) := by
  refine (leaves_eq m c 8 t ?_).trans (congrArg _ (after_8 m c t))
  by_cases h : t.val % 2 = 0
  · exact Or.inl (busy t h)
  · exact Or.inr ((flush0_8 t).mpr (by omega))
/-- At the second point the buffer still holds what the first left. -/
theorem before_8 (c : Dev nD) (t : Fin cfg0.N) (h : ¬t.val % 2 = 0) (d) : (dats m 0 c).before 8 t d = o8 m c t := by
  have hp : (cfg0.win 8).flush ⟨t.val - 1, Nat.lt_of_le_of_lt (Nat.sub_le _ _) t.isLt⟩ = false :=
    Bool.eq_false_iff.mpr fun e => by have := (flush0_8 _).mp e; simp only at this; omega
  rw [(dats m 0 c).before_of_pos 8 t (fun e => h (by rw [e])) rfl, hp, if_neg Bool.false_ne_true]
  unfold Dat.left
  rw [show cfg0.idle 8 (cfg0.grid.coords ⟨t.val - 1, Nat.lt_of_le_of_lt (Nat.sub_le _ _) t.isLt⟩) = false from
    busy ⟨t.val - 1, Nat.lt_of_le_of_lt (Nat.sub_le _ _) t.isLt⟩ (show (t.val - 1) % 2 = 0 by omega)]
  show (dats m 0 c).after 8 ⟨t.val - 1, Nat.lt_of_le_of_lt (Nat.sub_le _ _) t.isLt⟩ = _
  rw [after_8]
  unfold o8
  rw [ev_pred t h]
theorem leaves_9 (c : Dev nD) (t : Fin cfg0.N) : (dats m 0 c).leavesExact 9 t = owns (c : Thread nD τ) (st0_9 t) fullShare (o9 m c t) := by
  refine (leaves_eq m c 9 t ?_).trans (congrArg _ (after_9 m c t))
  by_cases h : t.val % 2 = 0
  · exact Or.inl (busy t h)
  · exact Or.inr ((flush0_9 t).mpr (by omega))
/-- At the second point the buffer still holds what the first left. -/
theorem before_9 (c : Dev nD) (t : Fin cfg0.N) (h : ¬t.val % 2 = 0) (d) : (dats m 0 c).before 9 t d = o9 m c t := by
  have hp : (cfg0.win 9).flush ⟨t.val - 1, Nat.lt_of_le_of_lt (Nat.sub_le _ _) t.isLt⟩ = false :=
    Bool.eq_false_iff.mpr fun e => by have := (flush0_9 _).mp e; simp only at this; omega
  rw [(dats m 0 c).before_of_pos 9 t (fun e => h (by rw [e])) rfl, hp, if_neg Bool.false_ne_true]
  unfold Dat.left
  rw [show cfg0.idle 9 (cfg0.grid.coords ⟨t.val - 1, Nat.lt_of_le_of_lt (Nat.sub_le _ _) t.isLt⟩) = false from
    busy ⟨t.val - 1, Nat.lt_of_le_of_lt (Nat.sub_le _ _) t.isLt⟩ (show (t.val - 1) % 2 = 0 by omega)]
  show (dats m 0 c).after 9 ⟨t.val - 1, Nat.lt_of_le_of_lt (Nat.sub_le _ _) t.isLt⟩ = _
  rw [after_9]
  unfold o9
  rw [ev_pred t h]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, leaves_5, leaves_6, leaves_7, leaves_8, leaves_9]
  rw [show (dats m 0 c).owesAt () t.succ = (dats m 0 c).owesAt () t.castSucc from rfl,
    after_0, after_1, after_2, after_3, after_4]
  rw [show (dats m 0 c).Φ t.succ = kept m c (t.val + 1) t.isLt from rfl, kept_succ]
  by_cases h0 : t.val % 2 = 0
  · have hs : kept m c t.val (Nat.le_of_lt t.isLt) ⊢ iprop(iprop((∃ d, owns (c : Thread nD τ) (Memref.whole cc0_scratch0) fullShare d)) ∗ (∃ r, prngReg c r)) := by
      by_cases hz : t.val = 0
      · rw [kept_zero m c _ _ hz, rest_eq]
      · rw [kept_pos m c _ _ hz]
        iintro ⟨HS, Hg⟩
        isplitl [HS]
        · iexists _; iexact HS
        iexact Hg
    rw [kept_castSucc m c t]
    unfold o4 o5 o6 o7 o8 o9 rows
    rw [ev_even t h0]
    iintro ⟨Hs, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave Hs' := hs $$ Hs
    icases Hs' with ⟨HS, Hg⟩
    iapply (run_first c (grid0.coords t) _ _ _ _ _ _ _ _ _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := fun h => h0 (by rw [h])
    have hr : rows m c ⟨t.val - 1, Nat.lt_of_le_of_lt (Nat.sub_le _ _) t.isLt⟩ = rows m c t := by unfold rows; rw [ev_pred t h0]
    rw [kept_castSucc m c t, kept_pos m c _ _ hz, hr]
    simp only [before_5 m c t h0, before_6 m c t h0, before_7 m c t h0, before_8 m c t h0, before_9 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_second c (grid0.coords t) _ _ _ _ _ _ _ _ _ _ _ _ _ _ _ _ _ _ _ _ _ _ (fun h => h0 ((first_iff t).mp h)) (iblk m c 0 t) (iblk m c 1 t) (iblk m c 2 t) (iblk m c 3 t)
      (o5 m c t) (o6 m c t) (o7 m c t) (o8 m c t) (o9 m c t) (rows m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = kept m c 0 (Nat.zero_le _) from rfl, kept_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = kept m c (Fin.last cfg0.N).val (Nat.le_of_lt_succ (Fin.last cfg0.N).isLt) from rfl,
    kept_pos m c _ _ (by rw [Fin.val_last]; have : cfg0.N = 32 := N_0; omega), rest_eq]
  iintro ⟨HS, Hg⟩
  isplitl [HS]
  · iexists _; iexact HS
  iexact Hg

/-! ## The run -/

set_option backward.isDefEq.respectTransparency.types false in
/-- Every execution ends with every array at what the proof data says, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel5Ideal.Even
-- ==== Proof.Even5V.lean ====
/- The results of the even layer's input projection as the kernel computes them. -/
module

public import proofs.«01_k».proof.Proof.Even5I
public import proofs.«01_k».proof.Proof.EvenSpec

@[expose] public section

set_option maxRecDepth 16384

noncomputable section

namespace Cert.Kernel5Ideal.Even

open Cert.Kernel5Ideal Cert.Kernel5Ideal.Gen Idealize.ShloMosaic Idealize.ShloMosaic.TcCoe Idealize.SL.Sem
open Cert.Proj (norm out wide gate)

variable (m : (ℓ : Loc nD τ sig) → Buf (Elt Ideal) ℓ) (ρ : Dev nD → PrngReg) (c : Dev nD)

/-- The argument arrays of device `c`. -/
abbrev X : Fin 16384 → Fin 1024 → EReal := fun r j => m ((c : Thread nD τ).loc main_arg0) (ix2 r j)
abbrev G : Fin 1024 → EReal := fun j => m ((c : Thread nD τ).loc main_arg1) (ix2 0 j)
abbrev W : Fin 1024 → Fin 2840 → EReal := fun k j => m ((c : Thread nD τ).loc main_arg2) (ix3 0 k j)
/-- The weights of the narrow results, side by side, and zeros after them. -/
def A (k : Fin 1024) (j : Fin 384) : EReal :=
  if h : j.val < 256 then W m c k ⟨512 + j.val, by omega⟩ else if h' : j.val < 280 then W m c k ⟨1024 + j.val, by omega⟩ else 0

theorem W_at (k : Fin 1024) (j j' : Fin 2840) (h : j.val = j'.val) :
    (m ((c : Thread nD τ).loc main_arg2) : Vec Ideal S1x1024x2840 .f32) (ix3 0 k j) = W m c k j' := by rw [show j = j' from Fin.ext h]

/-! What the host prepares. -/
theorem V_g (j : Fin 1024) : (V m c main_v13 : Vec Ideal S1x1024 .f32) (ix2 0 j) = G m c j := by
  show (StableHlo.after hostOps0 (fun b => m (c, b)) (Proc.devRef .tc main_v13) : Vec Ideal S1x1024 .f32) _ = _
  after_results_simp
  pointwise [] <;> rfl

theorem V_w (k : Fin 1024) (j : Fin 2560) : (V m c main_v5 : Vec Ideal S1024x2560 .bf16) (ix2 k j) = W m c k (wide j) := by
  show (StableHlo.after hostOps0 (fun b => m (c, b)) (Proc.devRef .tc main_v5) : Vec Ideal S1024x2560 .bf16) _ = _
  after_results_simp
  (try dsimp only [Matrix.cons_val])
  (try after_results_simp)
  pointwise []
  have hj := j.isLt
  repeat' split
  all_goals
    (try after_results_simp)
    pointwise []
    refine W_at m c k _ _ ?_
    unfold wide
    dsimp only
    repeat' split
    all_goals omega

theorem V_a (k : Fin 1024) (j : Fin 384) : (V m c main_v10 : Vec Ideal S1024x384 .bf16) (ix2 k j) = A m c k j := by
  show (StableHlo.after hostOps0 (fun b => m (c, b)) (Proc.devRef .tc main_v10) : Vec Ideal S1024x384 .bf16) _ = _
  after_results_simp
  (try dsimp only [Matrix.cons_val])
  (try after_results_simp)
  pointwise []
  have hj := j.isLt
  unfold A
  by_cases h : j.val < 256
  · rw [dif_pos h, dif_pos h]
    after_results_simp
    pointwise []
  · rw [dif_neg h, dif_neg h]
    by_cases h' : j.val < 280
    · rw [dif_pos (show j.val - 256 < 24 by omega), dif_pos h']
      after_results_simp
      pointwise []
      exact W_at m c k _ _ (by show 1280 + (j.val - 256) = 1024 + j.val; omega)
    · rw [dif_neg (show ¬j.val - 256 < 24 by omega), dif_neg h']
      after_results_simp
      pointwise []

/-- The printed index maps, decided over the grid. -/
theorem idx_in : ∀ t : Fin cfg0.N,
    (win0_0.index t (0 : Fin 2) = t.val / 2 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 2)
    ∧ (win0_3.index t (0 : Fin 2) = 0 ∧ win0_3.index t (1 : Fin 2) = 0)
    ∧ (win0_4.index t (0 : Fin 2) = t.val / 2 ∧ win0_4.index t (1 : Fin 2) = t.val % 2) := by
  decide +kernel
theorem idx_out : ∀ t : Fin cfg0.N,
    (win0_5.index t (0 : Fin 2) = t.val / 2 ∧ win0_5.index t (1 : Fin 2) = 0)
    ∧ (win0_6.index t (0 : Fin 2) = t.val / 2 ∧ win0_6.index t (1 : Fin 2) = 0)
    ∧ (win0_7.index t (0 : Fin 2) = t.val / 2 ∧ win0_7.index t (1 : Fin 2) = 0)
    ∧ (win0_8.index t (0 : Fin 2) = t.val / 2 ∧ win0_8.index t (1 : Fin 2) = 0)
    ∧ (win0_9.index t (0 : Fin 2) = t.val / 2 ∧ win0_9.index t (1 : Fin 2) = 0) := by
  decide +kernel

theorem lt32 (t : Fin cfg0.N) : t.val < 32 := lt_of_lt_of_eq t.isLt N_0

/-- Row `r` of the block of rows of point `t`. -/
def row (t : Fin cfg0.N) (r : Fin 1024) : Fin 16384 := ⟨1024 * (t.val / 2) + r.val, by have := r.isLt; have := lt32 t; omega⟩
/-- Column `j` of the block of columns of point `t`. -/
def col (t : Fin cfg0.N) (j : Fin 1280) : Fin 2560 := ⟨1280 * (t.val % 2) + j.val, by have := j.isLt; omega⟩
theorem row_ev (t : Fin cfg0.N) (r : Fin 1024) : row (ev t) r = row t r :=
  Fin.ext (show 1024 * (2 * (t.val / 2) / 2) + r.val = 1024 * (t.val / 2) + r.val by omega)

/-! Each window's block, read from the argument arrays. -/
theorem blk0 (t : Fin cfg0.N) (r j : Fin 1024) : (iblk m c 0 t : Vec Ideal S1024x1024 .f32) (ix2 r j) = X m c (row t r) j := by
  obtain ⟨e0, e1⟩ := (idx_in t).1
  refine Eq.trans (congrArg (V m c main_arg0) (a₂ := (ix2 (row t r) j : S16384x1024.Idx)) ?_) (congrFun (V_main_arg0 m c) _)
  funext a
  refine Fin.ext ?_
  match a with
  | ⟨0, _⟩ => show win0_0.index t (0 : Fin 2) * 1024 + 1 * r.val = _; rw [e0]; show _ = 1024 * (t.val / 2) + r.val; omega
  | ⟨1, _⟩ => show win0_0.index t (1 : Fin 2) * 1024 + 1 * j.val = _; rw [e1]; show _ = j.val; omega

theorem blk1 (t : Fin cfg0.N) (j : Fin 1024) : (iblk m c 1 t : Vec Ideal S1x1024 .f32) (ix2 0 j) = G m c j := by
  obtain ⟨e0, e1⟩ := (idx_in t).2.1
  refine Eq.trans (congrArg (V m c main_v13) (a₂ := (ix2 0 j : S1x1024.Idx)) ?_) (V_g m c j)
  funext a
  refine Fin.ext ?_
  match a with
  | ⟨0, _⟩ => show win0_1.index t (0 : Fin 2) * 1 + 1 * 0 = _; rw [e0]; rfl
  | ⟨1, _⟩ => show win0_1.index t (1 : Fin 2) * 1024 + 1 * j.val = _; rw [e1]; show _ = j.val; omega

theorem blk2 (t : Fin cfg0.N) (k : Fin 1024) (j : Fin 1280) : (iblk m c 2 t : Vec Ideal S1024x1280 .bf16) (ix2 k j) = W m c k (wide (col t j)) := by
  obtain ⟨e0, e1⟩ := (idx_in t).2.2.1
  refine Eq.trans (congrArg (V m c main_v5) (a₂ := (ix2 k (col t j) : S1024x2560.Idx)) ?_) (V_w m c k _)
  funext a
  refine Fin.ext ?_
  match a with
  | ⟨0, _⟩ => show win0_2.index t (0 : Fin 2) * 1024 + 1 * k.val = _; rw [e0]; show _ = k.val; omega
  | ⟨1, _⟩ => show win0_2.index t (1 : Fin 2) * 1280 + 1 * j.val = _; rw [e1]; show _ = 1280 * (t.val % 2) + j.val; omega

theorem blk3 (t : Fin cfg0.N) (k : Fin 1024) (j : Fin 384) : (iblk m c 3 t : Vec Ideal S1024x384 .bf16) (ix2 k j) = A m c k j := by
  obtain ⟨e0, e1⟩ := (idx_in t).2.2.2.1
  refine Eq.trans (congrArg (V m c main_v10) (a₂ := (ix2 k j : S1024x384.Idx)) ?_) (V_a m c k _)
  funext a
  refine Fin.ext ?_
  match a with
  | ⟨0, _⟩ => show win0_3.index t (0 : Fin 2) * 1024 + 1 * k.val = _; rw [e0]; show _ = k.val; omega
  | ⟨1, _⟩ => show win0_3.index t (1 : Fin 2) * 384 + 1 * j.val = _; rw [e1]; show _ = j.val; omega

/-! What the body computes. -/
theorem norm_apply (t : Fin cfg0.N) (r j : Fin 1024) :
    (k0_pay2 (iblk m c 0 t) (iblk m c 1 t) : Vec Ideal S1024x1024 .bf16) (ix2 r j) = norm (X m c (row t r)) (G m c) j := by
  pointwise [k0_pay2]
  simp only [blk0, blk1]
  rfl

theorem rows_apply (t : Fin cfg0.N) (r j : Fin 1024) : rows m c t (ix2 r j) = norm (X m c (row t r)) (G m c) j := by
  unfold rows k0_pay3
  pointwise []
  rw [norm_apply, row_ev]

theorem o4_apply (t : Fin cfg0.N) (r : Fin 1024) (j : Fin 1280) :
    o4 m c t (ix2 r j) = out (X m c (row t r)) (G m c) (fun k => W m c k (wide (col t j))) := by
  unfold o4
  pointwise [k0_pay1]
  simp only [rows_apply, blk2]
  rfl

theorem aux_apply (t : Fin cfg0.N) (r : Fin 1024) (j : Fin 384) :
    (k0_pay4 (iblk m c 0 (ev t)) (iblk m c 1 (ev t)) (iblk m c 3 (ev t)) : Vec Ideal S1024x384 .f32) (ix2 r j)
      = out (X m c (row t r)) (G m c) (fun k => A m c k j) := by
  pointwise [k0_pay4]
  simp only [norm_apply, blk3, row_ev]
  rfl

theorem o5_apply (t : Fin cfg0.N) (r : Fin 1024) (j : Fin 64) :
    o5 m c t (ix2 r j) = out (X m c (row t r)) (G m c) (fun k => W m c k ⟨512 + j.val, by omega⟩) := by
  unfold o5
  pointwise [k0_pay5]
  refine (aux_apply m c t r _).trans (congrArg (out _ _) (funext fun k => ?_))
  unfold A
  rw [dif_pos (show j.val < 256 by omega)]

theorem o6_apply (t : Fin cfg0.N) (r : Fin 1024) (j : Fin 64) :
    o6 m c t (ix2 r j) = out (X m c (row t r)) (G m c) (fun k => W m c k ⟨576 + j.val, by omega⟩) := by
  unfold o6
  pointwise [k0_pay6]
  refine (aux_apply m c t r _).trans (congrArg (out _ _) (funext fun k => ?_))
  unfold A
  rw [dif_pos (show 64 + j.val < 256 by omega)]
  exact W_at m c k _ _ (by show 512 + (64 + j.val) = 576 + j.val; omega)

theorem o7_apply (t : Fin cfg0.N) (r : Fin 1024) (j : Fin 64) :
    o7 m c t (ix2 r j) = out (X m c (row t r)) (G m c) (fun k => W m c k ⟨640 + j.val, by omega⟩) := by
  unfold o7
  pointwise [k0_pay7]
  refine (aux_apply m c t r _).trans (congrArg (out _ _) (funext fun k => ?_))
  unfold A
  rw [dif_pos (show 128 + j.val < 256 by omega)]
  exact W_at m c k _ _ (by show 512 + (128 + j.val) = 640 + j.val; omega)

theorem o8_apply (t : Fin cfg0.N) (r : Fin 1024) (j : Fin 64) :
    o8 m c t (ix2 r j) = out (X m c (row t r)) (G m c) (fun k => W m c k ⟨704 + j.val, by omega⟩) := by
  unfold o8
  pointwise [k0_pay8]
  refine (aux_apply m c t r _).trans (congrArg (out _ _) (funext fun k => ?_))
  unfold A
  rw [dif_pos (show 192 + j.val < 256 by omega)]
  exact W_at m c k _ _ (by show 512 + (192 + j.val) = 704 + j.val; omega)

theorem o9_apply (t : Fin cfg0.N) (r : Fin 1024) (j : Fin 128) :
    o9 m c t (ix2 r j) = gate (X m c (row t r)) (G m c) (W m c) j := by
  unfold o9
  pointwise [k0_pay9]
  refine (aux_apply m c t r _).trans ?_
  unfold gate
  by_cases h : j.val < 24
  · rw [dif_pos h]
    refine congrArg (out _ _) (funext fun k => ?_)
    unfold A
    rw [dif_neg (show ¬256 + j.val < 256 by omega), dif_pos (show 256 + j.val < 280 by omega)]
    exact W_at m c k _ _ (by show 1024 + (256 + j.val) = 1280 + j.val; omega)
  · rw [dif_neg h]
    refine Finset.sum_eq_zero fun k _ => ?_
    show norm (X m c (row t r)) (G m c) k * A m c k ⟨256 + j.val, by omega⟩ = 0
    unfold A
    rw [dif_neg (show ¬256 + j.val < 256 by omega), dif_neg (show ¬256 + j.val < 280 by omega), mul_zero]

/-! ## The arrays the kernel leaves -/

/-- Result 0. -/
def G4 : Buf (Elt Ideal) ((c : Thread nD τ).loc main_v14_0) := fun i =>
  out (X m c (i 0)) (G m c) (fun k => W m c k (wide (i 1)))

theorem flushed_4 (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after_4]
  obtain ⟨e0, e1⟩ := (idx_in t).2.2.2.2
  funext y
  have hy0 : (y 0).val < 1024 := (y 0).isLt
  have hy1 : (y 1).val < 1280 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 1280 + 1 * (y 1).val := rfl
  have hl : (cfg0.win 4).xinj (grid0.coords t) y = (ix2 ⟨(y 0).val, hy0⟩ ⟨(y 1).val, hy1⟩ : S1024x1280.Idx) := by
    funext a; apply Fin.ext
    match a with
    | ⟨0, _⟩ => rfl
    | ⟨1, _⟩ => rfl
  show o4 m c t ((cfg0.win 4).xinj (grid0.coords t) y) = G4 m c (((cfg0.win 4).blk t).view.emb y)
  rw [hl, o4_apply]
  refine congrArg₂ (fun (a : Fin 16384) (b : Fin 2560) => out (X m c a) (G m c) (fun k => W m c k (wide b))) (Fin.ext ?_) (Fin.ext ?_)
  · rw [hb0, e0]; show 1024 * (t.val / 2) + (y 0).val = _; omega
  · rw [hb1, e1]; show 1280 * (t.val % 2) + (y 1).val = _; omega

theorem final_4 : (dats m 0 c).arrAt 4 cfg0.N = G4 m c :=
  (dats m 0 c).arrAt_eq_of_cover 4 _ (fun t hf => flushed_4 m c t hf) (fun i => by
    have h0 : (i 0).val < 16384 := (i 0).isLt
    have h1 : (i 1).val < 2560 := (i 1).isLt
    have hN : 2 * ((i 0).val / 1024) + (i 1).val / 1280 < cfg0.N := lt_of_lt_of_eq (by omega) N_0.symm
    obtain ⟨e0, e1⟩ := (idx_in ⟨2 * ((i 0).val / 1024) + (i 1).val / 1280, hN⟩).2.2.2.2
    refine ⟨⟨2 * ((i 0).val / 1024) + (i 1).val / 1280, hN⟩, flush0_4 _, ?_⟩
    show i ∈ ((View.whole main_v14_0).slice (win0_4.rect ⟨2 * ((i 0).val / 1024) + (i 1).val / 1280, hN⟩)).set
    rw [View.set_slice_whole, Rect.mem_set_unit]
    intro a
    match a with
    | ⟨0, _⟩ =>
      show win0_4.index ⟨2 * ((i 0).val / 1024) + (i 1).val / 1280, hN⟩ (0 : Fin 2) * 1024 ≤ (i 0).val ∧ (i 0).val < win0_4.index ⟨2 * ((i 0).val / 1024) + (i 1).val / 1280, hN⟩ (0 : Fin 2) * 1024 + 1024
      rw [e0]
      show (2 * ((i 0).val / 1024) + (i 1).val / 1280) / 2 * 1024 ≤ (i 0).val ∧ (i 0).val < (2 * ((i 0).val / 1024) + (i 1).val / 1280) / 2 * 1024 + 1024
      omega
    | ⟨1, _⟩ =>
      show win0_4.index ⟨2 * ((i 0).val / 1024) + (i 1).val / 1280, hN⟩ (1 : Fin 2) * 1280 ≤ (i 1).val ∧ (i 1).val < win0_4.index ⟨2 * ((i 0).val / 1024) + (i 1).val / 1280, hN⟩ (1 : Fin 2) * 1280 + 1280
      rw [e1]
      show ((2 * ((i 0).val / 1024) + (i 1).val / 1280) % 2) * 1280 ≤ (i 1).val ∧ (i 1).val < ((2 * ((i 0).val / 1024) + (i 1).val / 1280) % 2) * 1280 + 1280
      omega)

/-- Result 1. -/
def G5 : Buf (Elt Ideal) ((c : Thread nD τ).loc main_v14_1) := fun i =>
  out (X m c (i 0)) (G m c) (fun k => W m c k ⟨512 + (i 1).val, by have h : (i 1).val < 64 := (i 1).isLt; omega⟩)

theorem flushed_5 (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after_5]
  obtain ⟨e0, e1⟩ := (idx_out t).1
  funext y
  have hy0 : (y 0).val < 1024 := (y 0).isLt
  have hy1 : (y 1).val < 64 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 64 + 1 * (y 1).val := rfl
  have hl : (cfg0.win 5).xinj (grid0.coords t) y = (ix2 ⟨(y 0).val, hy0⟩ ⟨(y 1).val, hy1⟩ : S1024x64.Idx) := by
    funext a; apply Fin.ext
    match a with
    | ⟨0, _⟩ => rfl
    | ⟨1, _⟩ => rfl
  show o5 m c t ((cfg0.win 5).xinj (grid0.coords t) y) = G5 m c (((cfg0.win 5).blk t).view.emb y)
  rw [hl, o5_apply]
  refine congrArg₂ (fun (a : Fin 16384) (b : Fin 64) => out (X m c a) (G m c) (fun k => W m c k ⟨512 + b.val, by omega⟩)) (Fin.ext ?_) (Fin.ext ?_)
  · rw [hb0, e0]; show 1024 * (t.val / 2) + (y 0).val = _; omega
  · rw [hb1, e1]; show (y 1).val = _; omega

theorem final_5 : (dats m 0 c).arrAt 5 cfg0.N = G5 m c :=
  (dats m 0 c).arrAt_eq_of_cover 5 _ (fun t hf => flushed_5 m c t hf) (fun i => by
    have h0 : (i 0).val < 16384 := (i 0).isLt
    have h1 : (i 1).val < 64 := (i 1).isLt
    have hN : 2 * ((i 0).val / 1024) + 1 < cfg0.N := lt_of_lt_of_eq (by omega) N_0.symm
    obtain ⟨e0, e1⟩ := (idx_out ⟨2 * ((i 0).val / 1024) + 1, hN⟩).1
    refine ⟨⟨2 * ((i 0).val / 1024) + 1, hN⟩, (flush0_5 _).mpr (show (2 * ((i 0).val / 1024) + 1) % 2 = 1 by omega), ?_⟩
    show i ∈ ((View.whole main_v14_1).slice (win0_5.rect ⟨2 * ((i 0).val / 1024) + 1, hN⟩)).set
    rw [View.set_slice_whole, Rect.mem_set_unit]
    intro a
    match a with
    | ⟨0, _⟩ =>
      show win0_5.index ⟨2 * ((i 0).val / 1024) + 1, hN⟩ (0 : Fin 2) * 1024 ≤ (i 0).val ∧ (i 0).val < win0_5.index ⟨2 * ((i 0).val / 1024) + 1, hN⟩ (0 : Fin 2) * 1024 + 1024
      rw [e0]
      show (2 * ((i 0).val / 1024) + 1) / 2 * 1024 ≤ (i 0).val ∧ (i 0).val < (2 * ((i 0).val / 1024) + 1) / 2 * 1024 + 1024
      omega
    | ⟨1, _⟩ =>
      show win0_5.index ⟨2 * ((i 0).val / 1024) + 1, hN⟩ (1 : Fin 2) * 64 ≤ (i 1).val ∧ (i 1).val < win0_5.index ⟨2 * ((i 0).val / 1024) + 1, hN⟩ (1 : Fin 2) * 64 + 64
      rw [e1]
      show 0 * 64 ≤ (i 1).val ∧ (i 1).val < 0 * 64 + 64
      omega)

/-- Result 2. -/
def G6 : Buf (Elt Ideal) ((c : Thread nD τ).loc main_v14_2) := fun i =>
  out (X m c (i 0)) (G m c) (fun k => W m c k ⟨576 + (i 1).val, by have h : (i 1).val < 64 := (i 1).isLt; omega⟩)

theorem flushed_6 (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after_6]
  obtain ⟨e0, e1⟩ := (idx_out t).2.1
  funext y
  have hy0 : (y 0).val < 1024 := (y 0).isLt
  have hy1 : (y 1).val < 64 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 64 + 1 * (y 1).val := rfl
  have hl : (cfg0.win 6).xinj (grid0.coords t) y = (ix2 ⟨(y 0).val, hy0⟩ ⟨(y 1).val, hy1⟩ : S1024x64.Idx) := by
    funext a; apply Fin.ext
    match a with
    | ⟨0, _⟩ => rfl
    | ⟨1, _⟩ => rfl
  show o6 m c t ((cfg0.win 6).xinj (grid0.coords t) y) = G6 m c (((cfg0.win 6).blk t).view.emb y)
  rw [hl, o6_apply]
  refine congrArg₂ (fun (a : Fin 16384) (b : Fin 64) => out (X m c a) (G m c) (fun k => W m c k ⟨576 + b.val, by omega⟩)) (Fin.ext ?_) (Fin.ext ?_)
  · rw [hb0, e0]; show 1024 * (t.val / 2) + (y 0).val = _; omega
  · rw [hb1, e1]; show (y 1).val = _; omega

theorem final_6 : (dats m 0 c).arrAt 6 cfg0.N = G6 m c :=
  (dats m 0 c).arrAt_eq_of_cover 6 _ (fun t hf => flushed_6 m c t hf) (fun i => by
    have h0 : (i 0).val < 16384 := (i 0).isLt
    have h1 : (i 1).val < 64 := (i 1).isLt
    have hN : 2 * ((i 0).val / 1024) + 1 < cfg0.N := lt_of_lt_of_eq (by omega) N_0.symm
    obtain ⟨e0, e1⟩ := (idx_out ⟨2 * ((i 0).val / 1024) + 1, hN⟩).2.1
    refine ⟨⟨2 * ((i 0).val / 1024) + 1, hN⟩, (flush0_6 _).mpr (show (2 * ((i 0).val / 1024) + 1) % 2 = 1 by omega), ?_⟩
    show i ∈ ((View.whole main_v14_2).slice (win0_6.rect ⟨2 * ((i 0).val / 1024) + 1, hN⟩)).set
    rw [View.set_slice_whole, Rect.mem_set_unit]
    intro a
    match a with
    | ⟨0, _⟩ =>
      show win0_6.index ⟨2 * ((i 0).val / 1024) + 1, hN⟩ (0 : Fin 2) * 1024 ≤ (i 0).val ∧ (i 0).val < win0_6.index ⟨2 * ((i 0).val / 1024) + 1, hN⟩ (0 : Fin 2) * 1024 + 1024
      rw [e0]
      show (2 * ((i 0).val / 1024) + 1) / 2 * 1024 ≤ (i 0).val ∧ (i 0).val < (2 * ((i 0).val / 1024) + 1) / 2 * 1024 + 1024
      omega
    | ⟨1, _⟩ =>
      show win0_6.index ⟨2 * ((i 0).val / 1024) + 1, hN⟩ (1 : Fin 2) * 64 ≤ (i 1).val ∧ (i 1).val < win0_6.index ⟨2 * ((i 0).val / 1024) + 1, hN⟩ (1 : Fin 2) * 64 + 64
      rw [e1]
      show 0 * 64 ≤ (i 1).val ∧ (i 1).val < 0 * 64 + 64
      omega)

/-- Result 3. -/
def G7 : Buf (Elt Ideal) ((c : Thread nD τ).loc main_v14_3) := fun i =>
  out (X m c (i 0)) (G m c) (fun k => W m c k ⟨640 + (i 1).val, by have h : (i 1).val < 64 := (i 1).isLt; omega⟩)

theorem flushed_7 (t : Fin cfg0.N) (hf : (cfg0.win 7).flush t = true) :
    (dats m 0 c).flushed 7 t = ((cfg0.win 7).blk t).view.read (Elt Ideal) (G7 m c) := by
  show (cfg0.win 7).cut (grid0.coords t) ((dats m 0 c).after 7 t) = _
  rw [after_7]
  obtain ⟨e0, e1⟩ := (idx_out t).2.2.1
  funext y
  have hy0 : (y 0).val < 1024 := (y 0).isLt
  have hy1 : (y 1).val < 64 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 64 + 1 * (y 1).val := rfl
  have hl : (cfg0.win 7).xinj (grid0.coords t) y = (ix2 ⟨(y 0).val, hy0⟩ ⟨(y 1).val, hy1⟩ : S1024x64.Idx) := by
    funext a; apply Fin.ext
    match a with
    | ⟨0, _⟩ => rfl
    | ⟨1, _⟩ => rfl
  show o7 m c t ((cfg0.win 7).xinj (grid0.coords t) y) = G7 m c (((cfg0.win 7).blk t).view.emb y)
  rw [hl, o7_apply]
  refine congrArg₂ (fun (a : Fin 16384) (b : Fin 64) => out (X m c a) (G m c) (fun k => W m c k ⟨640 + b.val, by omega⟩)) (Fin.ext ?_) (Fin.ext ?_)
  · rw [hb0, e0]; show 1024 * (t.val / 2) + (y 0).val = _; omega
  · rw [hb1, e1]; show (y 1).val = _; omega

theorem final_7 : (dats m 0 c).arrAt 7 cfg0.N = G7 m c :=
  (dats m 0 c).arrAt_eq_of_cover 7 _ (fun t hf => flushed_7 m c t hf) (fun i => by
    have h0 : (i 0).val < 16384 := (i 0).isLt
    have h1 : (i 1).val < 64 := (i 1).isLt
    have hN : 2 * ((i 0).val / 1024) + 1 < cfg0.N := lt_of_lt_of_eq (by omega) N_0.symm
    obtain ⟨e0, e1⟩ := (idx_out ⟨2 * ((i 0).val / 1024) + 1, hN⟩).2.2.1
    refine ⟨⟨2 * ((i 0).val / 1024) + 1, hN⟩, (flush0_7 _).mpr (show (2 * ((i 0).val / 1024) + 1) % 2 = 1 by omega), ?_⟩
    show i ∈ ((View.whole main_v14_3).slice (win0_7.rect ⟨2 * ((i 0).val / 1024) + 1, hN⟩)).set
    rw [View.set_slice_whole, Rect.mem_set_unit]
    intro a
    match a with
    | ⟨0, _⟩ =>
      show win0_7.index ⟨2 * ((i 0).val / 1024) + 1, hN⟩ (0 : Fin 2) * 1024 ≤ (i 0).val ∧ (i 0).val < win0_7.index ⟨2 * ((i 0).val / 1024) + 1, hN⟩ (0 : Fin 2) * 1024 + 1024
      rw [e0]
      show (2 * ((i 0).val / 1024) + 1) / 2 * 1024 ≤ (i 0).val ∧ (i 0).val < (2 * ((i 0).val / 1024) + 1) / 2 * 1024 + 1024
      omega
    | ⟨1, _⟩ =>
      show win0_7.index ⟨2 * ((i 0).val / 1024) + 1, hN⟩ (1 : Fin 2) * 64 ≤ (i 1).val ∧ (i 1).val < win0_7.index ⟨2 * ((i 0).val / 1024) + 1, hN⟩ (1 : Fin 2) * 64 + 64
      rw [e1]
      show 0 * 64 ≤ (i 1).val ∧ (i 1).val < 0 * 64 + 64
      omega)

/-- Result 4. -/
def G8 : Buf (Elt Ideal) ((c : Thread nD τ).loc main_v14_4) := fun i =>
  out (X m c (i 0)) (G m c) (fun k => W m c k ⟨704 + (i 1).val, by have h : (i 1).val < 64 := (i 1).isLt; omega⟩)

theorem flushed_8 (t : Fin cfg0.N) (hf : (cfg0.win 8).flush t = true) :
    (dats m 0 c).flushed 8 t = ((cfg0.win 8).blk t).view.read (Elt Ideal) (G8 m c) := by
  show (cfg0.win 8).cut (grid0.coords t) ((dats m 0 c).after 8 t) = _
  rw [after_8]
  obtain ⟨e0, e1⟩ := (idx_out t).2.2.2.1
  funext y
  have hy0 : (y 0).val < 1024 := (y 0).isLt
  have hy1 : (y 1).val < 64 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 64 + 1 * (y 1).val := rfl
  have hl : (cfg0.win 8).xinj (grid0.coords t) y = (ix2 ⟨(y 0).val, hy0⟩ ⟨(y 1).val, hy1⟩ : S1024x64.Idx) := by
    funext a; apply Fin.ext
    match a with
    | ⟨0, _⟩ => rfl
    | ⟨1, _⟩ => rfl
  show o8 m c t ((cfg0.win 8).xinj (grid0.coords t) y) = G8 m c (((cfg0.win 8).blk t).view.emb y)
  rw [hl, o8_apply]
  refine congrArg₂ (fun (a : Fin 16384) (b : Fin 64) => out (X m c a) (G m c) (fun k => W m c k ⟨704 + b.val, by omega⟩)) (Fin.ext ?_) (Fin.ext ?_)
  · rw [hb0, e0]; show 1024 * (t.val / 2) + (y 0).val = _; omega
  · rw [hb1, e1]; show (y 1).val = _; omega

theorem final_8 : (dats m 0 c).arrAt 8 cfg0.N = G8 m c :=
  (dats m 0 c).arrAt_eq_of_cover 8 _ (fun t hf => flushed_8 m c t hf) (fun i => by
    have h0 : (i 0).val < 16384 := (i 0).isLt
    have h1 : (i 1).val < 64 := (i 1).isLt
    have hN : 2 * ((i 0).val / 1024) + 1 < cfg0.N := lt_of_lt_of_eq (by omega) N_0.symm
    obtain ⟨e0, e1⟩ := (idx_out ⟨2 * ((i 0).val / 1024) + 1, hN⟩).2.2.2.1
    refine ⟨⟨2 * ((i 0).val / 1024) + 1, hN⟩, (flush0_8 _).mpr (show (2 * ((i 0).val / 1024) + 1) % 2 = 1 by omega), ?_⟩
    show i ∈ ((View.whole main_v14_4).slice (win0_8.rect ⟨2 * ((i 0).val / 1024) + 1, hN⟩)).set
    rw [View.set_slice_whole, Rect.mem_set_unit]
    intro a
    match a with
    | ⟨0, _⟩ =>
      show win0_8.index ⟨2 * ((i 0).val / 1024) + 1, hN⟩ (0 : Fin 2) * 1024 ≤ (i 0).val ∧ (i 0).val < win0_8.index ⟨2 * ((i 0).val / 1024) + 1, hN⟩ (0 : Fin 2) * 1024 + 1024
      rw [e0]
      show (2 * ((i 0).val / 1024) + 1) / 2 * 1024 ≤ (i 0).val ∧ (i 0).val < (2 * ((i 0).val / 1024) + 1) / 2 * 1024 + 1024
      omega
    | ⟨1, _⟩ =>
      show win0_8.index ⟨2 * ((i 0).val / 1024) + 1, hN⟩ (1 : Fin 2) * 64 ≤ (i 1).val ∧ (i 1).val < win0_8.index ⟨2 * ((i 0).val / 1024) + 1, hN⟩ (1 : Fin 2) * 64 + 64
      rw [e1]
      show 0 * 64 ≤ (i 1).val ∧ (i 1).val < 0 * 64 + 64
      omega)

/-- Result 5. -/
def G9 : Buf (Elt Ideal) ((c : Thread nD τ).loc main_v14_5) := fun i =>
  gate (X m c (i 0)) (G m c) (W m c) (i 1)

theorem flushed_9 (t : Fin cfg0.N) (hf : (cfg0.win 9).flush t = true) :
    (dats m 0 c).flushed 9 t = ((cfg0.win 9).blk t).view.read (Elt Ideal) (G9 m c) := by
  show (cfg0.win 9).cut (grid0.coords t) ((dats m 0 c).after 9 t) = _
  rw [after_9]
  obtain ⟨e0, e1⟩ := (idx_out t).2.2.2.2
  funext y
  have hy0 : (y 0).val < 1024 := (y 0).isLt
  have hy1 : (y 1).val < 128 := (y 1).isLt
  have hb0 : (((cfg0.win 9).blk t).view.emb y 0).val = win0_9.index t (0 : Fin 2) * 1024 + 1 * (y 0).val := rfl
  have hb1 : (((cfg0.win 9).blk t).view.emb y 1).val = win0_9.index t (1 : Fin 2) * 128 + 1 * (y 1).val := rfl
  have hl : (cfg0.win 9).xinj (grid0.coords t) y = (ix2 ⟨(y 0).val, hy0⟩ ⟨(y 1).val, hy1⟩ : S1024x128.Idx) := by
    funext a; apply Fin.ext
    match a with
    | ⟨0, _⟩ => rfl
    | ⟨1, _⟩ => rfl
  show o9 m c t ((cfg0.win 9).xinj (grid0.coords t) y) = G9 m c (((cfg0.win 9).blk t).view.emb y)
  rw [hl, o9_apply]
  refine congrArg₂ (fun (a : Fin 16384) (b : Fin 128) => gate (X m c a) (G m c) (W m c) b) (Fin.ext ?_) (Fin.ext ?_)
  · rw [hb0, e0]; show 1024 * (t.val / 2) + (y 0).val = _; omega
  · rw [hb1, e1]; show (y 1).val = _; omega

theorem final_9 : (dats m 0 c).arrAt 9 cfg0.N = G9 m c :=
  (dats m 0 c).arrAt_eq_of_cover 9 _ (fun t hf => flushed_9 m c t hf) (fun i => by
    have h0 : (i 0).val < 16384 := (i 0).isLt
    have h1 : (i 1).val < 128 := (i 1).isLt
    have hN : 2 * ((i 0).val / 1024) + 1 < cfg0.N := lt_of_lt_of_eq (by omega) N_0.symm
    obtain ⟨e0, e1⟩ := (idx_out ⟨2 * ((i 0).val / 1024) + 1, hN⟩).2.2.2.2
    refine ⟨⟨2 * ((i 0).val / 1024) + 1, hN⟩, (flush0_9 _).mpr (show (2 * ((i 0).val / 1024) + 1) % 2 = 1 by omega), ?_⟩
    show i ∈ ((View.whole main_v14_5).slice (win0_9.rect ⟨2 * ((i 0).val / 1024) + 1, hN⟩)).set
    rw [View.set_slice_whole, Rect.mem_set_unit]
    intro a
    match a with
    | ⟨0, _⟩ =>
      show win0_9.index ⟨2 * ((i 0).val / 1024) + 1, hN⟩ (0 : Fin 2) * 1024 ≤ (i 0).val ∧ (i 0).val < win0_9.index ⟨2 * ((i 0).val / 1024) + 1, hN⟩ (0 : Fin 2) * 1024 + 1024
      rw [e0]
      show (2 * ((i 0).val / 1024) + 1) / 2 * 1024 ≤ (i 0).val ∧ (i 0).val < (2 * ((i 0).val / 1024) + 1) / 2 * 1024 + 1024
      omega
    | ⟨1, _⟩ =>
      show win0_9.index ⟨2 * ((i 0).val / 1024) + 1, hN⟩ (1 : Fin 2) * 128 ≤ (i 1).val ∧ (i 1).val < win0_9.index ⟨2 * ((i 0).val / 1024) + 1, hN⟩ (1 : Fin 2) * 128 + 128
      rw [e1]
      show 0 * 128 ≤ (i 1).val ∧ (i 1).val < 0 * 128 + 128
      omega)

/-- Every execution ends with the six results at these arrays and the arguments unchanged. -/
theorem run : θ_run defs (onTc (τ := τ) (main (F := Ideal))) ⟨m, fun _ => 0, ρ⟩ fun r => ∀ c : Dev nD,
      r.2.mem ((c : Thread nD τ).loc main_v14_0) = G4 m c
      ∧ r.2.mem ((c : Thread nD τ).loc main_v14_1) = G5 m c
      ∧ r.2.mem ((c : Thread nD τ).loc main_v14_2) = G6 m c
      ∧ r.2.mem ((c : Thread nD τ).loc main_v14_3) = G7 m c
      ∧ r.2.mem ((c : Thread nD τ).loc main_v14_4) = G8 m c
      ∧ r.2.mem ((c : Thread nD τ).loc main_v14_5) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final_4 m c), ((h c).1 5).trans (final_5 m c), ((h c).1 6).trans (final_6 m c),
      ((h c).1 7).trans (final_7 m c), ((h c).1 8).trans (final_8 m c), ((h c).1 9).trans (final_9 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel5Ideal.Even
-- ==== Proof.ProjRef5.lean ====
/- The reference's results of the even layer's input projection, read at an index. -/
module

public import proofs.«01_k».proof.Proof.Gen.Reference5Ideal.Read
public import proofs.«01_k».proof.Proof.EvenSpec

@[expose] public section

set_option maxRecDepth 16384

noncomputable section

namespace Cert.Reference5Ideal.Proj

open Cert.Reference5Ideal Cert.Reference5Ideal.Gen Cert.Reference5Ideal.Read Idealize.ShloMosaic Idealize.ShloMosaic.TcCoe Idealize.SL.Sem
open Cert.Proj (norm out wide gate)

variable (x0 : Vec Ideal S16384x1024 .f32) (x1 : Vec Ideal S2x1024 .f32) (x2 : Vec Ideal S1x1024x2840 .f32)

theorem norm_apply (q : Fin 16384) (j : Fin 1024) :
    val_main_v14 x0 x1 (ix2 q j) = norm (fun j => x0 (ix2 q j)) (fun j => x1 (ix2 0 j)) j := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [] <;> rfl

/-- A column of the whole projection. -/
theorem out_apply (q : Fin 16384) (j : Fin 2840) :
    val_main_v16 x0 x1 x2 (ix2 q j) = out (fun j => x0 (ix2 q j)) (fun j => x1 (ix2 0 j)) (fun k => x2 (ix3 0 k j)) := by
  unfold val_main_v16 val_main_v15
  pointwise []
  simp only [norm_apply]
  rfl

/-- The same column, named otherwise. -/
theorem out_at (q : Fin 16384) (j j' : Fin 2840) (h : j.val = j'.val) :
    val_main_v16 x0 x1 x2 (ix2 q j) = out (fun j => x0 (ix2 q j)) (fun j => x1 (ix2 0 j)) (fun k => x2 (ix3 0 k j')) := by
  rw [show j = j' from Fin.ext h, out_apply]

/-! The two halves of the compressed keys and values. -/
theorem aux_0 (q : Fin 16384) (j : Fin 64) :
    val_main_v30 x0 x1 x2 (ix2 q j) = out (fun j => x0 (ix2 q j)) (fun j => x1 (ix2 0 j)) (fun k => x2 (ix3 0 k ⟨512 + j.val, by omega⟩)) := by
  unfold val_main_v30 val_main_v18
  pointwise []
  exact out_at x0 x1 x2 q _ _ rfl
theorem aux_1 (q : Fin 16384) (j : Fin 64) :
    val_main_v31 x0 x1 x2 (ix2 q j) = out (fun j => x0 (ix2 q j)) (fun j => x1 (ix2 0 j)) (fun k => x2 (ix3 0 k ⟨576 + j.val, by omega⟩)) := by
  unfold val_main_v31 val_main_v18
  pointwise []
  exact out_at x0 x1 x2 q _ _ (by show 512 + (64 + j.val) = 576 + j.val; omega)
theorem aux_2 (q : Fin 16384) (j : Fin 64) :
    val_main_v32 x0 x1 x2 (ix2 q j) = out (fun j => x0 (ix2 q j)) (fun j => x1 (ix2 0 j)) (fun k => x2 (ix3 0 k ⟨640 + j.val, by omega⟩)) := by
  unfold val_main_v32 val_main_v19
  pointwise []
  exact out_at x0 x1 x2 q _ _ rfl
theorem aux_3 (q : Fin 16384) (j : Fin 64) :
    val_main_v33 x0 x1 x2 (ix2 q j) = out (fun j => x0 (ix2 q j)) (fun j => x1 (ix2 0 j)) (fun k => x2 (ix3 0 k ⟨704 + j.val, by omega⟩)) := by
  unfold val_main_v33 val_main_v19
  pointwise []
  exact out_at x0 x1 x2 q _ _ (by show 640 + (64 + j.val) = 704 + j.val; omega)

/-- The gates. -/
theorem gate_apply (q : Fin 16384) (j : Fin 128) :
    val_main_v34 x0 x1 x2 (ix2 q j) = gate (fun j => x0 (ix2 q j)) (fun j => x1 (ix2 0 j)) (fun k j => x2 (ix3 0 k j)) j := by
  unfold val_main_v34 val_main_v24 val_main_call0_v0 val_main_c
  pointwise []
  unfold gate
  by_cases h : j.val < 24
  · rw [dif_pos h, dif_pos h]
    exact out_at x0 x1 x2 q _ _ rfl
  · rw [dif_neg h, dif_neg h]
    show ((((0#32 : BitVec 32).toInt : ℤ) : ℝ) : EReal) = 0
    rw [show (0#32 : BitVec 32).toInt = 0 from by decide]
    simp

/-- The wide result. -/
theorem wide_apply (q : Fin 16384) (j : Fin 2560) :
    val_main_v29 x0 x1 x2 (ix2 q j) = out (fun j => x0 (ix2 q j)) (fun j => x1 (ix2 0 j)) (fun k => x2 (ix3 0 k (wide j))) := by
  unfold val_main_v29 val_main_v28 val_main_v17 val_main_v20 val_main_v21 val_main_v22 val_main_v23 val_main_v25 val_main_v26 val_main_v27
  pointwise []
  have hj := j.isLt
  repeat' split
  all_goals
    refine out_at x0 x1 x2 q _ _ ?_
    unfold wide
    dsimp only
    repeat' split
    all_goals omega

end Cert.Reference5Ideal.Proj
-- ==== Proof.ProjAlg5.lean ====
/- The even layer's projection: the kernel's arrays are the reference's arrays. -/
module

public import proofs.«01_k».proof.Defs
public import proofs.«01_k».proof.Proof.Even5
public import proofs.«01_k».proof.Proof.Even5V
public import proofs.«01_k».proof.Proof.ProjRef5

@[expose] public section

set_option maxRecDepth 16384

noncomputable section

namespace Cert.ProjAlg5

open Idealize.ShloMosaic Idealize.ShloMosaic.TcCoe Idealize.SL.Sem

/-- The two memories hold the same arguments on device `c`. -/
abbrev Same (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD) : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
    ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
    ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-! From memories that agree on the arguments each result of the reference is the array the kernel leaves. -/
theorem result_4 (h : Same m m' c) :
    (Cert.Reference5Ideal.Read.val_main_v29 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) : Vec Ideal Cert.Kernel5Ideal.S16384x2560 .bf16) = Cert.Kernel5Ideal.Even.G4 m c := by
  obtain ⟨h0, h1, h2⟩ := h
  rw [h0, h1, h2]
  funext i
  idx_vars i
  exact Cert.Reference5Ideal.Proj.wide_apply _ _ _ _ _
theorem result_5 (h : Same m m' c) :
    (Cert.Reference5Ideal.Read.val_main_v30 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) : Vec Ideal Cert.Kernel5Ideal.S16384x64 .f32) = Cert.Kernel5Ideal.Even.G5 m c := by
  obtain ⟨h0, h1, h2⟩ := h
  rw [h0, h1, h2]
  funext i
  idx_vars i
  exact Cert.Reference5Ideal.Proj.aux_0 _ _ _ _ _
theorem result_6 (h : Same m m' c) :
    (Cert.Reference5Ideal.Read.val_main_v31 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) : Vec Ideal Cert.Kernel5Ideal.S16384x64 .f32) = Cert.Kernel5Ideal.Even.G6 m c := by
  obtain ⟨h0, h1, h2⟩ := h
  rw [h0, h1, h2]
  funext i
  idx_vars i
  exact Cert.Reference5Ideal.Proj.aux_1 _ _ _ _ _
theorem result_7 (h : Same m m' c) :
    (Cert.Reference5Ideal.Read.val_main_v32 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) : Vec Ideal Cert.Kernel5Ideal.S16384x64 .f32) = Cert.Kernel5Ideal.Even.G7 m c := by
  obtain ⟨h0, h1, h2⟩ := h
  rw [h0, h1, h2]
  funext i
  idx_vars i
  exact Cert.Reference5Ideal.Proj.aux_2 _ _ _ _ _
theorem result_8 (h : Same m m' c) :
    (Cert.Reference5Ideal.Read.val_main_v33 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) : Vec Ideal Cert.Kernel5Ideal.S16384x64 .f32) = Cert.Kernel5Ideal.Even.G8 m c := by
  obtain ⟨h0, h1, h2⟩ := h
  rw [h0, h1, h2]
  funext i
  idx_vars i
  exact Cert.Reference5Ideal.Proj.aux_3 _ _ _ _ _
theorem result_9 (h : Same m m' c) :
    (Cert.Reference5Ideal.Read.val_main_v34 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) : Vec Ideal Cert.Kernel5Ideal.S16384x128 .f32) = Cert.Kernel5Ideal.Even.G9 m c := by
  obtain ⟨h0, h1, h2⟩ := h
  rw [h0, h1, h2]
  funext i
  idx_vars i
  exact Cert.Reference5Ideal.Proj.gate_apply _ _ _ _ _

/-- The kernel at the machine's floats and over the extended reals, and the reference: each runs to its end, its arguments
end unchanged, every counter at zero. -/
theorem frame_k : Cert.quiescent_Kernel5 := fun m ρ _ => Cert.Kernel5.Even.frame m ρ
theorem frame_ki : Cert.quiescent_Kernel5Ideal := fun m ρ _ => Cert.Kernel5Ideal.Even.frame m ρ
theorem frame_r : Cert.quiescent_Reference5Ideal := fun m ρ _ =>
  (θ_run _ _ _).mono (fun r h => ⟨fun c => (h c).2.2.2.2.2.2, Idealize.ShloMosaic.sem_eq_zero_of_no_sems (by decide) r.2⟩) (Cert.Reference5Ideal.Value.run (F := Ideal) m ρ)

/-- The two programs leave equal results and unchanged arguments. -/
theorem algebraic : Cert.algebraic_Kernel5Ideal_Reference5Ideal := fun m ρ m' ρ' _ hag =>
  ⟨fun c => Cert.Kernel5Ideal.Even.G4 m c, fun c => Cert.Kernel5Ideal.Even.G5 m c, fun c => Cert.Kernel5Ideal.Even.G6 m c, fun c => Cert.Kernel5Ideal.Even.G7 m c, fun c => Cert.Kernel5Ideal.Even.G8 m c, fun c => Cert.Kernel5Ideal.Even.G9 m c, Cert.Kernel5Ideal.Even.run m ρ,
    (θ_run _ _ _).mono (fun r h c => by
      obtain ⟨h0, h1, h2, h3, h4, h5, ha⟩ := h c
      exact ⟨h0.trans ((Cert.Reference5Ideal.Read.val_main_v29_eq (F := Ideal) _ _).trans (result_4 m m' c (hag c))),
        h1.trans ((Cert.Reference5Ideal.Read.val_main_v30_eq (F := Ideal) _ _ _).trans (result_5 m m' c (hag c))),
        h2.trans ((Cert.Reference5Ideal.Read.val_main_v31_eq (F := Ideal) _ _ _).trans (result_6 m m' c (hag c))),
        h3.trans ((Cert.Reference5Ideal.Read.val_main_v32_eq (F := Ideal) _ _ _).trans (result_7 m m' c (hag c))),
        h4.trans ((Cert.Reference5Ideal.Read.val_main_v33_eq (F := Ideal) _ _ _).trans (result_8 m m' c (hag c))),
        h5.trans ((Cert.Reference5Ideal.Read.val_main_v34_eq (F := Ideal) _ _ _).trans (result_9 m m' c (hag c))),
        ha⟩) (Cert.Reference5Ideal.Value.run m' ρ')⟩

end Cert.ProjAlg5
-- ==== Proof.lean ====
module

public import proofs.«01_k».proof.Defs
public import proofs.«01_k».proof.Proof.DiffAlg
public import proofs.«01_k».proof.Proof.Gen.Kernel2.Frame
public import proofs.«01_k».proof.Proof.PostAlg2
public import proofs.«01_k».proof.Proof.Gen.Kernel3.Frame
public import proofs.«01_k».proof.Proof.PostAlg3
public import proofs.«01_k».proof.Proof.Gen.Kernel4.Frame
public import proofs.«01_k».proof.Proof.ProjAlg4
public import proofs.«01_k».proof.Proof.ProjAlg5
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.DiffAlg.pre_facts,
  Cert.DiffAlg.frame_k, Cert.DiffAlg.frame_ki, @Cert.DiffAlg.frame_ki_pre Cert.DiffAlg.pre_facts, Cert.DiffAlg.frame_r, @Cert.DiffAlg.frame_r_pre Cert.DiffAlg.pre_facts,
  fun m ρ _ => Cert.Kernel2.Gen.frame m ρ, fun m ρ _ => Cert.Kernel2Ideal.Gen.frame m ρ, Cert.PostAlg2.frame_r,
  fun m ρ _ => Cert.Kernel3.Gen.frame m ρ, fun m ρ _ => Cert.Kernel3Ideal.Gen.frame m ρ, Cert.PostAlg3.frame_r,
  fun m ρ _ => Cert.Kernel4.Gen.frame m ρ, fun m ρ _ => Cert.Kernel4Ideal.Gen.frame m ρ, Cert.ProjAlg4.frame_r,
  Cert.ProjAlg5.frame_k, Cert.ProjAlg5.frame_ki, Cert.ProjAlg5.frame_r,
  Cert.DiffAlg.preserves, @Cert.DiffAlg.algebraic Cert.DiffAlg.pre_facts, trivial, Cert.PostAlg2.algebraic, trivial, Cert.PostAlg3.algebraic, trivial, Cert.ProjAlg4.algebraic, trivial, Cert.ProjAlg5.algebraic⟩

end Cert.Proof

end
